-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v44) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v20) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v49) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v60) = v0 c
          ∧ r.2.mem ((c.tc : Thread Cert.Reference13Ideal.nD Cert.Reference13Ideal.τ).loc Cert.Reference13Ideal.main_v64) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v48) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v51) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v245) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Kernel.lean ====
abbrev S24576x4096 : Shape := ⟨2, ![24576, 4096]⟩
abbrev S16384x4096 : Shape := ⟨2, ![16384, 4096]⟩
abbrev S8x128x24576 : Shape := ⟨3, ![8, 128, 24576]⟩
abbrev S8x24576 : Shape := ⟨2, ![8, 24576]⟩
abbrev S512x4096 : Shape := ⟨2, ![512, 4096]⟩
abbrev S8x128x512 : Shape := ⟨3, ![8, 128, 512]⟩
abbrev S8x512 : Shape := ⟨2, ![8, 512]⟩
abbrev S512x512 : Shape := ⟨2, ![512, 512]⟩
abbrev S1x128x512 : Shape := ⟨3, ![1, 128, 512]⟩
abbrev S128x512 : Shape := ⟨2, ![128, 512]⟩
abbrev S1x512 : Shape := ⟨2, ![1, 512]⟩
abbrev S1x1x512 : Shape := ⟨3, ![1, 1, 512]⟩
abbrev S512x128 : Shape := ⟨2, ![512, 128]⟩
abbrev S512x1024 : Shape := ⟨2, ![512, 1024]⟩

abbrev nBuf : Space → Nat
  | .hbm => 11
  | .vmem => 15
  | .smem => 0
  | _ => 0

abbrev bufTy : (tb : Table) → Fin (tcTables nBuf tb) → BufTy
  | .hbm, ⟨0, _⟩ => ⟨S24576x4096, .bf16⟩
  | .hbm, ⟨1, _⟩ => ⟨S16384x4096, .f32⟩
  | .hbm, ⟨2, _⟩ => ⟨S16384x4096, .f32⟩
  | .hbm, ⟨3, _⟩ => ⟨S8x128x24576, .f32⟩
  | .hbm, ⟨4, _⟩ => ⟨S8x128x24576, .f32⟩
  | .hbm, ⟨5, _⟩ => ⟨S8x24576, .f32⟩
  | .hbm, ⟨6, _⟩ => ⟨S8x24576, .f32⟩
  | .hbm, ⟨7, _⟩ => ⟨S8x24576, .f32⟩
  | .hbm, ⟨8, _⟩ => ⟨S16384x4096, .bf16⟩
  | .hbm, ⟨9, _⟩ => ⟨S16384x4096, .bf16⟩
  | .hbm, ⟨10, _⟩ => ⟨S24576x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S8x128x512, .f32⟩
  | .local _ .vmem, ⟨6, _⟩ => ⟨S8x128x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S512x4096, .f32⟩
  | .local _ .vmem, ⟨11, _⟩ => ⟨S512x4096, .f32⟩
  | .local _ .vmem, ⟨12, _⟩ => ⟨S512x512, .f32⟩
  | .local _ .vmem, ⟨13, _⟩ => ⟨S512x512, .bf16⟩
  | .local _ .vmem, ⟨14, _⟩ => ⟨S8x128x512, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![48, 32], ![false, false]⟩

def k0_off1 (i : grid0.Coords) (c0_i32_6 : BitVec 32) : Fin 3 → Nat :=
  let c0_7 : Index := 0#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v12 : Index := Scalar.indexCast v11
  let c0_8 : Index := 0#32
  ![0, v12.toNat, 0]
def k0_off2 (i : grid0.Coords) (c0_i32_6 : BitVec 32) : Fin 3 → Nat :=
  let c1 : Index := 1#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v31 : Index := Scalar.indexCast v11
  let c0_20 : Index := 0#32
  ![1, v31.toNat, 0]
def k0_off3 (i : grid0.Coords) (c0_i32_6 : BitVec 32) : Fin 3 → Nat :=
  let c2 : Index := 2#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v51 : Index := Scalar.indexCast v11
  let c0_32 : Index := 0#32
  ![2, v51.toNat, 0]
def k0_off4 (i : grid0.Coords) (c0_i32_6 : BitVec 32) : Fin 3 → Nat :=
  let c3 : Index := 3#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v71 : Index := Scalar.indexCast v11
  let c0_44 : Index := 0#32
  ![3, v71.toNat, 0]
def k0_off5 (i : grid0.Coords) (c0_i32_6 : BitVec 32) : Fin 3 → Nat :=
  let c4 : Index := 4#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v91 : Index := Scalar.indexCast v11
  let c0_56 : Index := 0#32
  ![4, v91.toNat, 0]
def k0_off6 (i : grid0.Coords) (c0_i32_6 : BitVec 32) : Fin 3 → Nat :=
  let c5 : Index := 5#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v111 : Index := Scalar.indexCast v11
  let c0_68 : Index := 0#32
  ![5, v111.toNat, 0]
def k0_off7 (i : grid0.Coords) (c0_i32_6 : BitVec 32) : Fin 3 → Nat :=
  let c6 : Index := 6#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v131 : Index := Scalar.indexCast v11
  let c0_80 : Index := 0#32
  ![6, v131.toNat, 0]
def k0_off8 (i : grid0.Coords) (c0_i32_6 : BitVec 32) : Fin 3 → Nat :=
  let c7 : Index := 7#32
  let arg1 : BitVec 32 := BitVec.ofNat 32 (i 1).val
  let c4_i32 : BitVec 32 := 4#32
  let v10 : BitVec 32 := Scalar.muli arg1 c4_i32
  let v11 : BitVec 32 := Scalar.addi v10 c0_i32_6
  let v151 : Index := Scalar.indexCast v11
  let c0_92 : Index := 0#32
  ![7, v151.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S24576x4096 : Shape := ⟨2, ![24576, 4096]⟩
abbrev S16384x4096 : Shape := ⟨2, ![16384, 4096]⟩
abbrev S8x128x24576 : Shape := ⟨3, ![8, 128, 24576]⟩
abbrev S8x24576 : Shape := ⟨2, ![8, 24576]⟩
abbrev S8x128x1x24576 : Shape := ⟨4, ![8, 128, 1, 24576]⟩
abbrev S8x1x128x24576 : Shape := ⟨4, ![8, 1, 128, 24576]⟩
abbrev S8x128x128x24576 : Shape := ⟨4, ![8, 128, 128, 24576]⟩
abbrev S8x1x1x24576 : Shape := ⟨4, ![8, 1, 1, 24576]⟩
abbrev S_ : Shape := ⟨0, ![]⟩
abbrev S128x128x24576 : Shape := ⟨3, ![128, 128, 24576]⟩
abbrev S16384x24576 : Shape := ⟨2, ![16384, 24576]⟩

abbrev nBuf : Space → Nat
  | .hbm => 45
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S16384x4096, .f32⟩
  | .hbm, ⟨2, _⟩ => ⟨S16384x4096, .f32⟩
  | .hbm, ⟨3, _⟩ => ⟨S8x128x24576, .f32⟩
  | .hbm, ⟨4, _⟩ => ⟨S8x128x24576, .f32⟩
  | .hbm, ⟨5, _⟩ => ⟨S8x24576, .f32⟩
  | .hbm, ⟨6, _⟩ => ⟨S8x24576, .f32⟩
  | .hbm, ⟨7, _⟩ => ⟨S8x24576, .f32⟩
  | .hbm, ⟨8, _⟩ => ⟨S8x128x1x24576, .f32⟩
  | .hbm, ⟨9, _⟩ => ⟨S8x1x128x24576, .f32⟩
  | .hbm, ⟨10, _⟩ => ⟨S8x128x128x24576, .f32⟩
  | .hbm, ⟨11, _⟩ => ⟨S8x128x128x24576, .f32⟩
  | .hbm, ⟨12, _⟩ => ⟨S8x128x128x24576, .f32⟩
  | .hbm, ⟨13, _⟩ => ⟨S8x1x1x24576, .f32⟩
  | .hbm, ⟨14, _⟩ => ⟨S8x128x128x24576, .f32⟩
  | .hbm, ⟨15, _⟩ => ⟨S8x128x128x24576, .i1⟩
  | .hbm, ⟨16, _⟩ => ⟨S8x1x1x24576, .f32⟩
  | .hbm, ⟨17, _⟩ => ⟨S8x128x128x24576, .f32⟩
  | .hbm, ⟨18, _⟩ => ⟨S8x128x128x24576, .f32⟩
  | .hbm, ⟨19, _⟩ => ⟨S8x1x1x24576, .f32⟩
  | .hbm, ⟨20, _⟩ => ⟨S8x128x128x24576, .f32⟩
  | .hbm, ⟨21, _⟩ => ⟨S8x128x128x24576, .f32⟩
  | .hbm, ⟨22, _⟩ => ⟨S8x128x128x24576, .f32⟩
  | .hbm, ⟨23, _⟩ => ⟨S_, .f32⟩
  | .hbm, ⟨24, _⟩ => ⟨S_, .f32⟩
  | .hbm, ⟨25, _⟩ => ⟨S8x128x128x24576, .f32⟩
  | .hbm, ⟨26, _⟩ => ⟨S8x128x128x24576, .f32⟩
  | .hbm, ⟨27, _⟩ => ⟨S_, .f32⟩
  | .hbm, ⟨28, _⟩ => ⟨S128x128x24576, .f32⟩
  | .hbm, ⟨29, _⟩ => ⟨S16384x24576, .f32⟩
  | .hbm, ⟨30, _⟩ => ⟨S24576x4096, .f32⟩
  | .hbm, ⟨31, _⟩ => ⟨S16384x24576, .f32⟩
  | .hbm, ⟨32, _⟩ => ⟨S_, .f32⟩
  | .hbm, ⟨33, _⟩ => ⟨S16384x24576, .f32⟩
  | .hbm, ⟨34, _⟩ => ⟨S16384x24576, .f32⟩
  | .hbm, ⟨35, _⟩ => ⟨S_, .f32⟩
  | .hbm, ⟨36, _⟩ => ⟨S16384x24576, .f32⟩
  | .hbm, ⟨37, _⟩ => ⟨S16384x24576, .f32⟩
  | .hbm, ⟨38, _⟩ => ⟨S16384x24576, .f32⟩
  | .hbm, ⟨39, _⟩ => ⟨S_, .f32⟩
  | .hbm, ⟨40, _⟩ => ⟨S16384x24576, .f32⟩
  | .hbm, ⟨41, _⟩ => ⟨S16384x24576, .f32⟩
  | .hbm, ⟨42, _⟩ => ⟨S16384x24576, .f32⟩
  | .hbm, ⟨43, _⟩ => ⟨S16384x24576, .f32⟩
  | .hbm, ⟨44, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel2.lean ====
abbrev S24576x4096 : Shape := ⟨2, ![24576, 4096]⟩
abbrev S4096x12288 : Shape := ⟨2, ![4096, 12288]⟩
abbrev S1x4096x12288 : Shape := ⟨3, ![1, 4096, 12288]⟩
abbrev S24576x12288 : Shape := ⟨2, ![24576, 12288]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x12288, .f32⟩
  | .hbm, ⟨2, _⟩ => ⟨S4096x12288, .bf16⟩
  | .hbm, ⟨3, _⟩ => ⟨S1x4096x12288, .bf16⟩
  | .hbm, ⟨4, _⟩ => ⟨S24576x12288, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 24, 12, 8], ![false, false, false, false]⟩

def k0_cond2 (i : grid0.Coords) : BitVec 1 :=
  let arg3 : BitVec 32 := BitVec.ofNat 32 (i 3).val
  let c7_i32 : BitVec 32 := 7#32
  let v12 : BitVec 1 := Scalar.cmpi .eq arg3 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c12_i32 : BitVec 32 := 12#32
  let v0 : BitVec 32 := Scalar.muli arg0 c12_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference2Ideal.lean ====
abbrev S24576x4096 : Shape := ⟨2, ![24576, 4096]⟩
abbrev S4096x12288 : Shape := ⟨2, ![4096, 12288]⟩
abbrev S24576x12288 : Shape := ⟨2, ![24576, 12288]⟩

abbrev nBuf : Space → Nat
  | .hbm => 4
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x12288, .f32⟩
  | .hbm, ⟨2, _⟩ => ⟨S24576x4096, .f32⟩
  | .hbm, ⟨3, _⟩ => ⟨S24576x12288, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S24576x4096 : Shape := ⟨2, ![24576, 4096]⟩
abbrev S4096x16512 : Shape := ⟨2, ![4096, 16512]⟩
abbrev S4096x16384 : Shape := ⟨2, ![4096, 16384]⟩
abbrev S1x4096x16384 : Shape := ⟨3, ![1, 4096, 16384]⟩
abbrev S24576x16384 : Shape := ⟨2, ![24576, 16384]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x16512, .f32⟩
  | .hbm, ⟨2, _⟩ => ⟨S4096x16384, .f32⟩
  | .hbm, ⟨3, _⟩ => ⟨S4096x16384, .bf16⟩
  | .hbm, ⟨4, _⟩ => ⟨S1x4096x16384, .bf16⟩
  | .hbm, ⟨5, _⟩ => ⟨S24576x16384, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 24, 16, 8], ![false, false, false, false]⟩

def k0_cond2 (i : grid0.Coords) : BitVec 1 :=
  let arg3 : BitVec 32 := BitVec.ofNat 32 (i 3).val
  let c7_i32 : BitVec 32 := 7#32
  let v12 : BitVec 1 := Scalar.cmpi .eq arg3 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S24576x4096 : Shape := ⟨2, ![24576, 4096]⟩
abbrev S4096x16512 : Shape := ⟨2, ![4096, 16512]⟩
abbrev S24576x16512 : Shape := ⟨2, ![24576, 16512]⟩
abbrev S24576x16384 : Shape := ⟨2, ![24576, 16384]⟩

abbrev nBuf : Space → Nat
  | .hbm => 5
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x16512, .f32⟩
  | .hbm, ⟨2, _⟩ => ⟨S24576x4096, .f32⟩
  | .hbm, ⟨3, _⟩ => ⟨S24576x16512, .f32⟩
  | .hbm, ⟨4, _⟩ => ⟨S24576x16384, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S24576x4096 : Shape := ⟨2, ![24576, 4096]⟩
abbrev S4096x4096 : Shape := ⟨2, ![4096, 4096]⟩
abbrev S4x1x4096 : Shape := ⟨3, ![4, 1, 4096]⟩
abbrev S1x4096x4096 : Shape := ⟨3, ![1, 4096, 4096]⟩
abbrev S1024x512 : Shape := ⟨2, ![1024, 512]⟩
abbrev S1x512x1024 : Shape := ⟨3, ![1, 512, 1024]⟩
abbrev S1024x1024 : Shape := ⟨2, ![1024, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S24576x4096, .f32⟩
  | .hbm, ⟨3, _⟩ => ⟨S4x1x4096, .f32⟩
  | .hbm, ⟨4, _⟩ => ⟨S4096x4096, .bf16⟩
  | .hbm, ⟨5, _⟩ => ⟨S1x4096x4096, .bf16⟩
  | .hbm, ⟨6, _⟩ => ⟨S24576x4096, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 24, 4, 8], ![false, false, false, false]⟩

def k0_cond2 (i : grid0.Coords) : BitVec 1 :=
  let arg3 : BitVec 32 := BitVec.ofNat 32 (i 3).val
  let c7_i32 : BitVec 32 := 7#32
  let v12 : BitVec 1 := Scalar.cmpi .eq arg3 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1024_i32 : BitVec 32 := 1024#32
  let v0 : BitVec 32 := Scalar.muli arg1 c1024_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  ![v38.toNat, c0_i32_11.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== Reference4Ideal.lean ====
abbrev S24576x4096 : Shape := ⟨2, ![24576, 4096]⟩
abbrev S4096x4096 : Shape := ⟨2, ![4096, 4096]⟩
abbrev S4x1x4096 : Shape := ⟨3, ![4, 1, 4096]⟩
abbrev S16384x4096 : Shape := ⟨2, ![16384, 4096]⟩
abbrev S2x8192x4096 : Shape := ⟨3, ![2, 8192, 4096]⟩
abbrev S8192x4096 : Shape := ⟨2, ![8192, 4096]⟩
abbrev S2x4096x4096 : Shape := ⟨3, ![2, 4096, 4096]⟩
abbrev S2x1x4096 : Shape := ⟨3, ![2, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S24576x4096, .f32⟩
  | .hbm, ⟨3, _⟩ => ⟨S4x1x4096, .f32⟩
  | .hbm, ⟨4, _⟩ => ⟨S24576x4096, .f32⟩
  | .hbm, ⟨5, _⟩ => ⟨S16384x4096, .f32⟩
  | .hbm, ⟨6, _⟩ => ⟨S2x8192x4096, .f32⟩
  | .hbm, ⟨7, _⟩ => ⟨S8192x4096, .f32⟩
  | .hbm, ⟨8, _⟩ => ⟨S2x4096x4096, .f32⟩
  | .hbm, ⟨9, _⟩ => ⟨S16384x4096, .f32⟩
  | .hbm, ⟨10, _⟩ => ⟨S2x8192x4096, .f32⟩
  | .hbm, ⟨11, _⟩ => ⟨S8192x4096, .f32⟩
  | .hbm, ⟨12, _⟩ => ⟨S2x4096x4096, .f32⟩
  | .hbm, ⟨13, _⟩ => ⟨S2x1x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S2x1x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x4096x4096, .f32⟩
  | .hbm, ⟨23, _⟩ => ⟨S16384x4096, .f32⟩
  | .hbm, ⟨24, _⟩ => ⟨S8192x4096, .f32⟩
  | .hbm, ⟨25, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel5.lean ====
abbrev S24576x4096 : Shape := ⟨2, ![24576, 4096]⟩
abbrev S4096x4096 : Shape := ⟨2, ![4096, 4096]⟩
abbrev S4x1x4096 : Shape := ⟨3, ![4, 1, 4096]⟩
abbrev S1x4096x4096 : Shape := ⟨3, ![1, 4096, 4096]⟩
abbrev S1024x512 : Shape := ⟨2, ![1024, 512]⟩
abbrev S1x512x1024 : Shape := ⟨3, ![1, 512, 1024]⟩
abbrev S1024x1024 : Shape := ⟨2, ![1024, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S24576x4096, .f32⟩
  | .hbm, ⟨1, _⟩ => ⟨S4096x4096, .f32⟩
  | .hbm, ⟨2, _⟩ => ⟨S24576x4096, .f32⟩
  | .hbm, ⟨3, _⟩ => ⟨S4x1x4096, .f32⟩
  | .hbm, ⟨4, _⟩ => ⟨S4096x4096, .bf16⟩
  | .hbm, ⟨5, _⟩ => ⟨S1x4096x4096, .bf16⟩
  | .hbm, ⟨6, _⟩ => ⟨S24576x4096, .f32⟩
  | .local _ .vmem, ⟨0, _⟩ => ⟨S1024x512, .f32⟩
  | .local _ .vmem, ⟨1, _⟩ => ⟨S1024x512, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 24, 4, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1024_i32 : BitVec 32 := 1024#32
  let v0 : BitVec 32 := Scalar.muli arg1 c1024_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  ![v38.toNat, c0_i32_11.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== Reference5Ideal.lean ====
abbrev S24576x4096 : Shape := ⟨2, ![24576, 4096]⟩
abbrev S4096x4096 : Shape := ⟨2, ![4096, 4096]⟩
abbrev S4x1x4096 : Shape := ⟨3, ![4, 1, 4096]⟩
abbrev S16384x4096 : Shape := ⟨2, ![16384, 4096]⟩
abbrev S2x8192x4096 : Shape := ⟨3, ![2, 8192, 4096]⟩
abbrev S8192x4096 : Shape := ⟨2, ![8192, 4096]⟩
abbrev S2x4096x4096 : Shape := ⟨3, ![2, 4096, 4096]⟩
abbrev S2x1x4096 : Shape := ⟨3, ![2, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096x4096, .f32⟩
  | .hbm, ⟨2, _⟩ => ⟨S24576x4096, .f32⟩
  | .hbm, ⟨3, _⟩ => ⟨S4x1x4096, .f32⟩
  | .hbm, ⟨4, _⟩ => ⟨S16384x4096, .f32⟩
  | .hbm, ⟨5, _⟩ => ⟨S2x8192x4096, .f32⟩
  | .hbm, ⟨6, _⟩ => ⟨S8192x4096, .f32⟩
  | .hbm, ⟨7, _⟩ => ⟨S2x4096x4096, .f32⟩
  | .hbm, ⟨8, _⟩ => ⟨S16384x4096, .f32⟩
  | .hbm, ⟨9, _⟩ => ⟨S2x8192x4096, .f32⟩
  | .hbm, ⟨10, _⟩ => ⟨S8192x4096, .f32⟩
  | .hbm, ⟨11, _⟩ => ⟨S2x4096x4096, .f32⟩
  | .hbm, ⟨12, _⟩ => ⟨S2x1x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S2x1x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S16384x4096, .f32⟩
  | .hbm, ⟨23, _⟩ => ⟨S8192x4096, .f32⟩
  | .hbm, ⟨24, _⟩ => ⟨S24576x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel6.lean ====
abbrev S24576x4096 : Shape := ⟨2, ![24576, 4096]⟩
abbrev S4096x2048 : Shape := ⟨2, ![4096, 2048]⟩
abbrev S1x4096x2048 : Shape := ⟨3, ![1, 4096, 2048]⟩
abbrev S24576x2048 : Shape := ⟨2, ![24576, 2048]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x2048, .f32⟩
  | .hbm, ⟨2, _⟩ => ⟨S4096x2048, .bf16⟩
  | .hbm, ⟨3, _⟩ => ⟨S1x4096x2048, .bf16⟩
  | .hbm, ⟨4, _⟩ => ⟨S24576x2048, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 24, 2, 8], ![false, false, false, false]⟩

def k0_cond2 (i : grid0.Coords) : BitVec 1 :=
  let arg3 : BitVec 32 := BitVec.ofNat 32 (i 3).val
  let c7_i32 : BitVec 32 := 7#32
  let v12 : BitVec 1 := Scalar.cmpi .eq arg3 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference6Ideal.lean ====
abbrev S24576x4096 : Shape := ⟨2, ![24576, 4096]⟩
abbrev S4096x2048 : Shape := ⟨2, ![4096, 2048]⟩
abbrev S24576x2048 : Shape := ⟨2, ![24576, 2048]⟩

abbrev nBuf : Space → Nat
  | .hbm => 5
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x2048, .f32⟩
  | .hbm, ⟨2, _⟩ => ⟨S24576x4096, .f32⟩
  | .hbm, ⟨3, _⟩ => ⟨S24576x2048, .f32⟩
  | .hbm, ⟨4, _⟩ => ⟨S24576x2048, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S24576x4096 : Shape := ⟨2, ![24576, 4096]⟩
abbrev S4096x4096 : Shape := ⟨2, ![4096, 4096]⟩
abbrev S1x4096x4096 : Shape := ⟨3, ![1, 4096, 4096]⟩
abbrev S1024x512 : Shape := ⟨2, ![1024, 512]⟩
abbrev S1x512x1024 : Shape := ⟨3, ![1, 512, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S4096x4096, .bf16⟩
  | .hbm, ⟨3, _⟩ => ⟨S1x4096x4096, .bf16⟩
  | .hbm, ⟨4, _⟩ => ⟨S24576x4096, .f32⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 24, 4, 8], ![false, false, false, false]⟩

def k0_cond2 (i : grid0.Coords) : BitVec 1 :=
  let arg3 : BitVec 32 := BitVec.ofNat 32 (i 3).val
  let c7_i32 : BitVec 32 := 7#32
  let v12 : BitVec 1 := Scalar.cmpi .eq arg3 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference7Ideal.lean ====
abbrev S24576x4096 : Shape := ⟨2, ![24576, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x4096, .f32⟩
  | .hbm, ⟨2, _⟩ => ⟨S24576x4096, .f32⟩
  | .hbm, ⟨3, _⟩ => ⟨S24576x4096, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S24576x4096 : Shape := ⟨2, ![24576, 4096]⟩
abbrev S4x1024x1024 : Shape := ⟨3, ![4, 1024, 1024]⟩
abbrev S4096 : Shape := ⟨1, ![4096]⟩
abbrev S1x4096 : Shape := ⟨2, ![1, 4096]⟩
abbrev S1024x512 : Shape := ⟨2, ![1024, 512]⟩
abbrev S1x512x1024 : Shape := ⟨3, ![1, 512, 1024]⟩
abbrev S1x1024 : Shape := ⟨2, ![1, 1024]⟩
abbrev S1024x1024 : Shape := ⟨2, ![1024, 1024]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S24576x4096, .bf16⟩
  | .hbm, ⟨1, _⟩ => ⟨S4x1024x1024, .f32⟩
  | .hbm, ⟨2, _⟩ => ⟨S4096, .f32⟩
  | .hbm, ⟨3, _⟩ => ⟨S4x1024x1024, .bf16⟩
  | .hbm, ⟨4, _⟩ => ⟨S1x4096, .f32⟩
  | .hbm, ⟨5, _⟩ => ⟨S24576x4096, .bf16⟩
  | .local _ .vmem, ⟨0, _⟩ => ⟨S1024x512, .bf16⟩
  | .local _ .vmem, ⟨1, _⟩ => ⟨S1024x512, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![4, 24, 1, 2], ![false, false, false, false]⟩

def k0_cond2 (i : grid0.Coords) : BitVec 1 :=
  let arg3 : BitVec 32 := BitVec.ofNat 32 (i 3).val
  let c1_i32 : BitVec 32 := 1#32
  let v12 : BitVec 1 := Scalar.cmpi .eq arg3 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference8Ideal.lean ====
abbrev S24576x4096 : Shape := ⟨2, ![24576, 4096]⟩
abbrev S4x1024x1024 : Shape := ⟨3, ![4, 1024, 1024]⟩
abbrev S4096 : Shape := ⟨1, ![4096]⟩
abbrev S24576x4x1024 : Shape := ⟨3, ![24576, 4, 1024]⟩
abbrev S4x1024x24576 : Shape := ⟨3, ![4, 1024, 24576]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4x1024x1024, .f32⟩
  | .hbm, ⟨2, _⟩ => ⟨S4096, .f32⟩
  | .hbm, ⟨3, _⟩ => ⟨S24576x4096, .f32⟩
  | .hbm, ⟨4, _⟩ => ⟨S24576x4x1024, .f32⟩
  | .hbm, ⟨5, _⟩ => ⟨S4x1024x24576, .f32⟩
  | .hbm, ⟨6, _⟩ => ⟨S24576x4x1024, .f32⟩
  | .hbm, ⟨7, _⟩ => ⟨S24576x4096, .f32⟩
  | .hbm, ⟨8, _⟩ => ⟨S1x4096, .f32⟩
  | .hbm, ⟨9, _⟩ => ⟨S24576x4096, .f32⟩
  | .hbm, ⟨10, _⟩ => ⟨S24576x4096, .f32⟩
  | .hbm, ⟨11, _⟩ => ⟨S24576x4096, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S24576x4096 : Shape := ⟨2, ![24576, 4096]⟩
abbrev S4096 : Shape := ⟨1, ![4096]⟩
abbrev S4x1x4096 : Shape := ⟨3, ![4, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S24576x4096, .f32⟩
  | .hbm, ⟨3, _⟩ => ⟨S4x1x4096, .f32⟩
  | .hbm, ⟨4, _⟩ => ⟨S1x4096, .f32⟩
  | .hbm, ⟨5, _⟩ => ⟨S24576x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  let c0_i32_13 : BitVec 32 := 0#32
  ![v38.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S24576x4096 : Shape := ⟨2, ![24576, 4096]⟩
abbrev S4096 : Shape := ⟨1, ![4096]⟩
abbrev S4x1x4096 : Shape := ⟨3, ![4, 1, 4096]⟩
abbrev S16384x4096 : Shape := ⟨2, ![16384, 4096]⟩
abbrev S2x8192x4096 : Shape := ⟨3, ![2, 8192, 4096]⟩
abbrev S8192x4096 : Shape := ⟨2, ![8192, 4096]⟩
abbrev S2x4096x4096 : Shape := ⟨3, ![2, 4096, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x4096 : Shape := ⟨2, ![2, 4096]⟩
abbrev S2x4096x1 : Shape := ⟨3, ![2, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S24576x4096, .f32⟩
  | .hbm, ⟨3, _⟩ => ⟨S4x1x4096, .f32⟩
  | .hbm, ⟨4, _⟩ => ⟨S16384x4096, .f32⟩
  | .hbm, ⟨5, _⟩ => ⟨S2x8192x4096, .f32⟩
  | .hbm, ⟨6, _⟩ => ⟨S8192x4096, .f32⟩
  | .hbm, ⟨7, _⟩ => ⟨S2x4096x4096, .f32⟩
  | .hbm, ⟨8, _⟩ => ⟨S16384x4096, .f32⟩
  | .hbm, ⟨9, _⟩ => ⟨S2x8192x4096, .f32⟩
  | .hbm, ⟨10, _⟩ => ⟨S8192x4096, .f32⟩
  | .hbm, ⟨11, _⟩ => ⟨S2x4096x4096, .f32⟩
  | .hbm, ⟨12, _⟩ => ⟨S2x1x4096, .f32⟩
  | .hbm, ⟨13, _⟩ => ⟨S2x8192x4096, .f32⟩
  | .hbm, ⟨14, _⟩ => ⟨S2x8192x4096, .f32⟩
  | .hbm, ⟨15, _⟩ => ⟨S2x8192x4096, .f32⟩
  | .hbm, ⟨16, _⟩ => ⟨S2x8192x4096, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x4096, .f32⟩
  | .hbm, ⟨28, _⟩ => ⟨S2x8192x4096, .f32⟩
  | .hbm, ⟨29, _⟩ => ⟨S1x1x4096, .f32⟩
  | .hbm, ⟨30, _⟩ => ⟨S2x8192x4096, .f32⟩
  | .hbm, ⟨31, _⟩ => ⟨S2x8192x4096, .f32⟩
  | .hbm, ⟨32, _⟩ => ⟨S2x1x4096, .f32⟩
  | .hbm, ⟨33, _⟩ => ⟨S2x4096x4096, .f32⟩
  | .hbm, ⟨34, _⟩ => ⟨S2x4096x4096, .f32⟩
  | .hbm, ⟨35, _⟩ => ⟨S2x4096x4096, .f32⟩
  | .hbm, ⟨36, _⟩ => ⟨S2x4096x4096, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x4096, .f32⟩
  | .hbm, ⟨48, _⟩ => ⟨S2x4096x4096, .f32⟩
  | .hbm, ⟨49, _⟩ => ⟨S1x1x4096, .f32⟩
  | .hbm, ⟨50, _⟩ => ⟨S2x4096x4096, .f32⟩
  | .hbm, ⟨51, _⟩ => ⟨S2x4096x4096, .f32⟩
  | .hbm, ⟨52, _⟩ => ⟨S16384x4096, .f32⟩
  | .hbm, ⟨53, _⟩ => ⟨S8192x4096, .f32⟩
  | .hbm, ⟨54, _⟩ => ⟨S24576x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]
-- ==== Kernel10.lean ====
abbrev S24576x4096 : Shape := ⟨2, ![24576, 4096]⟩
abbrev S4096x16512 : Shape := ⟨2, ![4096, 16512]⟩
abbrev S4096x128 : Shape := ⟨2, ![4096, 128]⟩
abbrev S1x4096x128 : Shape := ⟨3, ![1, 4096, 128]⟩
abbrev S24576x128 : Shape := ⟨2, ![24576, 128]⟩
abbrev S1024x512 : Shape := ⟨2, ![1024, 512]⟩
abbrev S1x512x128 : Shape := ⟨3, ![1, 512, 128]⟩
abbrev S1024x128 : Shape := ⟨2, ![1024, 128]⟩
abbrev S512x128 : Shape := ⟨2, ![512, 128]⟩

abbrev nBuf : Space → Nat
  | .hbm => 6
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S4096x16512, .f32⟩
  | .hbm, ⟨2, _⟩ => ⟨S4096x128, .f32⟩
  | .hbm, ⟨3, _⟩ => ⟨S4096x128, .bf16⟩
  | .hbm, ⟨4, _⟩ => ⟨S1x4096x128, .bf16⟩
  | .hbm, ⟨5, _⟩ => ⟨S24576x128, .f32⟩
  | .local _ .vmem, ⟨0, _⟩ => ⟨S1024x512, .bf16⟩
  | .local _ .vmem, ⟨1, _⟩ => ⟨S1024x512, .bf16⟩
  | .local _ .vmem, ⟨2, _⟩ => ⟨S1x512x128, .bf16⟩
  | .local _ .vmem, ⟨3, _⟩ => ⟨S1x512x128, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 24, 1, 8], ![false, false, false, false]⟩

def k0_cond2 (i : grid0.Coords) : BitVec 1 :=
  let arg3 : BitVec 32 := BitVec.ofNat 32 (i 3).val
  let c7_i32 : BitVec 32 := 7#32
  let v12 : BitVec 1 := Scalar.cmpi .eq arg3 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference10Ideal.lean ====
abbrev S24576x4096 : Shape := ⟨2, ![24576, 4096]⟩
abbrev S4096x16512 : Shape := ⟨2, ![4096, 16512]⟩
abbrev S24576x16512 : Shape := ⟨2, ![24576, 16512]⟩
abbrev S24576x128 : Shape := ⟨2, ![24576, 128]⟩

abbrev nBuf : Space → Nat
  | .hbm => 5
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x16512, .f32⟩
  | .hbm, ⟨2, _⟩ => ⟨S24576x4096, .f32⟩
  | .hbm, ⟨3, _⟩ => ⟨S24576x16512, .f32⟩
  | .hbm, ⟨4, _⟩ => ⟨S24576x128, .f32⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S24576x4096 : Shape := ⟨2, ![24576, 4096]⟩
abbrev S24576x16384 : Shape := ⟨2, ![24576, 16384]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S24576x4096, .f32⟩
  | .hbm, ⟨2, _⟩ => ⟨S24576x16384, .f32⟩
  | .hbm, ⟨3, _⟩ => ⟨S128, .f32⟩
  | .hbm, ⟨4, _⟩ => ⟨S1x128, .f32⟩
  | .hbm, ⟨5, _⟩ => ⟨S24576x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S256x1024, .bf16⟩
  | .local _ .vmem, ⟨8, _⟩ => ⟨S256x1024, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![96, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S24576x4096 : Shape := ⟨2, ![24576, 4096]⟩
abbrev S24576x16384 : Shape := ⟨2, ![24576, 16384]⟩
abbrev S128 : Shape := ⟨1, ![128]⟩
abbrev S24576x32x128 : Shape := ⟨3, ![24576, 32, 128]⟩
abbrev S_ : Shape := ⟨0, ![]⟩
abbrev S24576x32 : Shape := ⟨2, ![24576, 32]⟩
abbrev S24576x32x1 : Shape := ⟨3, ![24576, 32, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S24576x4096, .f32⟩
  | .hbm, ⟨2, _⟩ => ⟨S24576x16384, .f32⟩
  | .hbm, ⟨3, _⟩ => ⟨S128, .f32⟩
  | .hbm, ⟨4, _⟩ => ⟨S24576x4096, .f32⟩
  | .hbm, ⟨5, _⟩ => ⟨S24576x32x128, .f32⟩
  | .hbm, ⟨6, _⟩ => ⟨S24576x4096, .f32⟩
  | .hbm, ⟨7, _⟩ => ⟨S24576x32x128, .f32⟩
  | .hbm, ⟨8, _⟩ => ⟨S24576x32x128, .f32⟩
  | .hbm, ⟨9, _⟩ => ⟨S_, .f32⟩
  | .hbm, ⟨10, _⟩ => ⟨S24576x32, .f32⟩
  | .hbm, ⟨11, _⟩ => ⟨S24576x32x1, .f32⟩
  | .hbm, ⟨12, _⟩ => ⟨S_, .f32⟩
  | .hbm, ⟨13, _⟩ => ⟨S24576x32x1, .f32⟩
  | .hbm, ⟨14, _⟩ => ⟨S24576x32x1, .f32⟩
  | .hbm, ⟨15, _⟩ => ⟨S_, .f32⟩
  | .hbm, ⟨16, _⟩ => ⟨S24576x32x1, .f32⟩
  | .hbm, ⟨17, _⟩ => ⟨S24576x32x1, .f32⟩
  | .hbm, ⟨18, _⟩ => ⟨S24576x32x1, .f32⟩
  | .hbm, ⟨19, _⟩ => ⟨S24576x32x128, .f32⟩
  | .hbm, ⟨20, _⟩ => ⟨S24576x32x128, .f32⟩
  | .hbm, ⟨21, _⟩ => ⟨S1x1x128, .f32⟩
  | .hbm, ⟨22, _⟩ => ⟨S24576x32x128, .f32⟩
  | .hbm, ⟨23, _⟩ => ⟨S24576x32x128, .f32⟩
  | .hbm, ⟨24, _⟩ => ⟨S24576x32x128, .f32⟩
  | .hbm, ⟨25, _⟩ => ⟨S24576x32x128, .f32⟩
  | .hbm, ⟨26, _⟩ => ⟨S_, .f32⟩
  | .hbm, ⟨27, _⟩ => ⟨S24576x32x128, .f32⟩
  | .hbm, ⟨28, _⟩ => ⟨S24576x32x128, .f32⟩
  | .hbm, ⟨29, _⟩ => ⟨S_, .f32⟩
  | .hbm, ⟨30, _⟩ => ⟨S24576x32x128, .f32⟩
  | .hbm, ⟨31, _⟩ => ⟨S24576x32x128, .f32⟩
  | .hbm, ⟨32, _⟩ => ⟨S24576x32x128, .f32⟩
  | .hbm, ⟨33, _⟩ => ⟨S24576x32x128, .f32⟩
  | .hbm, ⟨34, _⟩ => ⟨S24576x4096, .f32⟩
  | .hbm, ⟨35, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Kernel12.lean ====
abbrev S24576x4096 : Shape := ⟨2, ![24576, 4096]⟩
abbrev S4096 : Shape := ⟨1, ![4096]⟩
abbrev S4x1x4096 : Shape := ⟨3, ![4, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S1x4096, .f32⟩
  | .hbm, ⟨5, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  let c0_i32_13 : BitVec 32 := 0#32
  ![v38.toNat, c0_i32_11.toNat, c0_i32_12.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  let c0_i32_13 : BitVec 32 := 0#32
  ![v38.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S24576x4096 : Shape := ⟨2, ![24576, 4096]⟩
abbrev S4096 : Shape := ⟨1, ![4096]⟩
abbrev S4x1x4096 : Shape := ⟨3, ![4, 1, 4096]⟩
abbrev S16384x4096 : Shape := ⟨2, ![16384, 4096]⟩
abbrev S2x8192x4096 : Shape := ⟨3, ![2, 8192, 4096]⟩
abbrev S8192x4096 : Shape := ⟨2, ![8192, 4096]⟩
abbrev S2x4096x4096 : Shape := ⟨3, ![2, 4096, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S2x4096 : Shape := ⟨2, ![2, 4096]⟩
abbrev S2x4096x1 : Shape := ⟨3, ![2, 4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S16384x4096, .f32⟩
  | .hbm, ⟨5, _⟩ => ⟨S2x8192x4096, .f32⟩
  | .hbm, ⟨6, _⟩ => ⟨S8192x4096, .f32⟩
  | .hbm, ⟨7, _⟩ => ⟨S2x4096x4096, .f32⟩
  | .hbm, ⟨8, _⟩ => ⟨S2x8192x4096, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x4096, .f32⟩
  | .hbm, ⟨20, _⟩ => ⟨S2x8192x4096, .f32⟩
  | .hbm, ⟨21, _⟩ => ⟨S1x1x4096, .f32⟩
  | .hbm, ⟨22, _⟩ => ⟨S2x8192x4096, .f32⟩
  | .hbm, ⟨23, _⟩ => ⟨S2x8192x4096, .f32⟩
  | .hbm, ⟨24, _⟩ => ⟨S2x1x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x8192x4096, .f32⟩
  | .hbm, ⟨29, _⟩ => ⟨S2x8192x4096, .f32⟩
  | .hbm, ⟨30, _⟩ => ⟨S2x1x4096, .f32⟩
  | .hbm, ⟨31, _⟩ => ⟨S2x8192x4096, .f32⟩
  | .hbm, ⟨32, _⟩ => ⟨S2x8192x4096, .f32⟩
  | .hbm, ⟨33, _⟩ => ⟨S2x4096x4096, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x4096, .f32⟩
  | .hbm, ⟨45, _⟩ => ⟨S2x4096x4096, .f32⟩
  | .hbm, ⟨46, _⟩ => ⟨S1x1x4096, .f32⟩
  | .hbm, ⟨47, _⟩ => ⟨S2x4096x4096, .f32⟩
  | .hbm, ⟨48, _⟩ => ⟨S2x4096x4096, .f32⟩
  | .hbm, ⟨49, _⟩ => ⟨S2x1x4096, .f32⟩
  | .hbm, ⟨50, _⟩ => ⟨S_, .f32⟩
  | .hbm, ⟨51, _⟩ => ⟨S2x1x4096, .f32⟩
  | .hbm, ⟨52, _⟩ => ⟨S2x1x4096, .f32⟩
  | .hbm, ⟨53, _⟩ => ⟨S2x4096x4096, .f32⟩
  | .hbm, ⟨54, _⟩ => ⟨S2x4096x4096, .f32⟩
  | .hbm, ⟨55, _⟩ => ⟨S2x1x4096, .f32⟩
  | .hbm, ⟨56, _⟩ => ⟨S2x4096x4096, .f32⟩
  | .hbm, ⟨57, _⟩ => ⟨S2x4096x4096, .f32⟩
  | .hbm, ⟨58, _⟩ => ⟨S16384x4096, .f32⟩
  | .hbm, ⟨59, _⟩ => ⟨S8192x4096, .f32⟩
  | .hbm, ⟨60, _⟩ => ⟨S24576x4096, .f32⟩
  | .hbm, ⟨61, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Kernel13.lean ====
abbrev S24576x4096 : Shape := ⟨2, ![24576, 4096]⟩
abbrev S4096 : Shape := ⟨1, ![4096]⟩
abbrev S4x1x4096 : Shape := ⟨3, ![4, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S24576x4096, .f32⟩
  | .hbm, ⟨5, _⟩ => ⟨S4x1x4096, .f32⟩
  | .hbm, ⟨6, _⟩ => ⟨S1x4096, .f32⟩
  | .hbm, ⟨7, _⟩ => ⟨S24576x4096, .f32⟩
  | .hbm, ⟨8, _⟩ => ⟨S24576x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .bf16⟩
  | .local _ .vmem, ⟨14, _⟩ => ⟨S256x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  let c0_i32_13 : BitVec 32 := 0#32
  ![v38.toNat, c0_i32_11.toNat, c0_i32_12.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  let c0_i32_13 : BitVec 32 := 0#32
  ![v38.toNat, c0_i32_11.toNat, c0_i32_12.toNat]

def cc0_transform_5 (i : grid0.Coords) : Fin 3 → Nat :=
  let arg0 : BitVec 32 := BitVec.ofNat 32 (i 0).val
  let c256_i32 : BitVec 32 := 256#32
  let v0 : BitVec 32 := Scalar.muli arg0 c256_i32
  let c16384_i32 : BitVec 32 := 16384#32
  let v1 : BitVec 1 := Scalar.cmpi .slt v0 c16384_i32
  let c8192_i32 : BitVec 32 := 8192#32
  let v2 : BitVec 32 := Scalar.divsi v0 c8192_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c8192_i32 c0_i32_1
  let v9 : BitVec 32 := Scalar.extui v8
  let c0_i32_2 : BitVec 32 := 0#32
  let v10 : BitVec 1 := Scalar.cmpi .slt c8192_i32 c0_i32_2
  let v11 : BitVec 32 := Scalar.extui v10
  let v12 : BitVec 32 := Scalar.subi v9 v11
  let v13 : BitVec 1 := Scalar.cmpi .ne v7 v12
  let v14 : BitVec 32 := Scalar.remsi v0 c8192_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c16384_i32_4 : BitVec 32 := 16384#32
  let v19 : BitVec 32 := Scalar.subi v0 c16384_i32_4
  let c4096_i32 : BitVec 32 := 4096#32
  let v20 : BitVec 32 := Scalar.divsi v19 c4096_i32
  let c0_i32_5 : BitVec 32 := 0#32
  let v21 : BitVec 1 := Scalar.cmpi .sgt v19 c0_i32_5
  let v22 : BitVec 32 := Scalar.extui v21
  let c0_i32_6 : BitVec 32 := 0#32
  let v23 : BitVec 1 := Scalar.cmpi .slt v19 c0_i32_6
  let v24 : BitVec 32 := Scalar.extui v23
  let v25 : BitVec 32 := Scalar.subi v22 v24
  let c0_i32_7 : BitVec 32 := 0#32
  let v26 : BitVec 1 := Scalar.cmpi .sgt c4096_i32 c0_i32_7
  let v27 : BitVec 32 := Scalar.extui v26
  let c0_i32_8 : BitVec 32 := 0#32
  let v28 : BitVec 1 := Scalar.cmpi .slt c4096_i32 c0_i32_8
  let v29 : BitVec 32 := Scalar.extui v28
  let v30 : BitVec 32 := Scalar.subi v27 v29
  let v31 : BitVec 1 := Scalar.cmpi .ne v25 v30
  let v32 : BitVec 32 := Scalar.remsi v19 c4096_i32
  let c0_i32_9 : BitVec 32 := 0#32
  let v33 : BitVec 1 := Scalar.cmpi .ne v32 c0_i32_9
  let v34 : BitVec 1 := Scalar.andi v31 v33
  let c1_i32_10 : BitVec 32 := 1#32
  let v35 : BitVec 32 := Scalar.subi v20 c1_i32_10
  let v36 : BitVec 32 := Scalar.select v34 v35 v20
  let c2_i32 : BitVec 32 := 2#32
  let v37 : BitVec 32 := Scalar.addi c2_i32 v36
  let v38 : BitVec 32 := Scalar.select v1 v18 v37
  let c0_i32_11 : BitVec 32 := 0#32
  let c0_i32_12 : BitVec 32 := 0#32
  let c0_i32_13 : BitVec 32 := 0#32
  ![v38.toNat, c0_i32_11.toNat, c0_i32_12.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S24576x4096 : Shape := ⟨2, ![24576, 4096]⟩
abbrev S4096 : Shape := ⟨1, ![4096]⟩
abbrev S4x1x4096 : Shape := ⟨3, ![4, 1, 4096]⟩
abbrev S16384x4096 : Shape := ⟨2, ![16384, 4096]⟩
abbrev S2x8192x4096 : Shape := ⟨3, ![2, 8192, 4096]⟩
abbrev S8192x4096 : Shape := ⟨2, ![8192, 4096]⟩
abbrev S2x4096x4096 : Shape := ⟨3, ![2, 4096, 4096]⟩
abbrev S2x1x4096 : Shape := ⟨3, ![2, 1, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x4096 : Shape := ⟨2, ![2, 4096]⟩
abbrev S2x4096x1 : Shape := ⟨3, ![2, 4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4x1x4096, .f32⟩
  | .hbm, ⟨3, _⟩ => ⟨S4x1x4096, .f32⟩
  | .hbm, ⟨4, _⟩ => ⟨S24576x4096, .f32⟩
  | .hbm, ⟨5, _⟩ => ⟨S4x1x4096, .f32⟩
  | .hbm, ⟨6, _⟩ => ⟨S16384x4096, .f32⟩
  | .hbm, ⟨7, _⟩ => ⟨S2x8192x4096, .f32⟩
  | .hbm, ⟨8, _⟩ => ⟨S8192x4096, .f32⟩
  | .hbm, ⟨9, _⟩ => ⟨S2x4096x4096, .f32⟩
  | .hbm, ⟨10, _⟩ => ⟨S16384x4096, .f32⟩
  | .hbm, ⟨11, _⟩ => ⟨S2x8192x4096, .f32⟩
  | .hbm, ⟨12, _⟩ => ⟨S8192x4096, .f32⟩
  | .hbm, ⟨13, _⟩ => ⟨S2x4096x4096, .f32⟩
  | .hbm, ⟨14, _⟩ => ⟨S2x1x4096, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S2x1x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S2x8192x4096, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x4096, .f32⟩
  | .hbm, ⟨34, _⟩ => ⟨S2x8192x4096, .f32⟩
  | .hbm, ⟨35, _⟩ => ⟨S1x1x4096, .f32⟩
  | .hbm, ⟨36, _⟩ => ⟨S2x8192x4096, .f32⟩
  | .hbm, ⟨37, _⟩ => ⟨S2x8192x4096, .f32⟩
  | .hbm, ⟨38, _⟩ => ⟨S2x1x4096, .f32⟩
  | .hbm, ⟨39, _⟩ => ⟨S_, .f32⟩
  | .hbm, ⟨40, _⟩ => ⟨S2x1x4096, .f32⟩
  | .hbm, ⟨41, _⟩ => ⟨S2x1x4096, .f32⟩
  | .hbm, ⟨42, _⟩ => ⟨S2x8192x4096, .f32⟩
  | .hbm, ⟨43, _⟩ => ⟨S2x8192x4096, .f32⟩
  | .hbm, ⟨44, _⟩ => ⟨S2x1x4096, .f32⟩
  | .hbm, ⟨45, _⟩ => ⟨S2x8192x4096, .f32⟩
  | .hbm, ⟨46, _⟩ => ⟨S2x8192x4096, .f32⟩
  | .hbm, ⟨47, _⟩ => ⟨S2x4096x4096, .f32⟩
  | .hbm, ⟨48, _⟩ => ⟨S_, .f32⟩
  | .hbm, ⟨49, _⟩ => ⟨S2x4096, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S2x4096x1, .f32⟩
  | .hbm, ⟨58, _⟩ => ⟨S2x4096x4096, .f32⟩
  | .hbm, ⟨59, _⟩ => ⟨S2x4096x4096, .f32⟩
  | .hbm, ⟨60, _⟩ => ⟨S1x1x4096, .f32⟩
  | .hbm, ⟨61, _⟩ => ⟨S2x4096x4096, .f32⟩
  | .hbm, ⟨62, _⟩ => ⟨S2x4096x4096, .f32⟩
  | .hbm, ⟨63, _⟩ => ⟨S2x1x4096, .f32⟩
  | .hbm, ⟨64, _⟩ => ⟨S_, .f32⟩
  | .hbm, ⟨65, _⟩ => ⟨S2x1x4096, .f32⟩
  | .hbm, ⟨66, _⟩ => ⟨S2x1x4096, .f32⟩
  | .hbm, ⟨67, _⟩ => ⟨S2x4096x4096, .f32⟩
  | .hbm, ⟨68, _⟩ => ⟨S2x4096x4096, .f32⟩
  | .hbm, ⟨69, _⟩ => ⟨S2x1x4096, .f32⟩
  | .hbm, ⟨70, _⟩ => ⟨S2x4096x4096, .f32⟩
  | .hbm, ⟨71, _⟩ => ⟨S2x4096x4096, .f32⟩
  | .hbm, ⟨72, _⟩ => ⟨S16384x4096, .f32⟩
  | .hbm, ⟨73, _⟩ => ⟨S8192x4096, .f32⟩
  | .hbm, ⟨74, _⟩ => ⟨S24576x4096, .f32⟩
  | .hbm, ⟨75, _⟩ => ⟨S16384x4096, .f32⟩
  | .hbm, ⟨76, _⟩ => ⟨S8192x4096, .f32⟩
  | .hbm, ⟨77, _⟩ => ⟨S24576x4096, .f32⟩
  | .hbm, ⟨78, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== Kernel14.lean ====
abbrev S24576x12288 : Shape := ⟨2, ![24576, 12288]⟩
abbrev S3x12288 : Shape := ⟨2, ![3, 12288]⟩
abbrev S512x1024 : Shape := ⟨2, ![512, 1024]⟩
abbrev S8x1024 : Shape := ⟨2, ![8, 1024]⟩
abbrev S3x1024 : Shape := ⟨2, ![3, 1024]⟩
abbrev S1x1024 : Shape := ⟨2, ![1, 1024]⟩

abbrev nBuf : Space → Nat
  | .hbm => 3
  | .vmem => 10
  | .smem => 0
  | _ => 0

abbrev bufTy : (tb : Table) → Fin (tcTables nBuf tb) → BufTy
  | .hbm, ⟨0, _⟩ => ⟨S24576x12288, .f32⟩
  | .hbm, ⟨1, _⟩ => ⟨S3x12288, .f32⟩
  | .hbm, ⟨2, _⟩ => ⟨S24576x12288, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S3x1024, .f32⟩
  | .local _ .vmem, ⟨7, _⟩ => ⟨S3x1024, .f32⟩
  | .local _ .vmem, ⟨8, _⟩ => ⟨S512x1024, .f32⟩
  | .local _ .vmem, ⟨9, _⟩ => ⟨S512x1024, .f32⟩
  | _, _ => ⟨S24576x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c3071_i32 : BitVec 32 := 3071#32
  let v2 : BitVec 32 := Scalar.minsi v1 c3071_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S24576x12288 : Shape := ⟨2, ![24576, 12288]⟩
abbrev S3x12288 : Shape := ⟨2, ![3, 12288]⟩
abbrev S16384x12288 : Shape := ⟨2, ![16384, 12288]⟩
abbrev S2x8192x12288 : Shape := ⟨3, ![2, 8192, 12288]⟩
abbrev S8192x12288 : Shape := ⟨2, ![8192, 12288]⟩
abbrev S2x4096x12288 : Shape := ⟨3, ![2, 4096, 12288]⟩
abbrev S_ : Shape := ⟨0, ![]⟩
abbrev S2x8194x12288 : Shape := ⟨3, ![2, 8194, 12288]⟩
abbrev S1x12288 : Shape := ⟨2, ![1, 12288]⟩
abbrev S12288 : Shape := ⟨1, ![12288]⟩
abbrev S1x1x12288 : Shape := ⟨3, ![1, 1, 12288]⟩
abbrev S2x4098x12288 : Shape := ⟨3, ![2, 4098, 12288]⟩

abbrev nBuf : Space → Nat
  | .hbm => 55
  | .vmem => 0
  | .smem => 0
  | _ => 0

abbrev bufTy : (tb : Table) → Fin (tcTables nBuf tb) → BufTy
  | .hbm, ⟨0, _⟩ => ⟨S24576x12288, .f32⟩
  | .hbm, ⟨1, _⟩ => ⟨S3x12288, .f32⟩
  | .hbm, ⟨2, _⟩ => ⟨S16384x12288, .f32⟩
  | .hbm, ⟨3, _⟩ => ⟨S2x8192x12288, .f32⟩
  | .hbm, ⟨4, _⟩ => ⟨S8192x12288, .f32⟩
  | .hbm, ⟨5, _⟩ => ⟨S2x4096x12288, .f32⟩
  | .hbm, ⟨6, _⟩ => ⟨S_, .i32⟩
  | .hbm, ⟨7, _⟩ => ⟨S_, .f32⟩
  | .hbm, ⟨8, _⟩ => ⟨S2x8194x12288, .f32⟩
  | .hbm, ⟨9, _⟩ => ⟨S2x8192x12288, .f32⟩
  | .hbm, ⟨10, _⟩ => ⟨S1x12288, .f32⟩
  | .hbm, ⟨11, _⟩ => ⟨S12288, .f32⟩
  | .hbm, ⟨12, _⟩ => ⟨S1x1x12288, .f32⟩
  | .hbm, ⟨13, _⟩ => ⟨S2x8192x12288, .f32⟩
  | .hbm, ⟨14, _⟩ => ⟨S2x8192x12288, .f32⟩
  | .hbm, ⟨15, _⟩ => ⟨S2x8192x12288, .f32⟩
  | .hbm, ⟨16, _⟩ => ⟨S1x12288, .f32⟩
  | .hbm, ⟨17, _⟩ => ⟨S12288, .f32⟩
  | .hbm, ⟨18, _⟩ => ⟨S1x1x12288, .f32⟩
  | .hbm, ⟨19, _⟩ => ⟨S2x8192x12288, .f32⟩
  | .hbm, ⟨20, _⟩ => ⟨S2x8192x12288, .f32⟩
  | .hbm, ⟨21, _⟩ => ⟨S2x8192x12288, .f32⟩
  | .hbm, ⟨22, _⟩ => ⟨S2x8192x12288, .f32⟩
  | .hbm, ⟨23, _⟩ => ⟨S1x12288, .f32⟩
  | .hbm, ⟨24, _⟩ => ⟨S12288, .f32⟩
  | .hbm, ⟨25, _⟩ => ⟨S1x1x12288, .f32⟩
  | .hbm, ⟨26, _⟩ => ⟨S2x8192x12288, .f32⟩
  | .hbm, ⟨27, _⟩ => ⟨S2x8192x12288, .f32⟩
  | .hbm, ⟨28, _⟩ => ⟨S2x8192x12288, .f32⟩
  | .hbm, ⟨29, _⟩ => ⟨S_, .i32⟩
  | .hbm, ⟨30, _⟩ => ⟨S_, .f32⟩
  | .hbm, ⟨31, _⟩ => ⟨S2x4098x12288, .f32⟩
  | .hbm, ⟨32, _⟩ => ⟨S2x4096x12288, .f32⟩
  | .hbm, ⟨33, _⟩ => ⟨S1x12288, .f32⟩
  | .hbm, ⟨34, _⟩ => ⟨S12288, .f32⟩
  | .hbm, ⟨35, _⟩ => ⟨S1x1x12288, .f32⟩
  | .hbm, ⟨36, _⟩ => ⟨S2x4096x12288, .f32⟩
  | .hbm, ⟨37, _⟩ => ⟨S2x4096x12288, .f32⟩
  | .hbm, ⟨38, _⟩ => ⟨S2x4096x12288, .f32⟩
  | .hbm, ⟨39, _⟩ => ⟨S1x12288, .f32⟩
  | .hbm, ⟨40, _⟩ => ⟨S12288, .f32⟩
  | .hbm, ⟨41, _⟩ => ⟨S1x1x12288, .f32⟩
  | .hbm, ⟨42, _⟩ => ⟨S2x4096x12288, .f32⟩
  | .hbm, ⟨43, _⟩ => ⟨S2x4096x12288, .f32⟩
  | .hbm, ⟨44, _⟩ => ⟨S2x4096x12288, .f32⟩
  | .hbm, ⟨45, _⟩ => ⟨S2x4096x12288, .f32⟩
  | .hbm, ⟨46, _⟩ => ⟨S1x12288, .f32⟩
  | .hbm, ⟨47, _⟩ => ⟨S12288, .f32⟩
  | .hbm, ⟨48, _⟩ => ⟨S1x1x12288, .f32⟩
  | .hbm, ⟨49, _⟩ => ⟨S2x4096x12288, .f32⟩
  | .hbm, ⟨50, _⟩ => ⟨S2x4096x12288, .f32⟩
  | .hbm, ⟨51, _⟩ => ⟨S2x4096x12288, .f32⟩
  | .hbm, ⟨52, _⟩ => ⟨S16384x12288, .f32⟩
  | .hbm, ⟨53, _⟩ => ⟨S8192x12288, .f32⟩
  | .hbm, ⟨54, _⟩ => ⟨S24576x12288, .f32⟩
  | _, _ => ⟨S24576x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_call1_v0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩

abbrev nD : Nat := 1
abbrev τ : Topo := Topo.v7x

variable {F : FTy → Type} [FloatOps F]
-- ==== Kernel15.lean ====
abbrev S24576x16384 : Shape := ⟨2, ![24576, 16384]⟩
abbrev S3x12288 : Shape := ⟨2, ![3, 12288]⟩
abbrev S24576x12288 : Shape := ⟨2, ![24576, 12288]⟩
abbrev S512x1024 : Shape := ⟨2, ![512, 1024]⟩
abbrev S8x1024 : Shape := ⟨2, ![8, 1024]⟩
abbrev S3x1024 : Shape := ⟨2, ![3, 1024]⟩
abbrev S1x1024 : Shape := ⟨2, ![1, 1024]⟩

abbrev nBuf : Space → Nat
  | .hbm => 3
  | .vmem => 10
  | .smem => 0
  | _ => 0

abbrev bufTy : (tb : Table) → Fin (tcTables nBuf tb) → BufTy
  | .hbm, ⟨0, _⟩ => ⟨S24576x16384, .f32⟩
  | .hbm, ⟨1, _⟩ => ⟨S3x12288, .f32⟩
  | .hbm, ⟨2, _⟩ => ⟨S24576x12288, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S3x1024, .f32⟩
  | .local _ .vmem, ⟨7, _⟩ => ⟨S3x1024, .f32⟩
  | .local _ .vmem, ⟨8, _⟩ => ⟨S512x1024, .f32⟩
  | .local _ .vmem, ⟨9, _⟩ => ⟨S512x1024, .f32⟩
  | _, _ => ⟨S24576x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c3071_i32 : BitVec 32 := 3071#32
  let v2 : BitVec 32 := Scalar.minsi v1 c3071_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S24576x16384 : Shape := ⟨2, ![24576, 16384]⟩
abbrev S3x12288 : Shape := ⟨2, ![3, 12288]⟩
abbrev S24576x12288 : Shape := ⟨2, ![24576, 12288]⟩
abbrev S16384x12288 : Shape := ⟨2, ![16384, 12288]⟩
abbrev S2x8192x12288 : Shape := ⟨3, ![2, 8192, 12288]⟩
abbrev S8192x12288 : Shape := ⟨2, ![8192, 12288]⟩
abbrev S2x4096x12288 : Shape := ⟨3, ![2, 4096, 12288]⟩
abbrev S_ : Shape := ⟨0, ![]⟩
abbrev S2x8194x12288 : Shape := ⟨3, ![2, 8194, 12288]⟩
abbrev S1x12288 : Shape := ⟨2, ![1, 12288]⟩
abbrev S12288 : Shape := ⟨1, ![12288]⟩
abbrev S1x1x12288 : Shape := ⟨3, ![1, 1, 12288]⟩
abbrev S2x4098x12288 : Shape := ⟨3, ![2, 4098, 12288]⟩

abbrev nBuf : Space → Nat
  | .hbm => 74
  | .vmem => 0
  | .smem => 0
  | _ => 0

abbrev bufTy : (tb : Table) → Fin (tcTables nBuf tb) → BufTy
  | .hbm, ⟨0, _⟩ => ⟨S24576x16384, .f32⟩
  | .hbm, ⟨1, _⟩ => ⟨S3x12288, .f32⟩
  | .hbm, ⟨2, _⟩ => ⟨S24576x12288, .f32⟩
  | .hbm, ⟨3, _⟩ => ⟨S16384x12288, .f32⟩
  | .hbm, ⟨4, _⟩ => ⟨S2x8192x12288, .f32⟩
  | .hbm, ⟨5, _⟩ => ⟨S8192x12288, .f32⟩
  | .hbm, ⟨6, _⟩ => ⟨S2x4096x12288, .f32⟩
  | .hbm, ⟨7, _⟩ => ⟨S_, .i32⟩
  | .hbm, ⟨8, _⟩ => ⟨S_, .f32⟩
  | .hbm, ⟨9, _⟩ => ⟨S2x8194x12288, .f32⟩
  | .hbm, ⟨10, _⟩ => ⟨S2x8192x12288, .f32⟩
  | .hbm, ⟨11, _⟩ => ⟨S1x12288, .f32⟩
  | .hbm, ⟨12, _⟩ => ⟨S12288, .f32⟩
  | .hbm, ⟨13, _⟩ => ⟨S1x1x12288, .f32⟩
  | .hbm, ⟨14, _⟩ => ⟨S2x8192x12288, .f32⟩
  | .hbm, ⟨15, _⟩ => ⟨S2x8192x12288, .f32⟩
  | .hbm, ⟨16, _⟩ => ⟨S2x8192x12288, .f32⟩
  | .hbm, ⟨17, _⟩ => ⟨S1x12288, .f32⟩
  | .hbm, ⟨18, _⟩ => ⟨S12288, .f32⟩
  | .hbm, ⟨19, _⟩ => ⟨S1x1x12288, .f32⟩
  | .hbm, ⟨20, _⟩ => ⟨S2x8192x12288, .f32⟩
  | .hbm, ⟨21, _⟩ => ⟨S2x8192x12288, .f32⟩
  | .hbm, ⟨22, _⟩ => ⟨S2x8192x12288, .f32⟩
  | .hbm, ⟨23, _⟩ => ⟨S2x8192x12288, .f32⟩
  | .hbm, ⟨24, _⟩ => ⟨S1x12288, .f32⟩
  | .hbm, ⟨25, _⟩ => ⟨S12288, .f32⟩
  | .hbm, ⟨26, _⟩ => ⟨S1x1x12288, .f32⟩
  | .hbm, ⟨27, _⟩ => ⟨S2x8192x12288, .f32⟩
  | .hbm, ⟨28, _⟩ => ⟨S2x8192x12288, .f32⟩
  | .hbm, ⟨29, _⟩ => ⟨S2x8192x12288, .f32⟩
  | .hbm, ⟨30, _⟩ => ⟨S2x8192x12288, .f32⟩
  | .hbm, ⟨31, _⟩ => ⟨S2x8192x12288, .f32⟩
  | .hbm, ⟨32, _⟩ => ⟨S_, .f32⟩
  | .hbm, ⟨33, _⟩ => ⟨S2x8192x12288, .f32⟩
  | .hbm, ⟨34, _⟩ => ⟨S2x8192x12288, .f32⟩
  | .hbm, ⟨35, _⟩ => ⟨S_, .f32⟩
  | .hbm, ⟨36, _⟩ => ⟨S2x8192x12288, .f32⟩
  | .hbm, ⟨37, _⟩ => ⟨S2x8192x12288, .f32⟩
  | .hbm, ⟨38, _⟩ => ⟨S2x8192x12288, .f32⟩
  | .hbm, ⟨39, _⟩ => ⟨S_, .i32⟩
  | .hbm, ⟨40, _⟩ => ⟨S_, .f32⟩
  | .hbm, ⟨41, _⟩ => ⟨S2x4098x12288, .f32⟩
  | .hbm, ⟨42, _⟩ => ⟨S2x4096x12288, .f32⟩
  | .hbm, ⟨43, _⟩ => ⟨S1x12288, .f32⟩
  | .hbm, ⟨44, _⟩ => ⟨S12288, .f32⟩
  | .hbm, ⟨45, _⟩ => ⟨S1x1x12288, .f32⟩
  | .hbm, ⟨46, _⟩ => ⟨S2x4096x12288, .f32⟩
  | .hbm, ⟨47, _⟩ => ⟨S2x4096x12288, .f32⟩
  | .hbm, ⟨48, _⟩ => ⟨S2x4096x12288, .f32⟩
  | .hbm, ⟨49, _⟩ => ⟨S1x12288, .f32⟩
  | .hbm, ⟨50, _⟩ => ⟨S12288, .f32⟩
  | .hbm, ⟨51, _⟩ => ⟨S1x1x12288, .f32⟩
  | .hbm, ⟨52, _⟩ => ⟨S2x4096x12288, .f32⟩
  | .hbm, ⟨53, _⟩ => ⟨S2x4096x12288, .f32⟩
  | .hbm, ⟨54, _⟩ => ⟨S2x4096x12288, .f32⟩
  | .hbm, ⟨55, _⟩ => ⟨S2x4096x12288, .f32⟩
  | .hbm, ⟨56, _⟩ => ⟨S1x12288, .f32⟩
  | .hbm, ⟨57, _⟩ => ⟨S12288, .f32⟩
  | .hbm, ⟨58, _⟩ => ⟨S1x1x12288, .f32⟩
  | .hbm, ⟨59, _⟩ => ⟨S2x4096x12288, .f32⟩
  | .hbm, ⟨60, _⟩ => ⟨S2x4096x12288, .f32⟩
  | .hbm, ⟨61, _⟩ => ⟨S2x4096x12288, .f32⟩
  | .hbm, ⟨62, _⟩ => ⟨S2x4096x12288, .f32⟩
  | .hbm, ⟨63, _⟩ => ⟨S2x4096x12288, .f32⟩
  | .hbm, ⟨64, _⟩ => ⟨S_, .f32⟩
  | .hbm, ⟨65, _⟩ => ⟨S2x4096x12288, .f32⟩
  | .hbm, ⟨66, _⟩ => ⟨S2x4096x12288, .f32⟩
  | .hbm, ⟨67, _⟩ => ⟨S_, .f32⟩
  | .hbm, ⟨68, _⟩ => ⟨S2x4096x12288, .f32⟩
  | .hbm, ⟨69, _⟩ => ⟨S2x4096x12288, .f32⟩
  | .hbm, ⟨70, _⟩ => ⟨S2x4096x12288, .f32⟩
  | .hbm, ⟨71, _⟩ => ⟨S16384x12288, .f32⟩
  | .hbm, ⟨72, _⟩ => ⟨S8192x12288, .f32⟩
  | .hbm, ⟨73, _⟩ => ⟨S24576x12288, .f32⟩
  | _, _ => ⟨S24576x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v26 : Ref sig .tc := ⟨.hbm, 38, rfl⟩
abbrev main_c_0 : Ref sig .tc := ⟨.hbm, 39, rfl⟩
abbrev main_call2_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_call3_v0 : Ref sig .tc := ⟨.hbm, 62, rfl⟩
abbrev main_call3_v1 : Ref sig .tc := ⟨.hbm, 63, rfl⟩
abbrev main_call3_cst : Ref sig .tc := ⟨.hbm, 64, rfl⟩
abbrev main_call3_v2 : Ref sig .tc := ⟨.hbm, 65, rfl⟩
abbrev main_call3_v3 : Ref sig .tc := ⟨.hbm, 66, rfl⟩
abbrev main_call3_cst_0 : Ref sig .tc := ⟨.hbm, 67, rfl⟩
abbrev main_call3_v4 : Ref sig .tc := ⟨.hbm, 68, rfl⟩
abbrev main_call3_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩

abbrev nD : Nat := 1
abbrev τ : Topo := Topo.v7x

variable {F : FTy → Type} [FloatOps F]
-- ==== Kernel16.lean ====
abbrev S8x4096 : Shape := ⟨2, ![8, 4096]⟩
abbrev S4096x24576 : Shape := ⟨2, ![4096, 24576]⟩
abbrev S24576 : Shape := ⟨1, ![24576]⟩
abbrev S1x24576 : Shape := ⟨2, ![1, 24576]⟩
abbrev S1x4096x24576 : Shape := ⟨3, ![1, 4096, 24576]⟩
abbrev S8x24576 : Shape := ⟨2, ![8, 24576]⟩
abbrev S8x1024 : Shape := ⟨2, ![8, 1024]⟩
abbrev S1x1024x2048 : Shape := ⟨3, ![1, 1024, 2048]⟩
abbrev S1x2048 : Shape := ⟨2, ![1, 2048]⟩
abbrev S8x2048 : Shape := ⟨2, ![8, 2048]⟩
abbrev S1024x2048 : Shape := ⟨2, ![1024, 2048]⟩

abbrev nBuf : Space → Nat
  | .hbm => 6
  | .vmem => 9
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S24576, .f32⟩
  | .hbm, ⟨3, _⟩ => ⟨S1x24576, .f32⟩
  | .hbm, ⟨4, _⟩ => ⟨S1x4096x24576, .f32⟩
  | .hbm, ⟨5, _⟩ => ⟨S8x24576, .f32⟩
  | .local _ .vmem, ⟨0, _⟩ => ⟨S8x1024, .f32⟩
  | .local _ .vmem, ⟨1, _⟩ => ⟨S8x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x2048, .f32⟩
  | .local _ .vmem, ⟨5, _⟩ => ⟨S1x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 1, 12, 4], ![false, false, false, false]⟩

def k0_cond2 (i : grid0.Coords) : BitVec 1 :=
  let arg3 : BitVec 32 := BitVec.ofNat 32 (i 3).val
  let c3_i32 : BitVec 32 := 3#32
  let v16 : BitVec 1 := Scalar.cmpi .eq arg3 c3_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c0_i32 : BitVec 32 := 0#32
  ![arg1.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c12_i32 : BitVec 32 := 12#32
  let v0 : BitVec 32 := Scalar.muli arg0 c12_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c12_i32 : BitVec 32 := 12#32
  let v0 : BitVec 32 := Scalar.muli arg0 c12_i32
  let v1 : BitVec 32 := Scalar.addi v0 arg2
  let c0_i32 : BitVec 32 := 0#32
  ![arg1.toNat, v1.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference16Ideal.lean ====
abbrev S8x4096 : Shape := ⟨2, ![8, 4096]⟩
abbrev S4096x24576 : Shape := ⟨2, ![4096, 24576]⟩
abbrev S24576 : Shape := ⟨1, ![24576]⟩
abbrev S_ : Shape := ⟨0, ![]⟩
abbrev S8x24576 : Shape := ⟨2, ![8, 24576]⟩
abbrev S1x24576 : Shape := ⟨2, ![1, 24576]⟩

abbrev nBuf : Space → Nat
  | .hbm => 16
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S4096x24576, .f32⟩
  | .hbm, ⟨2, _⟩ => ⟨S24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x24576, .f32⟩
  | .hbm, ⟨13, _⟩ => ⟨S1x24576, .f32⟩
  | .hbm, ⟨14, _⟩ => ⟨S8x24576, .f32⟩
  | .hbm, ⟨15, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel17.lean ====
abbrev S24576x4096 : Shape := ⟨2, ![24576, 4096]⟩
abbrev S512x512 : Shape := ⟨2, ![512, 512]⟩
abbrev S8x512 : Shape := ⟨2, ![8, 512]⟩
abbrev S528x512 : Shape := ⟨2, ![528, 512]⟩
abbrev S512x1 : Shape := ⟨2, ![512, 1]⟩

abbrev nBuf : Space → Nat
  | .hbm => 2
  | .vmem => 8
  | .smem => 0
  | _ => 0

abbrev bufTy : (tb : Table) → Fin (tcTables nBuf tb) → BufTy
  | .hbm, ⟨0, _⟩ => ⟨S24576x4096, .f32⟩
  | .hbm, ⟨1, _⟩ => ⟨S24576x4096, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .bf16⟩
  | .local _ .vmem, ⟨7, _⟩ => ⟨S512x512, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c3071_i32 : BitVec 32 := 3071#32
  let v2 : BitVec 32 := Scalar.minsi v1 c3071_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S24576x4096 : Shape := ⟨2, ![24576, 4096]⟩
abbrev S16384x4096 : Shape := ⟨2, ![16384, 4096]⟩
abbrev S2x8192x4096 : Shape := ⟨3, ![2, 8192, 4096]⟩
abbrev S8192x4096 : Shape := ⟨2, ![8192, 4096]⟩
abbrev S2x4096x4096 : Shape := ⟨3, ![2, 4096, 4096]⟩
abbrev S8192 : Shape := ⟨1, ![8192]⟩
abbrev S_ : Shape := ⟨0, ![]⟩
abbrev S2x8208x4096 : Shape := ⟨3, ![2, 8208, 4096]⟩
abbrev S2x8192x1024 : Shape := ⟨3, ![2, 8192, 1024]⟩
abbrev S1x8192x1 : Shape := ⟨3, ![1, 8192, 1]⟩
abbrev S4096 : Shape := ⟨1, ![4096]⟩
abbrev S2x4112x4096 : Shape := ⟨3, ![2, 4112, 4096]⟩
abbrev S2x4096x1024 : Shape := ⟨3, ![2, 4096, 1024]⟩
abbrev S1x4096x1 : Shape := ⟨3, ![1, 4096, 1]⟩

abbrev nBuf : Space → Nat
  | .hbm => 283
  | .vmem => 0
  | .smem => 0
  | _ => 0

abbrev hbmTy0_0 (i : Nat) : BufTy := match i % 128 with
  | 0 => ⟨S24576x4096, .f32⟩
  | 1 => ⟨S16384x4096, .f32⟩
  | 2 => ⟨S2x8192x4096, .f32⟩
  | 3 => ⟨S8192x4096, .f32⟩
  | 4 => ⟨S2x4096x4096, .f32⟩
  | 5 => ⟨S8192, .i32⟩
  | 6 => ⟨S_, .i32⟩
  | 7 => ⟨S_, .f32⟩
  | 8 => ⟨S2x8208x4096, .f32⟩
  | 9 => ⟨S2x8192x1024, .f32⟩
  | 10 => ⟨S2x8192x1024, .f32⟩
  | 11 => ⟨S2x8192x1024, .f32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192, .i32⟩
  | 25 => ⟨S8192, .f32⟩
  | 26 => ⟨S1x8192x1, .f32⟩
  | 27 => ⟨S2x8192x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S_, .i32⟩
  | 48 => ⟨S8192, .i32⟩
  | 49 => ⟨S8192, .i32⟩
  | 50 => ⟨S8192, .i32⟩
  | 51 => ⟨S8192, .f32⟩
  | 52 => ⟨S1x8192x1, .f32⟩
  | 53 => ⟨S2x8192x1024, .f32⟩
  | 54 => ⟨S2x8192x1024, .f32⟩
  | 55 => ⟨S2x8192x1024, .f32⟩
  | 56 => ⟨S2x8192x1024, .f32⟩
  | 57 => ⟨S2x8192x1024, .f32⟩
  | 58 => ⟨S2x8192x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S2x8192x1024, .f32⟩
  | 64 => ⟨S2x8192x1024, .f32⟩
  | 65 => ⟨S2x8192x1024, .f32⟩
  | 66 => ⟨S2x8192x1024, .f32⟩
  | 67 => ⟨S2x8192x1024, .f32⟩
  | 68 => ⟨S2x8192x1024, .f32⟩
  | 69 => ⟨S2x8192x1024, .f32⟩
  | 70 => ⟨S2x8192x1024, .f32⟩
  | 71 => ⟨S2x8192x1024, .f32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S_, .i32⟩
  | 82 => ⟨S8192, .i32⟩
  | 83 => ⟨S8192, .i32⟩
  | 84 => ⟨S8192, .i32⟩
  | 85 => ⟨S8192, .f32⟩
  | 86 => ⟨S1x8192x1, .f32⟩
  | 87 => ⟨S2x8192x1024, .f32⟩
  | 88 => ⟨S2x8192x1024, .f32⟩
  | 89 => ⟨S2x8192x1024, .f32⟩
  | 90 => ⟨S2x8192x1024, .f32⟩
  | 91 => ⟨S2x8192x1024, .f32⟩
  | 92 => ⟨S2x8192x1024, .f32⟩
  | 93 => ⟨S2x8192x1024, .f32⟩
  | 94 => ⟨S2x8192x1024, .f32⟩
  | 95 => ⟨S2x8192x1024, .f32⟩
  | 96 => ⟨S2x8192x1024, .f32⟩
  | 97 => ⟨S2x8192x1024, .f32⟩
  | 98 => ⟨S2x8192x1024, .f32⟩
  | 99 => ⟨S2x8192x1024, .f32⟩
  | 100 => ⟨S2x8192x1024, .f32⟩
  | 101 => ⟨S2x8192x1024, .f32⟩
  | 102 => ⟨S2x8192x1024, .f32⟩
  | 103 => ⟨S2x8192x1024, .f32⟩
  | 104 => ⟨S2x8192x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S2x8192x1024, .f32⟩
  | 110 => ⟨S2x8192x1024, .f32⟩
  | 111 => ⟨S2x8192x1024, .f32⟩
  | 112 => ⟨S2x8192x1024, .f32⟩
  | 113 => ⟨S2x8192x1024, .f32⟩
  | 114 => ⟨S2x8192x1024, .f32⟩
  | 115 => ⟨S2x8192x1024, .f32⟩
  | 116 => ⟨S2x8192x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S2x8192x1024, .f32⟩
  | 122 => ⟨S_, .i32⟩
  | 123 => ⟨S8192, .i32⟩
  | 124 => ⟨S8192, .i32⟩
  | 125 => ⟨S_, .i32⟩
  | 126 => ⟨S8192, .i32⟩
  | 127 => ⟨S8192, .i32⟩
  | _ => ⟨S24576x4096, .f32⟩

abbrev hbmTy0_1 (i : Nat) : BufTy := match i % 128 with
  | 0 => ⟨S_, .i32⟩
  | 1 => ⟨S8192, .i32⟩
  | 2 => ⟨S8192, .i32⟩
  | 3 => ⟨S_, .i32⟩
  | 4 => ⟨S8192, .i32⟩
  | 5 => ⟨S8192, .i32⟩
  | 6 => ⟨S8192, .i32⟩
  | 7 => ⟨S8192, .f32⟩
  | 8 => ⟨S1x8192x1, .f32⟩
  | 9 => ⟨S2x8192x1024, .f32⟩
  | 10 => ⟨S2x8192x1024, .f32⟩
  | 11 => ⟨S2x8192x1024, .f32⟩
  | 12 => ⟨S2x8192x1024, .f32⟩
  | 13 => ⟨S2x8192x4096, .f32⟩
  | 14 => ⟨S4096, .i32⟩
  | 15 => ⟨S_, .i32⟩
  | 16 => ⟨S_, .f32⟩
  | 17 => ⟨S2x4112x4096, .f32⟩
  | 18 => ⟨S2x4096x1024, .f32⟩
  | 19 => ⟨S2x4096x1024, .f32⟩
  | 20 => ⟨S2x4096x1024, .f32⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S_, .i32⟩
  | 31 => ⟨S4096, .i32⟩
  | 32 => ⟨S4096, .i32⟩
  | 33 => ⟨S4096, .i32⟩
  | 34 => ⟨S4096, .f32⟩
  | 35 => ⟨S1x4096x1, .f32⟩
  | 36 => ⟨S2x4096x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S2x4096x1024, .f32⟩
  | 43 => ⟨S2x4096x1024, .f32⟩
  | 44 => ⟨S2x4096x1024, .f32⟩
  | 45 => ⟨S2x4096x1024, .f32⟩
  | 46 => ⟨S2x4096x1024, .f32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S4096, .i32⟩
  | 60 => ⟨S4096, .f32⟩
  | 61 => ⟨S1x4096x1, .f32⟩
  | 62 => ⟨S2x4096x1024, .f32⟩
  | 63 => ⟨S2x4096x1024, .f32⟩
  | 64 => ⟨S2x4096x1024, .f32⟩
  | 65 => ⟨S2x4096x1024, .f32⟩
  | 66 => ⟨S2x4096x1024, .f32⟩
  | 67 => ⟨S2x4096x1024, .f32⟩
  | 68 => ⟨S2x4096x1024, .f32⟩
  | 69 => ⟨S2x4096x1024, .f32⟩
  | 70 => ⟨S2x4096x1024, .f32⟩
  | 71 => ⟨S2x4096x1024, .f32⟩
  | 72 => ⟨S2x4096x1024, .f32⟩
  | 73 => ⟨S2x4096x1024, .f32⟩
  | 74 => ⟨S2x4096x1024, .f32⟩
  | 75 => ⟨S2x4096x1024, .f32⟩
  | 76 => ⟨S2x4096x1024, .f32⟩
  | 77 => ⟨S2x4096x1024, .f32⟩
  | 78 => ⟨S2x4096x1024, .f32⟩
  | 79 => ⟨S2x4096x1024, .f32⟩
  | 80 => ⟨S2x4096x1024, .f32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i32⟩
  | 93 => ⟨S4096, .i32⟩
  | 94 => ⟨S4096, .f32⟩
  | 95 => ⟨S1x4096x1, .f32⟩
  | 96 => ⟨S2x4096x1024, .f32⟩
  | 97 => ⟨S2x4096x1024, .f32⟩
  | 98 => ⟨S2x4096x1024, .f32⟩
  | 99 => ⟨S2x4096x1024, .f32⟩
  | 100 => ⟨S2x4096x1024, .f32⟩
  | 101 => ⟨S2x4096x1024, .f32⟩
  | 102 => ⟨S2x4096x1024, .f32⟩
  | 103 => ⟨S2x4096x1024, .f32⟩
  | 104 => ⟨S2x4096x1024, .f32⟩
  | 105 => ⟨S2x4096x1024, .f32⟩
  | 106 => ⟨S2x4096x1024, .f32⟩
  | 107 => ⟨S2x4096x1024, .f32⟩
  | 108 => ⟨S2x4096x1024, .f32⟩
  | 109 => ⟨S2x4096x1024, .f32⟩
  | 110 => ⟨S2x4096x1024, .f32⟩
  | 111 => ⟨S2x4096x1024, .f32⟩
  | 112 => ⟨S2x4096x1024, .f32⟩
  | 113 => ⟨S2x4096x1024, .f32⟩
  | 114 => ⟨S2x4096x1024, .f32⟩
  | 115 => ⟨S2x4096x1024, .f32⟩
  | 116 => ⟨S2x4096x1024, .f32⟩
  | 117 => ⟨S2x4096x1024, .f32⟩
  | 118 => ⟨S2x4096x1024, .f32⟩
  | 119 => ⟨S2x4096x1024, .f32⟩
  | 120 => ⟨S2x4096x1024, .f32⟩
  | 121 => ⟨S2x4096x1024, .f32⟩
  | 122 => ⟨S2x4096x1024, .f32⟩
  | 123 => ⟨S2x4096x1024, .f32⟩
  | 124 => ⟨S2x4096x1024, .f32⟩
  | 125 => ⟨S2x4096x1024, .f32⟩
  | 126 => ⟨S2x4096x1024, .f32⟩
  | 127 => ⟨S2x4096x1024, .f32⟩
  | _ => ⟨S24576x4096, .f32⟩

abbrev hbmTy0_2 (i : Nat) : BufTy := match i % 128 with
  | 0 => ⟨S2x4096x1024, .f32⟩
  | 1 => ⟨S2x4096x1024, .f32⟩
  | 2 => ⟨S2x4096x1024, .f32⟩
  | 3 => ⟨S_, .i32⟩
  | 4 => ⟨S4096, .i32⟩
  | 5 => ⟨S4096, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i32⟩
  | 15 => ⟨S4096, .i32⟩
  | 16 => ⟨S4096, .f32⟩
  | 17 => ⟨S1x4096x1, .f32⟩
  | 18 => ⟨S2x4096x1024, .f32⟩
  | 19 => ⟨S2x4096x1024, .f32⟩
  | 20 => ⟨S2x4096x1024, .f32⟩
  | 21 => ⟨S2x4096x1024, .f32⟩
  | 22 => ⟨S2x4096x4096, .f32⟩
  | 23 => ⟨S16384x4096, .f32⟩
  | 24 => ⟨S8192x4096, .f32⟩
  | 25 => ⟨S24576x4096, .f32⟩
  | 26 => ⟨S24576x4096, .bf16⟩
  | _ => ⟨S24576x4096, .f32⟩

abbrev hbmTy (i : Nat) : BufTy := match i / 128 with
  | 0 => hbmTy0_0 i
  | 1 => hbmTy0_1 i
  | 2 => hbmTy0_2 i
  | _ => ⟨S24576x4096, .f32⟩

abbrev bufTy : (tb : Table) → Fin (tcTables nBuf tb) → BufTy
  | .hbm, ⟨i, _⟩ => hbmTy i
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_c : Ref sig .tc := ⟨.hbm, 6, rfl⟩
abbrev main_call0_v0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_c_4 : Ref sig .tc := ⟨.hbm, 38, rfl⟩
abbrev main_v31 : Ref sig .tc := ⟨.hbm, 39, rfl⟩
abbrev main_v32 : Ref sig .tc := ⟨.hbm, 40, rfl⟩
abbrev main_c_5 : Ref sig .tc := ⟨.hbm, 41, rfl⟩
abbrev main_v33 : Ref sig .tc := ⟨.hbm, 42, rfl⟩
abbrev main_v34 : Ref sig .tc := ⟨.hbm, 43, rfl⟩
abbrev main_c_6 : Ref sig .tc := ⟨.hbm, 44, rfl⟩
abbrev main_v35 : Ref sig .tc := ⟨.hbm, 45, rfl⟩
abbrev main_v36 : Ref sig .tc := ⟨.hbm, 46, rfl⟩
abbrev main_c_7 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_8 : Ref sig .tc := ⟨.hbm, 72, rfl⟩
abbrev main_v61 : Ref sig .tc := ⟨.hbm, 73, rfl⟩
abbrev main_v62 : Ref sig .tc := ⟨.hbm, 74, rfl⟩
abbrev main_c_9 : Ref sig .tc := ⟨.hbm, 75, rfl⟩
abbrev main_v63 : Ref sig .tc := ⟨.hbm, 76, rfl⟩
abbrev main_v64 : Ref sig .tc := ⟨.hbm, 77, rfl⟩
abbrev main_c_10 : Ref sig .tc := ⟨.hbm, 78, rfl⟩
abbrev main_v65 : Ref sig .tc := ⟨.hbm, 79, rfl⟩
abbrev main_v66 : Ref sig .tc := ⟨.hbm, 80, rfl⟩
abbrev main_c_11 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_c_12 : Ref sig .tc := ⟨.hbm, 122, rfl⟩
abbrev main_v107 : Ref sig .tc := ⟨.hbm, 123, rfl⟩
abbrev main_v108 : Ref sig .tc := ⟨.hbm, 124, rfl⟩
abbrev main_c_13 : Ref sig .tc := ⟨.hbm, 125, rfl⟩
abbrev main_v109 : Ref sig .tc := ⟨.hbm, 126, rfl⟩
abbrev main_v110 : Ref sig .tc := ⟨.hbm, 127, rfl⟩
abbrev main_c_14 : Ref sig .tc := ⟨.hbm, 128, rfl⟩
abbrev main_v111 : Ref sig .tc := ⟨.hbm, 129, rfl⟩
abbrev main_v112 : Ref sig .tc := ⟨.hbm, 130, rfl⟩
abbrev main_c_15 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_c_16 : Ref sig .tc := ⟨.hbm, 143, rfl⟩
abbrev main_call1_v0 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_c_17 : Ref sig .tc := ⟨.hbm, 149, rfl⟩
abbrev main_v128 : Ref sig .tc := ⟨.hbm, 150, rfl⟩
abbrev main_v129 : Ref sig .tc := ⟨.hbm, 151, rfl⟩
abbrev main_c_18 : Ref sig .tc := ⟨.hbm, 152, rfl⟩
abbrev main_v130 : Ref sig .tc := ⟨.hbm, 153, rfl⟩
abbrev main_v131 : Ref sig .tc := ⟨.hbm, 154, rfl⟩
abbrev main_c_19 : Ref sig .tc := ⟨.hbm, 155, rfl⟩
abbrev main_v132 : Ref sig .tc := ⟨.hbm, 156, rfl⟩
abbrev main_v133 : Ref sig .tc := ⟨.hbm, 157, rfl⟩
abbrev main_c_20 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_c_21 : Ref sig .tc := ⟨.hbm, 175, rfl⟩
abbrev main_v150 : Ref sig .tc := ⟨.hbm, 176, rfl⟩
abbrev main_v151 : Ref sig .tc := ⟨.hbm, 177, rfl⟩
abbrev main_c_22 : Ref sig .tc := ⟨.hbm, 178, rfl⟩
abbrev main_v152 : Ref sig .tc := ⟨.hbm, 179, rfl⟩
abbrev main_v153 : Ref sig .tc := ⟨.hbm, 180, rfl⟩
abbrev main_c_23 : Ref sig .tc := ⟨.hbm, 181, rfl⟩
abbrev main_v154 : Ref sig .tc := ⟨.hbm, 182, rfl⟩
abbrev main_v155 : Ref sig .tc := ⟨.hbm, 183, rfl⟩
abbrev main_c_24 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_c_25 : Ref sig .tc := ⟨.hbm, 209, rfl⟩
abbrev main_v180 : Ref sig .tc := ⟨.hbm, 210, rfl⟩
abbrev main_v181 : Ref sig .tc := ⟨.hbm, 211, rfl⟩
abbrev main_c_26 : Ref sig .tc := ⟨.hbm, 212, rfl⟩
abbrev main_v182 : Ref sig .tc := ⟨.hbm, 213, rfl⟩
abbrev main_v183 : Ref sig .tc := ⟨.hbm, 214, rfl⟩
abbrev main_c_27 : Ref sig .tc := ⟨.hbm, 215, rfl⟩
abbrev main_v184 : Ref sig .tc := ⟨.hbm, 216, rfl⟩
abbrev main_v185 : Ref sig .tc := ⟨.hbm, 217, rfl⟩
abbrev main_c_28 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_c_29 : Ref sig .tc := ⟨.hbm, 259, rfl⟩
abbrev main_v226 : Ref sig .tc := ⟨.hbm, 260, rfl⟩
abbrev main_v227 : Ref sig .tc := ⟨.hbm, 261, rfl⟩
abbrev main_c_30 : Ref sig .tc := ⟨.hbm, 262, rfl⟩
abbrev main_v228 : Ref sig .tc := ⟨.hbm, 263, rfl⟩
abbrev main_v229 : Ref sig .tc := ⟨.hbm, 264, rfl⟩
abbrev main_c_31 : Ref sig .tc := ⟨.hbm, 265, rfl⟩
abbrev main_v230 : Ref sig .tc := ⟨.hbm, 266, rfl⟩
abbrev main_v231 : Ref sig .tc := ⟨.hbm, 267, rfl⟩
abbrev main_c_32 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩

abbrev nD : Nat := 1
abbrev τ : Topo := Topo.v7x

variable {F : FTy → Type} [FloatOps F]
-- ==== Proof.PeerGate.lean ====
/-
  The gate tiles of the PEER mixing: what one store of 128 experts' weights holds, read at a token and an expert.

  Each of the eight heads adds a gate where the sum of the two key scores reaches the head's threshold; the sum of the
  gates multiplies the expert's activation.  The four tiles of a grid point hold the same term of their own row of first
  keys.
-/
module

public import proofs.«01_k».proof.Proof.Gen.KernelIdeal.Skeleton
public import Idealize.ShloMosaic.Lib.Pipeline.ValueKit

@[expose] public section

set_option maxRecDepth 16384

noncomputable section

namespace Cert.KernelIdeal.PeerGate

open Idealize.ShloMosaic Idealize.ShloMosaic.TcCoe Idealize.SL.Sem
open Cert.KernelIdeal Cert.KernelIdeal.Gen

/-- One head's gate of an expert, from the expert's two key scores `s1` and `s2`, the threshold, the first offset and the
    second key's factor `e = exp (s2 - off2)`. -/
def gate (s1 s2 thr off e : EReal) : EReal :=
  if thr ≤ s1 + s2 then Ideal.exp (s1 - off) * e else 0

/-- The expert's activation: the exact GELU. -/
def gelu (x : EReal) : EReal :=
  Ideal.ofBits .f32 0x3F000000#32 * x * (1 + Ideal.erf (x * Ideal.ofBits .f32 0x3F3504F3#32))

set_option maxHeartbeats 1000000 in
/-- Tile 0 of the weights, at a token `b` and an expert `l` of the tile. -/
theorem tile0_at (r0 r1 r2 r3 r4 r5 r6 r7 : Vec Ideal S1x1x512 .f32)
    (k0 k1 k2 k3 k4 k5 k6 k7 : Vec Ideal S1x128x512 .f32) (t0 t1 t2 t3 t4 t5 t6 t7 : Vec Ideal S1x512 .f32)
    (o0 o1 o2 o3 o4 o5 o6 o7 : Vec Ideal S1x512 .f32) (e0 e1 e2 e3 e4 e5 e6 e7 : Vec Ideal S1x128x512 .f32)
    (p : Vec Ideal S128x512 .f32) (b : Fin 512) (l : Fin 128) :
    k0_pay30 (F := Ideal) (k0_pay27 (k0_pay23 (k0_pay19 (k0_pay14 (k0_pay13 r0 k0 t0 o0 e0) r1 k1 t1 o1 e1) (k0_pay16 r2 k2 t2) (k0_pay17 e2) (k0_pay18 r2 o2) r3 k3 t3 o3 e3) (k0_pay21 r4 k4 t4) (k0_pay22 r4 o4) e4 r5 k5 t5 o5 e5) (k0_pay24 r6) (k0_pay25 r6 k6) (k0_pay26 t6) o6 e6 r7 k7 t7 o7 e7) (k0_pay28 p) (k0_pay29 p) (ix2 b l)
      = (gate (r0 (ix3 0 0 b)) (k0 (ix3 0 l b)) (t0 (ix2 0 b)) (o0 (ix2 0 b)) (e0 (ix3 0 l b))
        + gate (r1 (ix3 0 0 b)) (k1 (ix3 0 l b)) (t1 (ix2 0 b)) (o1 (ix2 0 b)) (e1 (ix3 0 l b))
        + gate (r2 (ix3 0 0 b)) (k2 (ix3 0 l b)) (t2 (ix2 0 b)) (o2 (ix2 0 b)) (e2 (ix3 0 l b))
        + gate (r3 (ix3 0 0 b)) (k3 (ix3 0 l b)) (t3 (ix2 0 b)) (o3 (ix2 0 b)) (e3 (ix3 0 l b))
        + gate (r4 (ix3 0 0 b)) (k4 (ix3 0 l b)) (t4 (ix2 0 b)) (o4 (ix2 0 b)) (e4 (ix3 0 l b))
        + gate (r5 (ix3 0 0 b)) (k5 (ix3 0 l b)) (t5 (ix2 0 b)) (o5 (ix2 0 b)) (e5 (ix3 0 l b))
        + gate (r6 (ix3 0 0 b)) (k6 (ix3 0 l b)) (t6 (ix2 0 b)) (o6 (ix2 0 b)) (e6 (ix3 0 l b))
        + gate (r7 (ix3 0 0 b)) (k7 (ix3 0 l b)) (t7 (ix2 0 b)) (o7 (ix2 0 b)) (e7 (ix3 0 l b)))
        * gelu (p (ix2 l b)) := by
  pointwise [k0_pay13, k0_pay14, k0_pay16, k0_pay17, k0_pay18, k0_pay19, k0_pay21, k0_pay22, k0_pay23, k0_pay24, k0_pay25, k0_pay26, k0_pay27, k0_pay28, k0_pay29, k0_pay30, k0_pay15, k0_pay20, gate, gelu]
  rfl

set_option maxHeartbeats 1000000 in
/-- Tile 1 of the weights, at a token `b` and an expert `l` of the tile. -/
theorem tile1_at (r0 r1 r2 r3 r4 r5 r6 r7 : Vec Ideal S1x1x512 .f32)
    (k0 k1 k2 k3 k4 k5 k6 k7 : Vec Ideal S1x128x512 .f32) (t0 t1 t2 t3 t4 t5 t6 t7 : Vec Ideal S1x512 .f32)
    (o0 o1 o2 o3 o4 o5 o6 o7 : Vec Ideal S1x512 .f32) (e0 e1 e2 e3 e4 e5 e6 e7 : Vec Ideal S1x128x512 .f32)
    (p : Vec Ideal S128x512 .f32) (b : Fin 512) (l : Fin 128) :
    k0_pay44 (F := Ideal) (k0_pay43 (k0_pay39 (k0_pay37 (k0_pay35 (k0_pay31 r0 k0 t0 o0 e0) (k0_pay32 r1) (k0_pay33 k1) (k0_pay34 r1) t1 o1 e1 r2 k2 t2 o2 e2) (k0_pay36 r3) k3 t3 o3 e3) (k0_pay38 r4 k4 t4 o4 e4) r5 k5 t5 o5 e5) (k0_pay41 r6 k6 t6) (k0_pay42 r6 o6) e6 r7 k7 t7 o7 e7 p) (ix2 b l)
      = (gate (r0 (ix3 0 0 b)) (k0 (ix3 0 l b)) (t0 (ix2 0 b)) (o0 (ix2 0 b)) (e0 (ix3 0 l b))
        + gate (r1 (ix3 0 0 b)) (k1 (ix3 0 l b)) (t1 (ix2 0 b)) (o1 (ix2 0 b)) (e1 (ix3 0 l b))
        + gate (r2 (ix3 0 0 b)) (k2 (ix3 0 l b)) (t2 (ix2 0 b)) (o2 (ix2 0 b)) (e2 (ix3 0 l b))
        + gate (r3 (ix3 0 0 b)) (k3 (ix3 0 l b)) (t3 (ix2 0 b)) (o3 (ix2 0 b)) (e3 (ix3 0 l b))
        + gate (r4 (ix3 0 0 b)) (k4 (ix3 0 l b)) (t4 (ix2 0 b)) (o4 (ix2 0 b)) (e4 (ix3 0 l b))
        + gate (r5 (ix3 0 0 b)) (k5 (ix3 0 l b)) (t5 (ix2 0 b)) (o5 (ix2 0 b)) (e5 (ix3 0 l b))
        + gate (r6 (ix3 0 0 b)) (k6 (ix3 0 l b)) (t6 (ix2 0 b)) (o6 (ix2 0 b)) (e6 (ix3 0 l b))
        + gate (r7 (ix3 0 0 b)) (k7 (ix3 0 l b)) (t7 (ix2 0 b)) (o7 (ix2 0 b)) (e7 (ix3 0 l b)))
        * gelu (p (ix2 l b)) := by
  pointwise [k0_pay31, k0_pay32, k0_pay33, k0_pay34, k0_pay35, k0_pay36, k0_pay37, k0_pay38, k0_pay39, k0_pay41, k0_pay42, k0_pay43, k0_pay44, k0_pay40, gate, gelu]
  rfl

set_option maxHeartbeats 1000000 in
/-- Tile 2 of the weights, at a token `b` and an expert `l` of the tile. -/
theorem tile2_at (r0 r1 r2 r3 r4 r5 r6 r7 : Vec Ideal S1x1x512 .f32)
    (k0 k1 k2 k3 k4 k5 k6 k7 : Vec Ideal S1x128x512 .f32) (t0 t1 t2 t3 t4 t5 t6 t7 : Vec Ideal S1x512 .f32)
    (o0 o1 o2 o3 o4 o5 o6 o7 : Vec Ideal S1x512 .f32) (e0 e1 e2 e3 e4 e5 e6 e7 : Vec Ideal S1x128x512 .f32)
    (p : Vec Ideal S128x512 .f32) (b : Fin 512) (l : Fin 128) :
    k0_pay55 (F := Ideal) (k0_pay54 (k0_pay52 (k0_pay49 (k0_pay45 r0 k0 t0 o0 e0) (k0_pay47 r1 k1 t1) (k0_pay48 r1 o1) e1 r2 k2 t2 o2 e2) (k0_pay50 r3) (k0_pay51 r3 k3) t3 o3 e3 r4 k4 t4 o4 e4) (k0_pay53 r5) k5 t5 o5 e5 r6 k6 t6 o6 e6) r7 k7 t7 o7 e7 p (ix2 b l)
      = (gate (r0 (ix3 0 0 b)) (k0 (ix3 0 l b)) (t0 (ix2 0 b)) (o0 (ix2 0 b)) (e0 (ix3 0 l b))
        + gate (r1 (ix3 0 0 b)) (k1 (ix3 0 l b)) (t1 (ix2 0 b)) (o1 (ix2 0 b)) (e1 (ix3 0 l b))
        + gate (r2 (ix3 0 0 b)) (k2 (ix3 0 l b)) (t2 (ix2 0 b)) (o2 (ix2 0 b)) (e2 (ix3 0 l b))
        + gate (r3 (ix3 0 0 b)) (k3 (ix3 0 l b)) (t3 (ix2 0 b)) (o3 (ix2 0 b)) (e3 (ix3 0 l b))
        + gate (r4 (ix3 0 0 b)) (k4 (ix3 0 l b)) (t4 (ix2 0 b)) (o4 (ix2 0 b)) (e4 (ix3 0 l b))
        + gate (r5 (ix3 0 0 b)) (k5 (ix3 0 l b)) (t5 (ix2 0 b)) (o5 (ix2 0 b)) (e5 (ix3 0 l b))
        + gate (r6 (ix3 0 0 b)) (k6 (ix3 0 l b)) (t6 (ix2 0 b)) (o6 (ix2 0 b)) (e6 (ix3 0 l b))
        + gate (r7 (ix3 0 0 b)) (k7 (ix3 0 l b)) (t7 (ix2 0 b)) (o7 (ix2 0 b)) (e7 (ix3 0 l b)))
        * gelu (p (ix2 l b)) := by
  pointwise [k0_pay45, k0_pay47, k0_pay48, k0_pay49, k0_pay50, k0_pay51, k0_pay52, k0_pay53, k0_pay54, k0_pay55, k0_pay46, gate, gelu]
  rfl

set_option maxHeartbeats 1000000 in
/-- Tile 3 of the weights, at a token `b` and an expert `l` of the tile. -/
theorem tile3_at (r0 r1 r2 r3 r4 r5 r6 r7 : Vec Ideal S1x1x512 .f32)
    (k0 k1 k2 k3 k4 k5 k6 k7 : Vec Ideal S1x128x512 .f32) (t0 t1 t2 t3 t4 t5 t6 t7 : Vec Ideal S1x512 .f32)
    (o0 o1 o2 o3 o4 o5 o6 o7 : Vec Ideal S1x512 .f32) (e0 e1 e2 e3 e4 e5 e6 e7 : Vec Ideal S1x128x512 .f32)
    (p : Vec Ideal S128x512 .f32) (b : Fin 512) (l : Fin 128) :
    k0_pay71 (F := Ideal) (k0_pay68 (k0_pay65 (k0_pay61 (k0_pay56 r0 k0 t0 o0 e0) (k0_pay58 r1 k1 t1) (k0_pay59 r1 o1 e1) (k0_pay60 (F := Ideal)) r2 k2 t2 o2 e2) (k0_pay63 r3 k3 t3) (k0_pay64 r3 o3) e3 r4 k4 t4 o4 e4) (k0_pay66 r5) (k0_pay67 r5 k5 t5) o5 e5 r6 k6 t6 o6 e6) (k0_pay69 r7) (k0_pay70 r7 k7) t7 o7 e7 p (ix2 b l)
      = (gate (r0 (ix3 0 0 b)) (k0 (ix3 0 l b)) (t0 (ix2 0 b)) (o0 (ix2 0 b)) (e0 (ix3 0 l b))
        + gate (r1 (ix3 0 0 b)) (k1 (ix3 0 l b)) (t1 (ix2 0 b)) (o1 (ix2 0 b)) (e1 (ix3 0 l b))
        + gate (r2 (ix3 0 0 b)) (k2 (ix3 0 l b)) (t2 (ix2 0 b)) (o2 (ix2 0 b)) (e2 (ix3 0 l b))
        + gate (r3 (ix3 0 0 b)) (k3 (ix3 0 l b)) (t3 (ix2 0 b)) (o3 (ix2 0 b)) (e3 (ix3 0 l b))
        + gate (r4 (ix3 0 0 b)) (k4 (ix3 0 l b)) (t4 (ix2 0 b)) (o4 (ix2 0 b)) (e4 (ix3 0 l b))
        + gate (r5 (ix3 0 0 b)) (k5 (ix3 0 l b)) (t5 (ix2 0 b)) (o5 (ix2 0 b)) (e5 (ix3 0 l b))
        + gate (r6 (ix3 0 0 b)) (k6 (ix3 0 l b)) (t6 (ix2 0 b)) (o6 (ix2 0 b)) (e6 (ix3 0 l b))
        + gate (r7 (ix3 0 0 b)) (k7 (ix3 0 l b)) (t7 (ix2 0 b)) (o7 (ix2 0 b)) (e7 (ix3 0 l b)))
        * gelu (p (ix2 l b)) := by
  pointwise [k0_pay56, k0_pay58, k0_pay59, k0_pay60, k0_pay61, k0_pay63, k0_pay64, k0_pay65, k0_pay66, k0_pay67, k0_pay68, k0_pay69, k0_pay70, k0_pay71, k0_pay57, k0_pay62, gate, gelu]
  rfl

end Cert.KernelIdeal.PeerGate

end
-- ==== Proof.PeerLoads.lean ====
/-
  The loads of the PEER mixing, read.

  `weight` is the weight of one expert for one token as the kernel computes it at one grid point, from the blocks its
  windows hold: the gates of the eight heads, summed, times the activation.  The lemmas read the loads of single rows
  and heads out of those blocks and add the heads up, and read the stores of the four column pieces of the output.
-/
module

public import proofs.«01_k».proof.Proof.Gen.KernelIdeal.Frame
public import proofs.«01_k».proof.Proof.PeerGate
public import Idealize.ShloMosaic.Lib.Pipeline.ReadBack
public import Idealize.ShloMosaic.Lib.Pipeline.Value

@[expose] public section

set_option maxRecDepth 16384

noncomputable section

namespace Cert.KernelIdeal.PeerLoads

open Idealize.ShloMosaic Idealize.ShloMosaic.TcCoe Idealize.SL.Sem
open Idealize.ShloMosaic.Pipeline (Dat)
open Cert.KernelIdeal Cert.KernelIdeal.Gen
open Cert.KernelIdeal.PeerGate

/-- The weight of expert `k` of expert block `e` for token `b`: its gates over the eight heads, times its activation. -/
def weight (u h : FVec Ideal S512x4096 .bf16) (s1 s2 : FVec Ideal S8x128x512 .f32) (thr off : FVec Ideal S8x512 .f32)
    (e2 : FVec Ideal S8x128x512 .f32) (e : Fin 32) (b k : Fin 512) : EReal :=
  (∑ a : Fin 8, gate (s1 (ix3 a ⟨4 * e.val + k.val / 128, by omega⟩ b)) (s2 (ix3 a ⟨k.val % 128, by omega⟩ b)) (thr (ix2 a b))
    (off (ix2 a b)) (e2 (ix3 a ⟨k.val % 128, by omega⟩ b))) * gelu (∑ d : Fin 4096, u (ix2 k d) * h (ix2 b d))

/-- The expert block's products with a column piece of its rows are added to the output piece: the last piece. -/
theorem piece3_at (w : FVec Ideal S512x512 .bf16) (o : FVec Ideal S512x1024 .f32) (v : FVec Ideal S512x1024 .bf16) (x : S512x1024.Idx) :
    k0_pay1 (F := Ideal) w (k0_pay75 o) (k0_pay76 v) (constant S512x1024 .f32 0x00000000#32) x
      = o x + ∑ k : Fin 512, w (ix2 (x 0) k) * v (ix2 k (x 1)) := by
  pointwise [k0_pay1, k0_pay75, k0_pay76]

/-- The first piece. -/
theorem piece0_at (w : FVec Ideal S512x512 .bf16) (o : FVec Ideal S512x1024 .f32) (v : FVec Ideal S512x1024 .bf16) (x : S512x1024.Idx) :
    k0_pay72 (F := Ideal) w o v x = o x + ∑ k : Fin 512, w (ix2 (x 0) k) * v (ix2 k (x 1)) := by
  pointwise [k0_pay72]

/-- The second piece. -/
theorem piece1_at (w : FVec Ideal S512x512 .bf16) (o : FVec Ideal S512x1024 .f32) (v : FVec Ideal S512x1024 .bf16) (x : S512x1024.Idx) :
    k0_pay73 (F := Ideal) w o v x = o x + ∑ k : Fin 512, w (ix2 (x 0) k) * v (ix2 k (x 1)) := by
  pointwise [k0_pay73]

/-- The third piece. -/
theorem piece2_at (w : FVec Ideal S512x512 .bf16) (o : FVec Ideal S512x1024 .f32) (v : FVec Ideal S512x1024 .bf16) (x : S512x1024.Idx) :
    k0_pay74 (F := Ideal) w o v x = o x + ∑ k : Fin 512, w (ix2 (x 0) k) * v (ix2 k (x 1)) := by
  pointwise [k0_pay74]

/-- A read of one row of a head's first-key scores. -/
theorem ld_row (s : FVec Ideal S8x128x512 .f32) {p : Fin 3 → ℕ} (inb : ∀ i, p i + (![1, 1, 512] : Fin 3 → ℕ) i ≤ S8x128x512.size i)
    (a : Fin 8) (n : Fin 128) (b : Fin 512) (h : p = ![a.val, n.val, 0]) :
    View.ld (Val := Elt Ideal) (e' := .f32) s (Rect.unit p ![1, 1, 512] inb) (ix3 0 0 b) = s (ix3 a n b) := by
  subst h
  pointwise
  blk_ext

/-- A read of one head's block of scores or factors. -/
theorem ld_head (s : FVec Ideal S8x128x512 .f32) {p : Fin 3 → ℕ} (inb : ∀ i, p i + (![1, 128, 512] : Fin 3 → ℕ) i ≤ S8x128x512.size i)
    (a : Fin 8) (l : Fin 128) (b : Fin 512) (h : p = ![a.val, 0, 0]) :
    View.ld (Val := Elt Ideal) (e' := .f32) s (Rect.unit p ![1, 128, 512] inb) (ix3 0 l b) = s (ix3 a l b) := by
  subst h
  pointwise
  blk_ext

/-- A read of one head's row of thresholds or offsets. -/
theorem ld_thr (s : FVec Ideal S8x512 .f32) {p : Fin 2 → ℕ} (inb : ∀ i, p i + (![1, 512] : Fin 2 → ℕ) i ≤ S8x512.size i)
    (a : Fin 8) (b : Fin 512) (h : p = ![a.val, 0]) :
    View.ld (Val := Elt Ideal) (e' := .f32) s (Rect.unit p ![1, 512] inb) (ix2 0 b) = s (ix2 a b) := by
  subst h
  pointwise
  blk_ext

/-- The eight heads' gates, their loads read, make the sum over the heads. -/
theorem heads_at (s1 s2 : FVec Ideal S8x128x512 .f32) (thr off : FVec Ideal S8x512 .f32) (y : Fin 8 → EReal) (n l : Fin 128) (b : Fin 512)
    {r0 r1 r2 r3 r4 r5 r6 r7 k0 k1 k2 k3 k4 k5 k6 k7 t0 t1 t2 t3 t4 t5 t6 t7 o0 o1 o2 o3 o4 o5 o6 o7 x0 x1 x2 x3 x4 x5 x6 x7 : EReal}
    (hr : r0 = s1 (ix3 0 n b) ∧ r1 = s1 (ix3 1 n b) ∧ r2 = s1 (ix3 2 n b) ∧ r3 = s1 (ix3 3 n b) ∧ r4 = s1 (ix3 4 n b) ∧ r5 = s1 (ix3 5 n b) ∧ r6 = s1 (ix3 6 n b) ∧ r7 = s1 (ix3 7 n b))
    (hk : k0 = s2 (ix3 0 l b) ∧ k1 = s2 (ix3 1 l b) ∧ k2 = s2 (ix3 2 l b) ∧ k3 = s2 (ix3 3 l b) ∧ k4 = s2 (ix3 4 l b) ∧ k5 = s2 (ix3 5 l b) ∧ k6 = s2 (ix3 6 l b) ∧ k7 = s2 (ix3 7 l b))
    (ht : t0 = thr (ix2 0 b) ∧ t1 = thr (ix2 1 b) ∧ t2 = thr (ix2 2 b) ∧ t3 = thr (ix2 3 b) ∧ t4 = thr (ix2 4 b) ∧ t5 = thr (ix2 5 b) ∧ t6 = thr (ix2 6 b) ∧ t7 = thr (ix2 7 b))
    (ho : o0 = off (ix2 0 b) ∧ o1 = off (ix2 1 b) ∧ o2 = off (ix2 2 b) ∧ o3 = off (ix2 3 b) ∧ o4 = off (ix2 4 b) ∧ o5 = off (ix2 5 b) ∧ o6 = off (ix2 6 b) ∧ o7 = off (ix2 7 b))
    (hx : x0 = y 0 ∧ x1 = y 1 ∧ x2 = y 2 ∧ x3 = y 3 ∧ x4 = y 4 ∧ x5 = y 5 ∧ x6 = y 6 ∧ x7 = y 7) :
    gate r0 k0 t0 o0 x0
      + gate r1 k1 t1 o1 x1
      + gate r2 k2 t2 o2 x2
      + gate r3 k3 t3 o3 x3
      + gate r4 k4 t4 o4 x4
      + gate r5 k5 t5 o5 x5
      + gate r6 k6 t6 o6 x6
      + gate r7 k7 t7 o7 x7
      = ∑ a : Fin 8, gate (s1 (ix3 a n b)) (s2 (ix3 a l b)) (thr (ix2 a b)) (off (ix2 a b)) (y a) := by
  obtain ⟨r0', r1', r2', r3', r4', r5', r6', r7'⟩ := hr
  obtain ⟨k0', k1', k2', k3', k4', k5', k6', k7'⟩ := hk
  obtain ⟨t0', t1', t2', t3', t4', t5', t6', t7'⟩ := ht
  obtain ⟨o0', o1', o2', o3', o4', o5', o6', o7'⟩ := ho
  obtain ⟨x0', x1', x2', x3', x4', x5', x6', x7'⟩ := hx
  rw [Fin.sum_univ_eight, r0', r1', r2', r3', r4', r5', r6', r7', k0', k1', k2', k3', k4', k5', k6', k7', t0', t1', t2', t3', t4', t5', t6', t7', o0', o1', o2', o3', o4', o5', o6', o7', x0', x1', x2', x3', x4', x5', x6', x7']

end Cert.KernelIdeal.PeerLoads

end
-- ==== Proof.PeerRows.lean ====
/-
  Where the PEER mixing reads the first key's scores: at expert block `e` the block's four first keys are the rows
  `4 e`, …, `4 e + 3` of every head.
-/
module

public import proofs.«01_k».proof.Proof.Gen.KernelIdeal.Frame
public import Idealize.ShloMosaic.Lib.Pipeline.ValueKit

@[expose] public section

set_option maxRecDepth 16384

noncomputable section

namespace Cert.KernelIdeal.PeerRows

open Idealize.ShloMosaic Idealize.ShloMosaic.TcCoe Idealize.SL.Sem
open Cert.KernelIdeal Cert.KernelIdeal.Gen

/-- The expert block of a grid point. -/
theorem block_of : ∀ t : Fin cfg0.N, (grid0.coords t 1 : ℕ) = t.val % 32 :=
  (by decide +kernel : ∀ t : Fin grid0.N, _)

/-- The row of the block's first key `a`, computed in 32-bit words. -/
theorem row_of : ∀ (a : Fin 4) (e : Fin 32),
    (Scalar.indexCast (Scalar.addi (Scalar.muli (BitVec.ofNat 32 e.val) 4#32) (BitVec.ofNat 32 a.val)) : Index).toNat = 4 * e.val + a.val := by
  decide +kernel

/-- The row of the block's first key `a` at a grid point. -/
theorem row_at (a : Fin 4) (t : Fin cfg0.N) :
    (Scalar.indexCast (Scalar.addi (Scalar.muli (BitVec.ofNat 32 (grid0.coords t 1).val) 4#32) (BitVec.ofNat 32 a.val)) : Index).toNat
      = 4 * (t.val % 32) + a.val :=
  (row_of a (grid0.coords t 1)).trans (congrArg (fun n => 4 * n + a.val) (block_of t))

/-- The reads of first key 0, head by head. -/
theorem rows0 (t : Fin cfg0.N) :
    k0_off1 (grid0.coords t) 0#32 = ![0, 4 * (t.val % 32) + 0, 0]
      ∧ k0_off2 (grid0.coords t) 0#32 = ![1, 4 * (t.val % 32) + 0, 0]
      ∧ k0_off3 (grid0.coords t) 0#32 = ![2, 4 * (t.val % 32) + 0, 0]
      ∧ k0_off4 (grid0.coords t) 0#32 = ![3, 4 * (t.val % 32) + 0, 0]
      ∧ k0_off5 (grid0.coords t) 0#32 = ![4, 4 * (t.val % 32) + 0, 0]
      ∧ k0_off6 (grid0.coords t) 0#32 = ![5, 4 * (t.val % 32) + 0, 0]
      ∧ k0_off7 (grid0.coords t) 0#32 = ![6, 4 * (t.val % 32) + 0, 0]
      ∧ k0_off8 (grid0.coords t) 0#32 = ![7, 4 * (t.val % 32) + 0, 0] :=
  ⟨congrArg (fun n => ![0, n, 0]) (row_at 0 t),
    congrArg (fun n => ![1, n, 0]) (row_at 0 t),
    congrArg (fun n => ![2, n, 0]) (row_at 0 t),
    congrArg (fun n => ![3, n, 0]) (row_at 0 t),
    congrArg (fun n => ![4, n, 0]) (row_at 0 t),
    congrArg (fun n => ![5, n, 0]) (row_at 0 t),
    congrArg (fun n => ![6, n, 0]) (row_at 0 t),
    congrArg (fun n => ![7, n, 0]) (row_at 0 t)⟩

/-- The reads of first key 1, head by head. -/
theorem rows1 (t : Fin cfg0.N) :
    k0_off1 (grid0.coords t) 1#32 = ![0, 4 * (t.val % 32) + 1, 0]
      ∧ k0_off2 (grid0.coords t) 1#32 = ![1, 4 * (t.val % 32) + 1, 0]
      ∧ k0_off3 (grid0.coords t) 1#32 = ![2, 4 * (t.val % 32) + 1, 0]
      ∧ k0_off4 (grid0.coords t) 1#32 = ![3, 4 * (t.val % 32) + 1, 0]
      ∧ k0_off5 (grid0.coords t) 1#32 = ![4, 4 * (t.val % 32) + 1, 0]
      ∧ k0_off6 (grid0.coords t) 1#32 = ![5, 4 * (t.val % 32) + 1, 0]
      ∧ k0_off7 (grid0.coords t) 1#32 = ![6, 4 * (t.val % 32) + 1, 0]
      ∧ k0_off8 (grid0.coords t) 1#32 = ![7, 4 * (t.val % 32) + 1, 0] :=
  ⟨congrArg (fun n => ![0, n, 0]) (row_at 1 t),
    congrArg (fun n => ![1, n, 0]) (row_at 1 t),
    congrArg (fun n => ![2, n, 0]) (row_at 1 t),
    congrArg (fun n => ![3, n, 0]) (row_at 1 t),
    congrArg (fun n => ![4, n, 0]) (row_at 1 t),
    congrArg (fun n => ![5, n, 0]) (row_at 1 t),
    congrArg (fun n => ![6, n, 0]) (row_at 1 t),
    congrArg (fun n => ![7, n, 0]) (row_at 1 t)⟩

/-- The reads of first key 2, head by head. -/
theorem rows2 (t : Fin cfg0.N) :
    k0_off1 (grid0.coords t) 2#32 = ![0, 4 * (t.val % 32) + 2, 0]
      ∧ k0_off2 (grid0.coords t) 2#32 = ![1, 4 * (t.val % 32) + 2, 0]
      ∧ k0_off3 (grid0.coords t) 2#32 = ![2, 4 * (t.val % 32) + 2, 0]
      ∧ k0_off4 (grid0.coords t) 2#32 = ![3, 4 * (t.val % 32) + 2, 0]
      ∧ k0_off5 (grid0.coords t) 2#32 = ![4, 4 * (t.val % 32) + 2, 0]
      ∧ k0_off6 (grid0.coords t) 2#32 = ![5, 4 * (t.val % 32) + 2, 0]
      ∧ k0_off7 (grid0.coords t) 2#32 = ![6, 4 * (t.val % 32) + 2, 0]
      ∧ k0_off8 (grid0.coords t) 2#32 = ![7, 4 * (t.val % 32) + 2, 0] :=
  ⟨congrArg (fun n => ![0, n, 0]) (row_at 2 t),
    congrArg (fun n => ![1, n, 0]) (row_at 2 t),
    congrArg (fun n => ![2, n, 0]) (row_at 2 t),
    congrArg (fun n => ![3, n, 0]) (row_at 2 t),
    congrArg (fun n => ![4, n, 0]) (row_at 2 t),
    congrArg (fun n => ![5, n, 0]) (row_at 2 t),
    congrArg (fun n => ![6, n, 0]) (row_at 2 t),
    congrArg (fun n => ![7, n, 0]) (row_at 2 t)⟩

/-- The reads of first key 3, head by head. -/
theorem rows3 (t : Fin cfg0.N) :
    k0_off1 (grid0.coords t) 3#32 = ![0, 4 * (t.val % 32) + 3, 0]
      ∧ k0_off2 (grid0.coords t) 3#32 = ![1, 4 * (t.val % 32) + 3, 0]
      ∧ k0_off3 (grid0.coords t) 3#32 = ![2, 4 * (t.val % 32) + 3, 0]
      ∧ k0_off4 (grid0.coords t) 3#32 = ![3, 4 * (t.val % 32) + 3, 0]
      ∧ k0_off5 (grid0.coords t) 3#32 = ![4, 4 * (t.val % 32) + 3, 0]
      ∧ k0_off6 (grid0.coords t) 3#32 = ![5, 4 * (t.val % 32) + 3, 0]
      ∧ k0_off7 (grid0.coords t) 3#32 = ![6, 4 * (t.val % 32) + 3, 0]
      ∧ k0_off8 (grid0.coords t) 3#32 = ![7, 4 * (t.val % 32) + 3, 0] :=
  ⟨congrArg (fun n => ![0, n, 0]) (row_at 3 t),
    congrArg (fun n => ![1, n, 0]) (row_at 3 t),
    congrArg (fun n => ![2, n, 0]) (row_at 3 t),
    congrArg (fun n => ![3, n, 0]) (row_at 3 t),
    congrArg (fun n => ![4, n, 0]) (row_at 3 t),
    congrArg (fun n => ![5, n, 0]) (row_at 3 t),
    congrArg (fun n => ![6, n, 0]) (row_at 3 t),
    congrArg (fun n => ![7, n, 0]) (row_at 3 t)⟩

end Cert.KernelIdeal.PeerRows

end
-- ==== Proof.PeerStep.lean ====
/-
  One grid point of the PEER mixing.

  The grid goes over the token tiles and, within one, over 32 blocks of 512 experts.  `first` and `next` say what a
  grid point does to the output tile: the weighted rows of its expert block are the tile, or are added to it.
  `factors_first` and `factors_next` say what happens to the scratch that keeps the factors of the second keys.
-/
module

public import proofs.«01_k».proof.Proof.Gen.KernelIdeal.Frame
public import proofs.«01_k».proof.Proof.PeerLoads
public import proofs.«01_k».proof.Proof.PeerRows
public import Idealize.ShloMosaic.Lib.Pipeline.ReadBack
public import Idealize.ShloMosaic.Lib.Pipeline.Value

@[expose] public section

set_option maxRecDepth 16384

noncomputable section

namespace Cert.KernelIdeal.PeerStep

open Idealize.ShloMosaic Idealize.ShloMosaic.TcCoe Idealize.SL.Sem
open Idealize.ShloMosaic.Pipeline (Dat)
open Cert.KernelIdeal Cert.KernelIdeal.Gen
open Cert.KernelIdeal.PeerGate Cert.KernelIdeal.PeerLoads Cert.KernelIdeal.PeerRows

variable (m : (ℓ : Loc nD τ sig) → Buf (Elt Ideal) ℓ)

/-- Head 0's stored factor: the exponential of a second-key score less the head's offset. -/
theorem factor0_at (v : FVec Ideal S1x128x512 .f32) (w : FVec Ideal S1x512 .f32) (l : Fin 128) (b : Fin 512) :
    k0_pay3 (F := Ideal) v w (ix3 0 l b) = Ideal.exp (v (ix3 0 l b) - w (ix2 0 b)) := by
  pointwise [k0_pay3]

/-- Head 1's stored factor: the exponential of a second-key score less the head's offset. -/
theorem factor1_at (v : FVec Ideal S1x128x512 .f32) (w : FVec Ideal S1x512 .f32) (l : Fin 128) (b : Fin 512) :
    k0_pay4 (F := Ideal) v w (ix3 0 l b) = Ideal.exp (v (ix3 0 l b) - w (ix2 0 b)) := by
  pointwise [k0_pay4]

/-- Head 2's stored factor: the exponential of a second-key score less the head's offset. -/
theorem factor2_at (v : FVec Ideal S1x128x512 .f32) (w : FVec Ideal S1x512 .f32) (l : Fin 128) (b : Fin 512) :
    k0_pay5 (F := Ideal) v w (ix3 0 l b) = Ideal.exp (v (ix3 0 l b) - w (ix2 0 b)) := by
  pointwise [k0_pay5]

/-- Head 3's stored factor: the exponential of a second-key score less the head's offset. -/
theorem factor3_at (v : FVec Ideal S1x128x512 .f32) (w : FVec Ideal S1x512 .f32) (l : Fin 128) (b : Fin 512) :
    k0_pay6 (F := Ideal) v w (ix3 0 l b) = Ideal.exp (v (ix3 0 l b) - w (ix2 0 b)) := by
  pointwise [k0_pay6]

/-- Head 4's stored factor: the exponential of a second-key score less the head's offset. -/
theorem factor4_at (v : FVec Ideal S1x128x512 .f32) (w : FVec Ideal S1x512 .f32) (l : Fin 128) (b : Fin 512) :
    k0_pay7 (F := Ideal) v w (ix3 0 l b) = Ideal.exp (v (ix3 0 l b) - w (ix2 0 b)) := by
  pointwise [k0_pay7]

/-- Head 5's stored factor: the exponential of a second-key score less the head's offset. -/
theorem factor5_at (v : FVec Ideal S1x128x512 .f32) (w : FVec Ideal S1x512 .f32) (l : Fin 128) (b : Fin 512) :
    k0_pay8 (F := Ideal) v w (ix3 0 l b) = Ideal.exp (v (ix3 0 l b) - w (ix2 0 b)) := by
  pointwise [k0_pay8]

/-- Head 6's stored factor: the exponential of a second-key score less the head's offset. -/
theorem factor6_at (v : FVec Ideal S1x128x512 .f32) (w : FVec Ideal S1x512 .f32) (l : Fin 128) (b : Fin 512) :
    k0_pay10 (F := Ideal) (k0_pay9 v) w (ix3 0 l b) = Ideal.exp (v (ix3 0 l b) - w (ix2 0 b)) := by
  pointwise [k0_pay9, k0_pay10]

/-- Head 7's stored factor: the exponential of a second-key score less the head's offset. -/
theorem factor7_at (v : FVec Ideal S1x128x512 .f32) (w : FVec Ideal S1x512 .f32) (l : Fin 128) (b : Fin 512) :
    k0_pay11 (F := Ideal) v w (ix3 0 l b) = Ideal.exp (v (ix3 0 l b) - w (ix2 0 b)) := by
  pointwise [k0_pay11]

set_option maxHeartbeats 2000000 in
/-- At the first expert block of a token tile the factors of the second keys are computed and kept. -/
theorem factors_first (c : Dev nD) (t : Fin cfg0.N) (h : t.val % 32 = 0) (a : Fin 8) (l : Fin 128) (b : Fin 512) :
    (show FVec Ideal S8x128x512 .f32 from (outsAt0 m c t.val t.isLt).2) (ix3 a l b)
      = Ideal.exp ((show FVec Ideal S8x128x512 .f32 from iblk m c 4 t) (ix3 a l b) - (show FVec Ideal S8x512 .f32 from iblk m c 7 t) (ix2 a b)) := by
  rw [outsAt0_A m c t h]
  frame_out
  canon_tiles z g
  case piece0 =>
    obtain rfl : z = ix3 0 l b := by
      rw [eq_ix3 z]; exact congr (congrArg₂ ix3 (Fin.ext (show (z 0).val = 0 by omega)) (Fin.ext g1.symm)) (Fin.ext g2.symm)
    obtain rfl : a = 7 := Fin.ext (show a.val = 7 from g0)
    refine (factor7_at _ _ _ _).trans (congrArg Ideal.exp (congrArg₂ (· - ·) (ld_head _ _ 7 _ _ rfl) (ld_thr _ _ 7 _ rfl)))
  case piece1 =>
    obtain rfl : z = ix3 0 l b := by
      rw [eq_ix3 z]; exact congr (congrArg₂ ix3 (Fin.ext (show (z 0).val = 0 by omega)) (Fin.ext g1.symm)) (Fin.ext g2.symm)
    obtain rfl : a = 6 := Fin.ext (show a.val = 6 from g0)
    refine (factor6_at _ _ _ _).trans (congrArg Ideal.exp (congrArg₂ (· - ·) (ld_head _ _ 6 _ _ rfl) (ld_thr _ _ 6 _ rfl)))
  case piece2 =>
    obtain rfl : z = ix3 0 l b := by
      rw [eq_ix3 z]; exact congr (congrArg₂ ix3 (Fin.ext (show (z 0).val = 0 by omega)) (Fin.ext g1.symm)) (Fin.ext g2.symm)
    obtain rfl : a = 5 := Fin.ext (show a.val = 5 from g0)
    refine (factor5_at _ _ _ _).trans (congrArg Ideal.exp (congrArg₂ (· - ·) (ld_head _ _ 5 _ _ rfl) (ld_thr _ _ 5 _ rfl)))
  case piece3 =>
    obtain rfl : z = ix3 0 l b := by
      rw [eq_ix3 z]; exact congr (congrArg₂ ix3 (Fin.ext (show (z 0).val = 0 by omega)) (Fin.ext g1.symm)) (Fin.ext g2.symm)
    obtain rfl : a = 4 := Fin.ext (show a.val = 4 from g0)
    refine (factor4_at _ _ _ _).trans (congrArg Ideal.exp (congrArg₂ (· - ·) (ld_head _ _ 4 _ _ rfl) (ld_thr _ _ 4 _ rfl)))
  case piece4 =>
    obtain rfl : z = ix3 0 l b := by
      rw [eq_ix3 z]; exact congr (congrArg₂ ix3 (Fin.ext (show (z 0).val = 0 by omega)) (Fin.ext g1.symm)) (Fin.ext g2.symm)
    obtain rfl : a = 3 := Fin.ext (show a.val = 3 from g0)
    refine (factor3_at _ _ _ _).trans (congrArg Ideal.exp (congrArg₂ (· - ·) (ld_head _ _ 3 _ _ rfl) (ld_thr _ _ 3 _ rfl)))
  case piece5 =>
    obtain rfl : z = ix3 0 l b := by
      rw [eq_ix3 z]; exact congr (congrArg₂ ix3 (Fin.ext (show (z 0).val = 0 by omega)) (Fin.ext g1.symm)) (Fin.ext g2.symm)
    obtain rfl : a = 2 := Fin.ext (show a.val = 2 from g0)
    refine (factor2_at _ _ _ _).trans (congrArg Ideal.exp (congrArg₂ (· - ·) (ld_head _ _ 2 _ _ rfl) (ld_thr _ _ 2 _ rfl)))
  case piece6 =>
    obtain rfl : z = ix3 0 l b := by
      rw [eq_ix3 z]; exact congr (congrArg₂ ix3 (Fin.ext (show (z 0).val = 0 by omega)) (Fin.ext g1.symm)) (Fin.ext g2.symm)
    obtain rfl : a = 1 := Fin.ext (show a.val = 1 from g0)
    refine (factor1_at _ _ _ _).trans (congrArg Ideal.exp (congrArg₂ (· - ·) (ld_head _ _ 1 _ _ rfl) (ld_thr _ _ 1 _ rfl)))
  case piece7 =>
    obtain rfl : z = ix3 0 l b := by
      rw [eq_ix3 z]; exact congr (congrArg₂ ix3 (Fin.ext (show (z 0).val = 0 by omega)) (Fin.ext g1.symm)) (Fin.ext g2.symm)
    obtain rfl : a = 0 := Fin.ext (show a.val = 0 from g0)
    refine (factor0_at _ _ _ _).trans (congrArg Ideal.exp (congrArg₂ (· - ·) (ld_head _ _ 0 _ _ rfl) (ld_thr _ _ 0 _ rfl)))

/-- At every later expert block the factors stay. -/
theorem factors_next (c : Dev nD) (t : Fin cfg0.N) (h : ¬t.val % 32 = 0) :
    (outsAt0 m c t.val t.isLt).2 = (outsAt0 m c (t.val - 1) (Nat.lt_of_le_of_lt (Nat.sub_le _ _) t.isLt)).2 := by
  rw [outsAt0_B m c t h]
  rfl

set_option maxHeartbeats 2000000 in
/-- At every later expert block of a token tile the output tile gets the block's weighted rows added. -/
theorem next (c : Dev nD) (t : Fin cfg0.N) (h : ¬t.val % 32 = 0) (j : S512x4096.Idx) :
    (outsAt0 m c t.val t.isLt).1 j
      = (show FVec Ideal S512x4096 .f32 from (outsAt0 m c (t.val - 1) (Nat.lt_of_le_of_lt (Nat.sub_le _ _) t.isLt)).1) j
        + ∑ k : Fin 512, weight (iblk m c 1 t) (iblk m c 0 t) (iblk m c 3 t) (iblk m c 4 t) (iblk m c 5 t) (iblk m c 6 t)
            (outsAt0 m c (t.val - 1) (Nat.lt_of_le_of_lt (Nat.sub_le _ _) t.isLt)).2 ⟨t.val % 32, by omega⟩ (j 0) k
          * (show FVec Ideal S512x4096 .bf16 from iblk m c 2 t) (ix2 k (j 1)) := by
  rw [outsAt0_B m c t h]
  frame_out
  simp only [read_unread_whole]
  generalize hW : View.readCov (Val := Elt Ideal) (View.whole cc0_scratch1) _ _ = W
  have hw : ∀ b k : Fin 512, W (ix2 b k) = weight (iblk m c 1 t) (iblk m c 0 t) (iblk m c 3 t) (iblk m c 4 t) (iblk m c 5 t)
      (iblk m c 6 t) (outsAt0 m c (t.val - 1) (Nat.lt_of_le_of_lt (Nat.sub_le _ _) t.isLt)).2 ⟨t.val % 32, by omega⟩ b k := by
    intro b k
    rw [← hW, View.readCov_eq_canon']
    clear hW W
    canon_tiles z g
    case piece0 =>
      have g0' : 0 + 1 * b.val = (z 0).val := g0
      have g1' : 0 + 1 * k.val = 384 + (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 3 = 4 * (t.val % 32) + k.val / 128 := by omega
      obtain ⟨p0, p1, p2, p3, p4, p5, p6, p7⟩ := rows3 t
      rw [hN] at p0 p1 p2 p3 p4 p5 p6 p7
      refine (tile3_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
    case piece1 =>
      have g0' : 0 + 1 * b.val = (z 0).val := g0
      have g1' : 0 + 1 * k.val = 256 + (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 2 = 4 * (t.val % 32) + k.val / 128 := by omega
      obtain ⟨p0, p1, p2, p3, p4, p5, p6, p7⟩ := rows2 t
      rw [hN] at p0 p1 p2 p3 p4 p5 p6 p7
      refine (tile2_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
    case piece2 =>
      have g0' : 0 + 1 * b.val = (z 0).val := g0
      have g1' : 0 + 1 * k.val = 128 + (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 1 = 4 * (t.val % 32) + k.val / 128 := by omega
      obtain ⟨p0, p1, p2, p3, p4, p5, p6, p7⟩ := rows1 t
      rw [hN] at p0 p1 p2 p3 p4 p5 p6 p7
      refine (tile1_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
    case piece3 =>
      have g0' : 0 + 1 * b.val = (z 0).val := g0
      have g1' : 0 + 1 * k.val = (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 0 = 4 * (t.val % 32) + k.val / 128 := by omega
      obtain ⟨p0, p1, p2, p3, p4, p5, p6, p7⟩ := rows0 t
      rw [hN] at p0 p1 p2 p3 p4 p5 p6 p7
      refine (tile0_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
  clear hW
  canon_tiles x q
  case piece0 =>
    have q0' : (j 0).val = (x 0).val := q0
    have q1' : (j 1).val = 3072 + (x 1).val := q1
    refine (piece3_at _ _ _ _).trans ?_
    refine congrArg₂ (· + ·) ?_ (Finset.sum_congr rfl fun k _ => congrArg₂ (· * ·) ((hw (x 0) k).trans
      (congrArg (fun b : Fin 512 => weight _ _ _ _ _ _ _ _ b k) (Fin.ext q0.symm))) ?_)
    · exact View.ld_unit_apply_of _ _ _ _ _ _ (Fin.forall_fin_two.mpr ⟨q0'.trans (zero_add _).symm, q1'⟩)
    · exact View.ld_unit_apply_of _ _ _ _ _ _ (Fin.forall_fin_two.mpr ⟨(zero_add _).symm, q1'⟩)
  case piece1 =>
    have q0' : (j 0).val = (x 0).val := q0
    have q1' : (j 1).val = 2048 + (x 1).val := q1
    refine (piece2_at _ _ _ _).trans ?_
    refine congrArg₂ (· + ·) ?_ (Finset.sum_congr rfl fun k _ => congrArg₂ (· * ·) ((hw (x 0) k).trans
      (congrArg (fun b : Fin 512 => weight _ _ _ _ _ _ _ _ b k) (Fin.ext q0.symm))) ?_)
    · exact View.ld_unit_apply_of _ _ _ _ _ _ (Fin.forall_fin_two.mpr ⟨q0'.trans (zero_add _).symm, q1'⟩)
    · exact View.ld_unit_apply_of _ _ _ _ _ _ (Fin.forall_fin_two.mpr ⟨(zero_add _).symm, q1'⟩)
  case piece2 =>
    have q0' : (j 0).val = (x 0).val := q0
    have q1' : (j 1).val = 1024 + (x 1).val := q1
    refine (piece1_at _ _ _ _).trans ?_
    refine congrArg₂ (· + ·) ?_ (Finset.sum_congr rfl fun k _ => congrArg₂ (· * ·) ((hw (x 0) k).trans
      (congrArg (fun b : Fin 512 => weight _ _ _ _ _ _ _ _ b k) (Fin.ext q0.symm))) ?_)
    · exact View.ld_unit_apply_of _ _ _ _ _ _ (Fin.forall_fin_two.mpr ⟨q0'.trans (zero_add _).symm, q1'⟩)
    · exact View.ld_unit_apply_of _ _ _ _ _ _ (Fin.forall_fin_two.mpr ⟨(zero_add _).symm, q1'⟩)
  case piece3 =>
    have q0' : (j 0).val = (x 0).val := q0
    have q1' : (j 1).val = (x 1).val := q1
    refine (piece0_at _ _ _ _).trans ?_
    refine congrArg₂ (· + ·) ?_ (Finset.sum_congr rfl fun k _ => congrArg₂ (· * ·) ((hw (x 0) k).trans
      (congrArg (fun b : Fin 512 => weight _ _ _ _ _ _ _ _ b k) (Fin.ext q0.symm))) ?_)
    · exact View.ld_unit_apply_of _ _ _ _ _ _ (Fin.forall_fin_two.mpr ⟨q0'.trans (zero_add _).symm, q1'.trans (zero_add _).symm⟩)
    · exact View.ld_unit_apply_of _ _ _ _ _ _ (Fin.forall_fin_two.mpr ⟨(zero_add _).symm, q1'.trans (zero_add _).symm⟩)

/-- A read of the output tile's zero fill. -/
theorem zero_at (x : S512x4096.Idx) : k0_pay2 (F := Ideal) x = (0 : EReal) := by
  pointwise [k0_pay2]

/-- Stores that cover an index hide an earlier store there. -/
theorem canon_over {s : Shape} {e : EltTy} (L : List (View.Piece (Elt Ideal) s e)) (p : View.Piece (Elt Ideal) s e) (y : s.Idx) (v : Elt Ideal e)
    (hc : ∃ q ∈ L, y ∈ q.1.set) (h : View.canon L y = v) : View.canon (L ++ [p]) y = v := by
  induction L with
  | nil => obtain ⟨q, hq, _⟩ := hc; exact absurd hq List.not_mem_nil
  | cons r L ih =>
    by_cases hr : y ∈ r.1.set
    · obtain ⟨x, rfl⟩ := r.1.exists_idx_of_mem hr
      rw [← h]
      exact (View.canon_cons_emb r.1 r.2 (L ++ [p]) x).trans (View.canon_cons_emb r.1 r.2 L x).symm
    · refine (View.canon_cons_of_not_mem r (L ++ [p]) hr).trans (ih ?_ ((View.canon_cons_of_not_mem r L hr).symm.trans h))
      obtain ⟨q, hq, hy⟩ := hc
      rcases List.mem_cons.mp hq with rfl | hq
      · exact absurd hy hr
      · exact ⟨q, hq, hy⟩

set_option maxHeartbeats 2000000 in
/-- At the first expert block of a token tile the output tile is the block's weighted rows, whatever it was. -/
theorem first (c : Dev nD) (t : Fin cfg0.N) (h : t.val % 32 = 0) (j : S512x4096.Idx) :
    (outsAt0 m c t.val t.isLt).1 j
      = ∑ k : Fin 512, weight (iblk m c 1 t) (iblk m c 0 t) (iblk m c 3 t) (iblk m c 4 t) (iblk m c 5 t) (iblk m c 6 t)
            (outsAt0 m c t.val t.isLt).2 ⟨t.val % 32, by omega⟩ (j 0) k
          * (show FVec Ideal S512x4096 .bf16 from iblk m c 2 t) (ix2 k (j 1)) := by
  rw [outsAt0_A m c t h]
  frame_out
  simp only [View.readCov_eq_canon' (View.whole cc0_scratch2)]
  generalize View.canon (Val := Elt Ideal) (s := S8x128x512) (e := .f32) _ = E
  generalize hW : View.readCov (Val := Elt Ideal) (View.whole cc0_scratch1) _ _ = W
  have hw : ∀ b k : Fin 512, W (ix2 b k) = weight (iblk m c 1 t) (iblk m c 0 t) (iblk m c 3 t) (iblk m c 4 t) (iblk m c 5 t)
      (iblk m c 6 t) E ⟨t.val % 32, by omega⟩ b k := by
    intro b k
    rw [← hW, View.readCov_eq_canon']
    clear hW W
    canon_tiles z g
    case piece0 =>
      have g0' : 0 + 1 * b.val = (z 0).val := g0
      have g1' : 0 + 1 * k.val = 384 + (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 3 = 4 * (t.val % 32) + k.val / 128 := by omega
      obtain ⟨p0, p1, p2, p3, p4, p5, p6, p7⟩ := rows3 t
      rw [hN] at p0 p1 p2 p3 p4 p5 p6 p7
      refine (tile3_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
    case piece1 =>
      have g0' : 0 + 1 * b.val = (z 0).val := g0
      have g1' : 0 + 1 * k.val = 256 + (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 2 = 4 * (t.val % 32) + k.val / 128 := by omega
      obtain ⟨p0, p1, p2, p3, p4, p5, p6, p7⟩ := rows2 t
      rw [hN] at p0 p1 p2 p3 p4 p5 p6 p7
      refine (tile2_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
    case piece2 =>
      have g0' : 0 + 1 * b.val = (z 0).val := g0
      have g1' : 0 + 1 * k.val = 128 + (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 1 = 4 * (t.val % 32) + k.val / 128 := by omega
      obtain ⟨p0, p1, p2, p3, p4, p5, p6, p7⟩ := rows1 t
      rw [hN] at p0 p1 p2 p3 p4 p5 p6 p7
      refine (tile1_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
    case piece3 =>
      have g0' : 0 + 1 * b.val = (z 0).val := g0
      have g1' : 0 + 1 * k.val = (z 1).val := g1
      obtain rfl : z = ix2 b ⟨k.val % 128, Nat.mod_lt _ (by decide)⟩ := by
        rw [eq_ix2 z]; exact congrArg₂ ix2 (Fin.ext (show (z 0).val = b.val by omega)) (Fin.ext (show (z 1).val = k.val % 128 by omega))
      have hn : 4 * (t.val % 32) + k.val / 128 < 128 := by omega
      have hN : 4 * (t.val % 32) + 0 = 4 * (t.val % 32) + k.val / 128 := by omega
      obtain ⟨p0, p1, p2, p3, p4, p5, p6, p7⟩ := rows0 t
      rw [hN] at p0 p1 p2 p3 p4 p5 p6 p7
      refine (tile0_at _ _ _ _ _ _ _ _ _ _ _ _ _ _ _ _ _ _ _ _ _ _ _ _ _ _ _ _ _ _ _ _ _ _ _ _ _ _ _ _ _ _ _).trans (congrArg₂ (· * ·) (heads_at _ _ _ _ _ ⟨4 * (t.val % 32) + k.val / 128, hn⟩ _ _
        ⟨ld_row _ _ 0 _ _ p0, ld_row _ _ 1 _ _ p1, ld_row _ _ 2 _ _ p2, ld_row _ _ 3 _ _ p3, ld_row _ _ 4 _ _ p4, ld_row _ _ 5 _ _ p5, ld_row _ _ 6 _ _ p6, ld_row _ _ 7 _ _ p7⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_thr _ _ 0 _ rfl, ld_thr _ _ 1 _ rfl, ld_thr _ _ 2 _ rfl, ld_thr _ _ 3 _ rfl, ld_thr _ _ 4 _ rfl, ld_thr _ _ 5 _ rfl, ld_thr _ _ 6 _ rfl, ld_thr _ _ 7 _ rfl⟩
        ⟨ld_head _ _ 0 _ _ rfl, ld_head _ _ 1 _ _ rfl, ld_head _ _ 2 _ _ rfl, ld_head _ _ 3 _ _ rfl, ld_head _ _ 4 _ _ rfl, ld_head _ _ 5 _ _ rfl, ld_head _ _ 6 _ _ rfl, ld_head _ _ 7 _ _ rfl⟩) (congrArg gelu ?_))
      rw [View.readCov_fill (h := by decide)]
      pointwise [k0_pay12]
      blk_point []
  clear hW
  refine canon_over [_, _, _, _] _ j _ (View.cover_of_tiled (s := S512x4096) _ S512x1024.size rfl j) ?_
  canon_tiles x q
  case piece0 =>
    have q0' : (j 0).val = (x 0).val := q0
    have q1' : (j 1).val = 3072 + (x 1).val := q1
    refine (piece3_at _ _ _ _).trans (Eq.trans (congrArg (· + _) (?_ : _ = (0 : EReal))) ((zero_add _).trans ?_))
    · rw [View.readCov_skip (h := by decide), View.readCov_skip (h := by decide), View.readCov_skip (h := by decide), View.readCov_fill (h := by decide)]
      exact zero_at _
    refine Finset.sum_congr rfl fun k _ => congrArg₂ (· * ·) ((hw (x 0) k).trans
      (congrArg (fun b : Fin 512 => weight _ _ _ _ _ _ _ _ b k) (Fin.ext q0.symm))) ?_
    exact View.ld_unit_apply_of _ _ _ _ _ _ (Fin.forall_fin_two.mpr ⟨(zero_add _).symm, q1'⟩)
  case piece1 =>
    have q0' : (j 0).val = (x 0).val := q0
    have q1' : (j 1).val = 2048 + (x 1).val := q1
    refine (piece2_at _ _ _ _).trans (Eq.trans (congrArg (· + _) (?_ : _ = (0 : EReal))) ((zero_add _).trans ?_))
    · rw [View.readCov_skip (h := by decide), View.readCov_skip (h := by decide), View.readCov_fill (h := by decide)]
      exact zero_at _
    refine Finset.sum_congr rfl fun k _ => congrArg₂ (· * ·) ((hw (x 0) k).trans
      (congrArg (fun b : Fin 512 => weight _ _ _ _ _ _ _ _ b k) (Fin.ext q0.symm))) ?_
    exact View.ld_unit_apply_of _ _ _ _ _ _ (Fin.forall_fin_two.mpr ⟨(zero_add _).symm, q1'⟩)
  case piece2 =>
    have q0' : (j 0).val = (x 0).val := q0
    have q1' : (j 1).val = 1024 + (x 1).val := q1
    refine (piece1_at _ _ _ _).trans (Eq.trans (congrArg (· + _) (?_ : _ = (0 : EReal))) ((zero_add _).trans ?_))
    · rw [View.readCov_skip (h := by decide), View.readCov_fill (h := by decide)]
      exact zero_at _
    refine Finset.sum_congr rfl fun k _ => congrArg₂ (· * ·) ((hw (x 0) k).trans
      (congrArg (fun b : Fin 512 => weight _ _ _ _ _ _ _ _ b k) (Fin.ext q0.symm))) ?_
    exact View.ld_unit_apply_of _ _ _ _ _ _ (Fin.forall_fin_two.mpr ⟨(zero_add _).symm, q1'⟩)
  case piece3 =>
    have q0' : (j 0).val = (x 0).val := q0
    have q1' : (j 1).val = (x 1).val := q1
    refine (piece0_at _ _ _ _).trans (Eq.trans (congrArg (· + _) (?_ : _ = (0 : EReal))) ((zero_add _).trans ?_))
    · rw [View.readCov_fill (h := by decide)]
      exact zero_at _
    refine Finset.sum_congr rfl fun k _ => congrArg₂ (· * ·) ((hw (x 0) k).trans
      (congrArg (fun b : Fin 512 => weight _ _ _ _ _ _ _ _ b k) (Fin.ext q0.symm))) ?_
    exact View.ld_unit_apply_of _ _ _ _ _ _ (Fin.forall_fin_two.mpr ⟨(zero_add _).symm, q1'.trans (zero_add _).symm⟩)

end Cert.KernelIdeal.PeerStep

end
-- ==== Proof.PeerRef.lean ====
/-
  The reference of the PEER mixing, read at an element.

  `ref` is the reference's result over the whole arrays, `mixWeight` the weight of one expert for one token in it: the
  sum over the eight heads of the gates `exp (s1 + s2 - off1 - off2)` of the pairs that reach the head's threshold, times
  the activation `gelu (u · h)`.  `ref_at` says that an element of the result is the sum of the experts' weights times
  their rows.  `gate_exp` is the identity behind the kernel's factored gates; it holds for infinite scores too.
-/
module

public import proofs.«01_k».proof.Proof.Gen.ReferenceIdeal.Run
public import proofs.«01_k».proof.Proof.PeerGate
public import Idealize.ShloMosaic.Lib.Pipeline.Value

@[expose] public section

set_option maxRecDepth 16384

noncomputable section

namespace Cert.ReferenceIdeal.PeerRef

open Idealize.ShloMosaic Idealize.ShloMosaic.TcCoe Idealize.SL.Sem
open Cert.ReferenceIdeal Cert.ReferenceIdeal.Gen
open Cert.KernelIdeal.PeerGate (gate gelu)

/-- The exponential of a sum is the product of the exponentials, for infinite summands too. -/
theorem exp_add (x y : EReal) : Ideal.exp x * Ideal.exp y = Ideal.exp (x + y) := by
  have hb : Ideal.exp ⊥ = 0 := rfl
  have ht : Ideal.exp ⊤ = ⊤ := rfl
  have hr (r : ℝ) : Ideal.exp r = (Real.exp r : ℝ) := rfl
  induction x <;> induction y <;>
    simp [hb, ht, hr, ← EReal.coe_add, ← EReal.coe_mul, Real.exp_add, Real.exp_pos, EReal.coe_mul_top_of_pos, EReal.top_mul_coe_of_pos]

/-- A factored gate is the gate of the pair. -/
theorem gate_exp (s1 s2 thr o1 o2 : EReal) :
    gate s1 s2 thr o1 (Ideal.exp (s2 - o2)) = if thr ≤ s1 + s2 then Ideal.exp (s1 + s2 - o1 - o2) else 0 := by
  have h : s1 - o1 + (s2 - o2) = s1 + s2 - o1 - o2 := by
    simp only [sub_eq_add_neg]
    exact (add_add_add_comm _ _ _ _).trans (add_assoc _ _ _).symm
  unfold gate
  rw [exp_add, h]

/-- The pairs' scores. -/
def pairs (s1 s2 : FVec Ideal S8x128x24576 .f32) : FVec Ideal S8x128x128x24576 .f32 :=
  addf (broadcastInDim S8x128x128x24576 ![0, 1, 2, 3] bcast_S8x128x1x24576_S8x128x128x24576_0_1_2_3 (broadcastInDim S8x128x1x24576 ![0, 1, 3] bcast_S8x128x24576_S8x128x1x24576_0_1_3 s1))
    (broadcastInDim S8x128x128x24576 ![0, 1, 2, 3] bcast_S8x1x128x24576_S8x128x128x24576_0_1_2_3 (broadcastInDim S8x1x128x24576 ![0, 2, 3] bcast_S8x128x24576_S8x1x128x24576_0_2_3 s2))

/-- A value per head and token, for every pair. -/
def spread (x : FVec Ideal S8x24576 .f32) : FVec Ideal S8x128x128x24576 .f32 :=
  broadcastInDim S8x128x128x24576 ![0, 1, 2, 3] bcast_S8x1x1x24576_S8x128x128x24576_0_1_2_3 (broadcastInDim S8x1x1x24576 ![0, 3] bcast_S8x24576_S8x1x1x24576_0_3 x)

/-- The pairs' gates. -/
def gates (s1 s2 : FVec Ideal S8x128x24576 .f32) (thr o1 o2 : FVec Ideal S8x24576 .f32) : FVec Ideal S8x128x128x24576 .f32 :=
  select (cmpf .oge (pairs s1 s2) (spread thr)) (Host.exp (subf (subf (pairs s1 s2) (spread o1)) (spread o2)))
    (broadcastInDim S8x128x128x24576 ![] bcast_S_S8x128x128x24576 (id (constant S_ .f32 0x00000000#32)))

/-- The gates summed over the heads, a row per expert. -/
def summed (g : FVec Ideal S8x128x128x24576 .f32) : FVec Ideal S16384x24576 .f32 :=
  shapeCast _ (Host.reduceAdd g (constant S_ .f32 0x00000000#32) reducesTo_S8x128x128x24576_S128x128x24576_d0 h_S_) shapeCasts_S128x128x24576_S16384x24576

/-- The experts' products with the tokens. -/
def products (h : FVec Ideal S24576x4096 .bf16) (u : FVec Ideal S16384x4096 .f32) : FVec Ideal S16384x24576 .f32 :=
  Host.dotGeneral (F := Ideal) dot_S16384x4096_S24576x4096_S16384x24576_1_1_0_0_n_n none u (extf .f32 h bitsLt_bf16_f32)

/-- The activation. -/
def activate (x : FVec Ideal S16384x24576 .f32) : FVec Ideal S16384x24576 .f32 :=
  mulf (mulf (broadcastInDim S16384x24576 ![] bcast_S_S16384x24576 (constant S_ .f32 0x3F000000#32)) x)
    (addf (broadcastInDim S16384x24576 ![] bcast_S_S16384x24576 (constant S_ .f32 0x3F800000#32))
      (Host.erf (mulf x (broadcastInDim S16384x24576 ![] bcast_S_S16384x24576 (constant S_ .f32 0x3F3504F3#32)))))

/-- The reference's result. -/
def ref (h : FVec Ideal S24576x4096 .bf16) (u v : FVec Ideal S16384x4096 .f32) (s1 s2 : FVec Ideal S8x128x24576 .f32)
    (thr o1 o2 : FVec Ideal S8x24576 .f32) : FVec Ideal S24576x4096 .f32 :=
  Host.dotGeneral (F := Ideal) dot_S16384x24576_S16384x4096_S24576x4096_0_0_1_1_n_n none
    (mulf (summed (gates s1 s2 thr o1 o2)) (activate (products h u))) v

/-- The weight of an expert for a token. -/
def mixWeight (h : FVec Ideal S24576x4096 .bf16) (u : FVec Ideal S16384x4096 .f32) (s1 s2 : FVec Ideal S8x128x24576 .f32)
    (thr o1 o2 : FVec Ideal S8x24576 .f32) (n : Fin 24576) (e : Fin 16384) : EReal :=
  (∑ a : Fin 8, gate (s1 (ix3 a ⟨e.val / 128, by omega⟩ n)) (s2 (ix3 a ⟨e.val % 128, Nat.mod_lt _ (by decide)⟩ n)) (thr (ix2 a n))
    (o1 (ix2 a n)) (Ideal.exp (s2 (ix3 a ⟨e.val % 128, Nat.mod_lt _ (by decide)⟩ n) - o2 (ix2 a n))))
    * gelu (∑ d : Fin 4096, u (ix2 e d) * h (ix2 n d))

/-- A pair's gate. -/
theorem gates_at (s1 s2 : FVec Ideal S8x128x24576 .f32) (thr o1 o2 : FVec Ideal S8x24576 .f32) (a : Fin 8) (i k : Fin 128) (n : Fin 24576) :
    gates s1 s2 thr o1 o2 (ix4 a i k n)
      = gate (s1 (ix3 a i n)) (s2 (ix3 a k n)) (thr (ix2 a n)) (o1 (ix2 a n)) (Ideal.exp (s2 (ix3 a k n) - o2 (ix2 a n))) := by
  rw [gate_exp]
  have h0 : id (constant (F := Ideal) S_ .f32 0x00000000#32) ix0 = (0 : EReal) := by
    show constant (F := Ideal) S_ .f32 0x00000000#32 ix0 = 0
    pointwise
  pointwise [gates, pairs, spread]
  rw [h0]

/-- An expert's gates, summed over the heads. -/
theorem summed_at (g : FVec Ideal S8x128x128x24576 .f32) (e : Fin 16384) (n : Fin 24576) :
    summed g (ix2 e n) = ∑ a : Fin 8, g (ix4 a ⟨e.val / 128, by omega⟩ ⟨e.val % 128, Nat.mod_lt _ (by decide)⟩ n) := by
  pointwise [summed]

/-- A product. -/
theorem products_at (h : FVec Ideal S24576x4096 .bf16) (u : FVec Ideal S16384x4096 .f32) (e : Fin 16384) (n : Fin 24576) :
    products h u (ix2 e n) = ∑ d : Fin 4096, u (ix2 e d) * h (ix2 n d) := by
  pointwise [products]

/-- An activation. -/
theorem activate_at (x : FVec Ideal S16384x24576 .f32) (i : S16384x24576.Idx) : activate x i = gelu (x i) := by
  pointwise [activate, gelu]

/-- An element of the result is the sum of the experts' weights times their rows. -/
theorem ref_at (h : FVec Ideal S24576x4096 .bf16) (u v : FVec Ideal S16384x4096 .f32) (s1 s2 : FVec Ideal S8x128x24576 .f32)
    (thr o1 o2 : FVec Ideal S8x24576 .f32) (n : Fin 24576) (d : Fin 4096) :
    ref h u v s1 s2 thr o1 o2 (ix2 n d) = ∑ e : Fin 16384, mixWeight h u s1 s2 thr o1 o2 n e * v (ix2 e d) := by
  pointwise [ref]
  simp only [activate_at, products_at, summed_at, gates_at, mixWeight]

end Cert.ReferenceIdeal.PeerRef

end
-- ==== Proof.PeerMix.lean ====
/-
  The value of the PEER mixing.

  For every token the kernel adds up, over 32 blocks of 512 experts, the experts' weights times their rows.  The weights
  a grid point computes from its blocks are the reference's (`weight_eq`), so the 32 partial sums are the reference's
  one sum over the 16384 experts (`final`).
-/
module

public import proofs.«01_k».proof.Proof.PeerStep
public import proofs.«01_k».proof.Proof.PeerRef
public import Idealize.ShloMosaic.Lib.Pipeline.ReadBack
public import Idealize.ShloMosaic.Lib.Pipeline.Value
public import Idealize.ShloMosaic.Lib.Pipeline.ValueKit.Held

@[expose] public section

set_option maxRecDepth 16384

noncomputable section

namespace Cert.KernelIdeal.PeerMix

open Idealize.ShloMosaic Idealize.ShloMosaic.TcCoe Idealize.SL.Sem
open Idealize.ShloMosaic.Pipeline (Dat)
open Cert.KernelIdeal Cert.KernelIdeal.Gen
open Cert.KernelIdeal.PeerGate Cert.KernelIdeal.PeerLoads
open Cert.ReferenceIdeal.PeerRef (ref ref_at mixWeight)

variable (m : (ℓ : Loc nD τ sig) → Buf (Elt Ideal) ℓ)

/-- The windows' block indices at grid point `t`: token tile `t / 32`, expert block `t % 32`. -/
theorem idx : ∀ t : Fin cfg0.N,
    win0_0.index t = ![t.val / 32, 0]
      ∧ win0_1.index t = ![t.val % 32, 0]
      ∧ win0_2.index t = ![t.val % 32, 0]
      ∧ win0_3.index t = ![0, 0, t.val / 32]
      ∧ win0_4.index t = ![0, 0, t.val / 32]
      ∧ win0_5.index t = ![0, t.val / 32]
      ∧ win0_6.index t = ![0, t.val / 32]
      ∧ win0_7.index t = ![0, t.val / 32]
      ∧ win0_8.index t = ![t.val / 32, 0] :=
  (by decide +kernel : ∀ t : Fin grid0.N, _)

/-- The factors kept at grid point `t` are those of the token tile `t / 32`. -/
theorem factors_eq (c : Dev nD) (t : Fin cfg0.N) (a : Fin 8) (l : Fin 128) (b : Fin 512) (n : Fin 24576)
    (hn : n.val = t.val / 32 * 512 + b.val) :
    (show FVec Ideal S8x128x512 .f32 from (outsAt0 m c t.val t.isLt).2) (ix3 a l b)
      = Ideal.exp ((show FVec Ideal S8x128x24576 .f32 from m ((c : Thread nD τ).loc main_arg4)) (ix3 a l n)
          - (show FVec Ideal S8x24576 .f32 from m ((c : Thread nD τ).loc main_arg7)) (ix2 a n)) := by
  refine (Pipeline.eq_of_write_hold_apply (fun p hp => (outsAt0 m c p hp).2) 32
    (fun p i => Ideal.exp ((show FVec Ideal S8x128x512 .f32 from iblk m c 4 p) i - (show FVec Ideal S8x512 .f32 from iblk m c 7 p) (ix2 (i 0) (i 2))))
    (fun p hp i => ?_) (fun p hp i => congrFun (PeerStep.factors_next m c p hp) i) t (ix3 a l b)).trans ?_
  · exact (congrArg _ (eq_ix3 i)).trans ((PeerStep.factors_first m c p hp (i 0) (i 1) (i 2)).trans (by rw [← eq_ix3 i]))
  · refine congrArg Ideal.exp (congrArg₂ (· - ·) ?_ ?_)
    all_goals blk_point [iblk, V, idx ⟨_, Pipeline.run_start_lt t⟩]

/-- The weights of a grid point are the reference's. -/
theorem weight_eq (c : Dev nD) (t : Fin cfg0.N) (b k : Fin 512) (n : Fin 24576) (e : Fin 16384)
    (hn : n.val = t.val / 32 * 512 + b.val) (he : e.val = t.val % 32 * 512 + k.val) :
    weight (iblk m c 1 t) (iblk m c 0 t) (iblk m c 3 t) (iblk m c 4 t) (iblk m c 5 t) (iblk m c 6 t)
        (outsAt0 m c t.val t.isLt).2 ⟨t.val % 32, by omega⟩ b k
      = mixWeight (m ((c : Thread nD τ).loc main_arg0)) (m ((c : Thread nD τ).loc main_arg1)) (m ((c : Thread nD τ).loc main_arg3))
          (m ((c : Thread nD τ).loc main_arg4)) (m ((c : Thread nD τ).loc main_arg5)) (m ((c : Thread nD τ).loc main_arg6))
          (m ((c : Thread nD τ).loc main_arg7)) n e := by
  have h1 : 4 * (t.val % 32) + k.val / 128 = e.val / 128 := by omega
  have h2 : k.val % 128 = e.val % 128 := by omega
  refine congrArg₂ (· * ·) (Finset.sum_congr rfl fun a _ => ?_) (congrArg gelu (Finset.sum_congr rfl fun d _ => congrArg₂ (· * ·) ?_ ?_))
  · have hf := factors_eq m c t a ⟨k.val % 128, Nat.mod_lt _ (by decide)⟩ b n hn
    refine (congrArg (gate _ _ _ _) hf).trans ?_
    simp only [h1, h2]
    congr 1
    all_goals blk_point [iblk, V, idx t]
  · blk_point [iblk, V, idx t]
  · blk_point [iblk, V, idx t]

/-- One grid point's weighted rows. -/
def term (c : Dev nD) (t : Fin cfg0.N) (j : S512x4096.Idx) : EReal :=
  ∑ k : Fin 512, weight (iblk m c 1 t) (iblk m c 0 t) (iblk m c 3 t) (iblk m c 4 t) (iblk m c 5 t) (iblk m c 6 t)
      (outsAt0 m c t.val t.isLt).2 ⟨t.val % 32, by omega⟩ (j 0) k
    * (show FVec Ideal S512x4096 .bf16 from iblk m c 2 t) (ix2 k (j 1))

/-- After the run the result array is the reference's. -/
theorem final (c : Dev nD) : (dats m 0 c).arrAt 8 cfg0.N
    = ref (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t hf y => ?_
  have h31 : t.val % 32 = 31 := (flush0_8 t).mp hf
  blk_simp
  rw [after0_8]
  refine (Pipeline.eq_sum_fin_of_reset_step_apply_of_flush (fun p hp => (outsAt0 m c p hp).1) 32 (fun _ => (0 : EReal)) (term m c)
    (fun p hp j => (PeerStep.first m c p hp j).trans (zero_add _).symm)
    (fun p hp j => by
      have hj := PeerStep.next m c p hp j
      rw [← PeerStep.factors_next m c p hp] at hj
      exact hj) t h31 y).trans ?_
  rw [zero_add]
  have ht : t.val < 1536 := lt_of_lt_of_eq t.isLt (show cfg0.N = 1536 from N_0)
  have hy : (y 0).val < 512 := (y 0).isLt
  have hn : t.val / 32 * 512 + (y 0).val < 24576 := by omega
  generalize hX : ref _ _ _ _ _ _ _ _ = X
  refine Eq.trans ?_ (show X (ix2 ⟨t.val / 32 * 512 + (y 0).val, hn⟩ (y 1)) = X _ by blk_point [idx t])
  rw [← hX]
  refine Eq.trans ?_ (ref_at _ _ _ _ _ _ _ _ _ _).symm
  refine Fin.sum_mul_add_congr fun s k hl => congrArg₂ (· * ·) ?_ ?_
  · exact weight_eq m c ⟨32 * (t.val / 32) + s.val, Pipeline.run_point_lt_of_flush t h31 s⟩ (y 0) k _ _
      (show t.val / 32 * 512 + (y 0).val = (32 * (t.val / 32) + s.val) / 32 * 512 + (y 0).val by omega)
      (show s.val * 512 + k.val = (32 * (t.val / 32) + s.val) % 32 * 512 + k.val by omega)
  · blk_point [iblk, V, idx ⟨_, Pipeline.run_point_lt_of_flush t h31 s⟩]

/-- Every run ends with the result array at the output window's contents after the last grid point and the arguments
    as launched. -/
theorem run (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 8,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.PeerMix

end
-- ==== Proof.BlockProduct.lean ====
/-
  A product of matrices computed in blocks along the contracted axis.

  The dense kernels walk, for each tile of the result (1024 rows, mostly 1024 columns), `J` blocks of 512 lanes of the
  contracted axis.
  A scratch tile is set to the first block product at the first block and gets the next block product added at each
  further one.  What it holds after the last block is the whole contraction over the `J · 512` lanes.
  Sums of extended reals may be regrouped freely, so no finiteness is asked.
-/
module

public import Idealize.ShloMosaic.Lib.Pipeline.ValueKit

@[expose] public section

set_option maxRecDepth 16384

noncomputable section

namespace Cert.BlockProduct

open Idealize.ShloMosaic Idealize.ShloMosaic.TcCoe Idealize.SL.Sem

/-- An index of a result tile of `b` columns. -/
abbrev Tile (b : ℕ) : Type := (⟨2, ![1024, b]⟩ : Shape).Idx

/-- The product of one left block (1024 × 512) with one right block (512 × b), at an entry of the tile. -/
def part {b : ℕ} (x : (⟨2, ![1024, 512]⟩ : Shape).Idx → EReal) (w : (⟨3, ![1, 512, b]⟩ : Shape).Idx → EReal) (j : Tile b) : EReal :=
  ∑ k : Fin 512, x (ix2 (j 0) k) * w (ix3 0 k (j 1))

/-- A scratch tile `f` that is reset at the first of every `J` grid points and gets one block product per point holds,
    at the last of the `J` points, the whole contraction of the rows `X` and columns `Y` the blocks were cut from. -/
theorem whole {N b : ℕ} (J K : ℕ) [NeZero J] (f : (n : ℕ) → n < N → Tile b → EReal)
    (x : Fin N → (⟨2, ![1024, 512]⟩ : Shape).Idx → EReal) (w : Fin N → (⟨3, ![1, 512, b]⟩ : Shape).Idx → EReal)
    (h0 : ∀ t : Fin N, t.val % J = 0 → ∀ j, f t.val t.isLt j = 0 + part (x t) (w t) j)
    (hs : ∀ t : Fin N, ¬t.val % J = 0 → ∀ j,
      f t.val t.isLt j = f (t.val - 1) (Nat.lt_of_le_of_lt (Nat.sub_le _ _) t.isLt) j + part (x t) (w t) j)
    (t : Fin N) (h : t.val % J = J - 1) (j : Tile b) (hK : K = J * 512) (X Y : Fin K → EReal)
    (hx : ∀ (s : Fin J) (k : Fin 512) (hl : s.val * 512 + k.val < K),
      x ⟨J * (t.val / J) + s.val, Pipeline.run_point_lt_of_flush t h s⟩ (ix2 (j 0) k) = X ⟨s.val * 512 + k.val, hl⟩)
    (hw : ∀ (s : Fin J) (k : Fin 512) (hl : s.val * 512 + k.val < K),
      w ⟨J * (t.val / J) + s.val, Pipeline.run_point_lt_of_flush t h s⟩ (ix3 0 k (j 1)) = Y ⟨s.val * 512 + k.val, hl⟩) :
    f t.val t.isLt j = ∑ k : Fin K, X k * Y k := by
  rw [Pipeline.eq_sum_fin_of_reset_step_apply_of_flush f J (fun _ => 0) (fun p => part (x p) (w p)) h0 hs t h j, zero_add]
  subst hK
  refine Fin.sum_mul_add_congr fun s k hl => ?_
  rw [hx s k hl, hw s k hl]

end Cert.BlockProduct

end
-- ==== Proof.HyIn.lean ====
/-
  The value of the input projection of the gated long convolution (`hy_in`), `h · w` over all tokens.

  The kernel walks a grid of 24 × 12 output tiles of 1024 × 1024, and for each tile walks the 4096 channels in
  eight blocks of 512.  A scratch tile is zeroed at the first block, gets one block product added at every block, and
  is copied to the output tile at the last.  The reference is one contraction over the 4096 channels.
-/
module

public import proofs.«01_k».proof.Proof.Gen.Kernel2Ideal.Value
public import proofs.«01_k».proof.Proof.Gen.Reference2Ideal.Run
public import proofs.«01_k».proof.Proof.BlockProduct
public import Idealize.ShloMosaic.Lib.Pipeline.ReadBack

@[expose] public section

set_option maxRecDepth 16384

noncomputable section

namespace Cert.Kernel2Ideal.HyIn

open Idealize.ShloMosaic Idealize.ShloMosaic.TcCoe Idealize.SL.Sem
open Idealize.ShloMosaic.Pipeline (Dat)
open Cert.Kernel2Ideal Cert.Kernel2Ideal.Gen
open Cert.BlockProduct (part)

variable (m : (ℓ : Loc nD τ sig) → Buf (Elt Ideal) ℓ)

/-- The reference's result: the token rows, read as floats, times the weight. -/
def ref (x : FVec Ideal S24576x4096 .bf16) (w : FVec Ideal S4096x12288 .f32) : FVec Ideal S24576x12288 .f32 :=
  Host.dotGeneral Cert.Reference2Ideal.dot_S24576x4096_S4096x12288_S24576x12288_1_0_0_1_n_n none
    (extf .f32 x Cert.Reference2Ideal.Gen.bitsLt_bf16_f32) w

/-- The windows' block indices at grid point `t`: row tile `t / 96`, column tile `t / 8 % 12`, channel block `t % 8`. -/
theorem idx : ∀ t : Fin cfg0.N,
    win0_0.index t = ![t.val / 96, t.val % 8]
      ∧ win0_1.index t = ![0, t.val % 8, t.val / 8 % 12]
      ∧ win0_2.index t = ![t.val / 96, t.val / 8 % 12] :=
  (by decide +kernel : ∀ t : Fin grid0.N, _)

/-- The scratch starts at zero. -/
theorem zero_at (j : S1024x1024.Idx) : k0_pay1 (F := Ideal) j = 0 := by pointwise [k0_pay1]

/-- One step adds one block product. -/
theorem step_at (x : FVec Ideal S1024x512 .bf16) (acc : FVec Ideal S1024x1024 .f32) (w : FVec Ideal S1x512x1024 .bf16)
    (j : S1024x1024.Idx) : k0_pay2 (F := Ideal) x acc w j = acc j + part x w j := by
  pointwise [k0_pay2, part]

/-- At the first channel block the scratch is the first block product. -/
theorem first (c : Dev nD) (t : Fin cfg0.N) (h : t.val % 8 = 0) (j : S1024x1024.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 8 = 0) (j : S1024x1024.Idx) :
    (outsAt0 m c t.val t.isLt).2 j
      = (show FVec Ideal S1024x1024 .f32 from
          (outsAt0 m c (t.val - 1) (Nat.lt_of_le_of_lt (Nat.sub_le _ _) t.isLt)).2) j
        + part (iblk m c 0 t) (iblk m c 1 t) j := by
  by_cases h1 : t.val % 8 = 7
  · rw [outsAt0_C m c t h h1]; frame_out; rw [step_at, read_unread_whole]
  · rw [outsAt0_B m c t h h1]; frame_out; rw [step_at, read_unread_whole]

/-- At the last channel block the output tile is a copy of the scratch. -/
theorem out_eq_scratch (c : Dev nD) (t : Fin cfg0.N) (h : t.val % 8 = 7) :
    (outsAt0 m c t.val t.isLt).1 = (outsAt0 m c t.val t.isLt).2 := by
  rw [outsAt0_C m c t (by omega) h]; frame_out

/-- After the run the result array is the reference's. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, out_eq_scratch m c t h7]
  pointwise [ref]
  refine BlockProduct.whole 8 4096 (fun n h => (outsAt0 m c n h).2) (iblk m c 0) (iblk m c 1) (first m c) (next m c) t h7 y rfl
    _ _ (fun s k hl => ?_) (fun s k hl => ?_)
  all_goals blk_point [iblk, V, idx t, idx ⟨_, Pipeline.run_point_lt_of_flush t h7 s⟩]

end Cert.Kernel2Ideal.HyIn

end
-- ==== Proof.GdnIn.lean ====
/-
  The value of the input projection of the gated DeltaNet (`gdn_in`): the query, key, value and gate columns of `h · w`.

  The kernel cuts the 4 · 4096 columns out of the weight before it multiplies, in 1024 × 1024 output tiles over eight
  channel blocks; the reference multiplies by the whole weight and cuts the columns out of the product.
-/
module

public import proofs.«01_k».proof.Proof.Gen.Kernel3Ideal.Value
public import proofs.«01_k».proof.Proof.Gen.Reference3Ideal.Run
public import proofs.«01_k».proof.Proof.BlockProduct
public import Idealize.ShloMosaic.Lib.Pipeline.ReadBack

@[expose] public section

set_option maxRecDepth 16384

noncomputable section

namespace Cert.Kernel3Ideal.GdnIn

open Idealize.ShloMosaic Idealize.ShloMosaic.TcCoe Idealize.SL.Sem
open Idealize.ShloMosaic.Pipeline (Dat)
open Cert.Kernel3Ideal Cert.Kernel3Ideal.Gen
open Cert.BlockProduct (part)

variable (m : (ℓ : Loc nD τ sig) → Buf (Elt Ideal) ℓ)

/-- The reference's result: the first 4 · 4096 columns of the token rows times the weight. -/
def ref (x : FVec Ideal S24576x4096 .bf16) (w : FVec Ideal S4096x16512 .f32) : FVec Ideal S24576x16384 .f32 :=
  extractStridedSlice Cert.Reference3Ideal.S24576x16384 ![0, 0]
    (Host.dotGeneral Cert.Reference3Ideal.dot_S24576x4096_S4096x16512_S24576x16512_1_0_0_1_n_n none
      (extf .f32 x Cert.Reference3Ideal.Gen.bitsLt_bf16_f32) w)
    Cert.Reference3Ideal.Gen.slices_S24576x16512_S24576x16384_0_0

/-- The windows' block indices at grid point `t`: row tile `t / 128`, column tile `t / 8 % 16`, channel block `t % 8`. -/
theorem idx : ∀ t : Fin cfg0.N,
    win0_0.index t = ![t.val / 128, t.val % 8]
      ∧ win0_1.index t = ![0, t.val % 8, t.val / 8 % 16]
      ∧ win0_2.index t = ![t.val / 128, t.val / 8 % 16] :=
  (by decide +kernel : ∀ t : Fin grid0.N, _)

/-- The scratch starts at zero. -/
theorem zero_at (j : S1024x1024.Idx) : k0_pay1 (F := Ideal) j = 0 := by pointwise [k0_pay1]

/-- One step adds one block product. -/
theorem step_at (x : FVec Ideal S1024x512 .bf16) (acc : FVec Ideal S1024x1024 .f32) (w : FVec Ideal S1x512x1024 .bf16)
    (j : S1024x1024.Idx) : k0_pay2 (F := Ideal) x acc w j = acc j + part x w j := by
  pointwise [k0_pay2, part]

/-- At the first channel block the scratch is the first block product. -/
theorem first (c : Dev nD) (t : Fin cfg0.N) (h : t.val % 8 = 0) (j : S1024x1024.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 8 = 0) (j : S1024x1024.Idx) :
    (outsAt0 m c t.val t.isLt).2 j
      = (show FVec Ideal S1024x1024 .f32 from
          (outsAt0 m c (t.val - 1) (Nat.lt_of_le_of_lt (Nat.sub_le _ _) t.isLt)).2) j
        + part (iblk m c 0 t) (iblk m c 1 t) j := by
  by_cases h1 : t.val % 8 = 7
  · rw [outsAt0_C m c t h h1]; frame_out; rw [step_at, read_unread_whole]
  · rw [outsAt0_B m c t h h1]; frame_out; rw [step_at, read_unread_whole]

/-- At the last channel block the output tile is a copy of the scratch. -/
theorem out_eq_scratch (c : Dev nD) (t : Fin cfg0.N) (h : t.val % 8 = 7) :
    (outsAt0 m c t.val t.isLt).1 = (outsAt0 m c t.val t.isLt).2 := by
  rw [outsAt0_C m c t (by omega) h]; frame_out

/-- After the run the result array is the reference's. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, out_eq_scratch m c t h7]
  pointwise [ref]
  refine BlockProduct.whole 8 4096 (fun n h => (outsAt0 m c n h).2) (iblk m c 0) (iblk m c 1) (first m c) (next m c) t h7 y rfl
    _ _ (fun s k hl => ?_) (fun s k hl => ?_)
  all_goals blk_point [iblk, V, idx t, idx ⟨_, Pipeline.run_point_lt_of_flush t h7 s⟩]

end Cert.Kernel3Ideal.GdnIn

end
-- ==== Proof.Sequences.lean ====
/-
  The packed token rows and the sequences they belong to.

  The 24576 token rows hold two prompt sequences of 8192 rows each, then two sample sequences of 4096 rows each.
  The gates that multiply a mixer's result are one row per sequence.
-/
module

public import Idealize.ShloMosaic.Lib.Pipeline.ValueKit

@[expose] public section

noncomputable section

namespace Cert.Sequences

open Idealize.ShloMosaic Idealize.ShloMosaic.TcCoe Idealize.SL.Sem

/-- The sequence of a token row: rows 0–8191, 8192–16383, 16384–20479 and 20480–24575 belong to sequences 0, 1, 2, 3. -/
def seqOf (r : Fin 24576) : Fin 4 := ⟨max (r.val / 8192) (r.val / 4096 - 2), by omega⟩

/-- The sequence of a prompt row. -/
theorem seqOf_prompt (r : Fin 16384) : seqOf ⟨r.val, by omega⟩ = ⟨r.val / 8192, by omega⟩ :=
  Fin.ext (show max (r.val / 8192) (r.val / 4096 - 2) = r.val / 8192 by omega)

/-- The sequence of a sample row. -/
theorem seqOf_sample (r : Fin 8192) : seqOf ⟨16384 + r.val, by omega⟩ = ⟨2 + r.val / 4096, by omega⟩ :=
  Fin.ext (show max ((16384 + r.val) / 8192) ((16384 + r.val) / 4096 - 2) = 2 + r.val / 4096 by omega)

/-- The token array `x + gate · (a · w)`, the gate's row being that of the token's sequence. -/
def gated (a : (⟨2, ![24576, 4096]⟩ : Shape).Idx → EReal) (w : (⟨2, ![4096, 4096]⟩ : Shape).Idx → EReal)
    (x : (⟨2, ![24576, 4096]⟩ : Shape).Idx → EReal) (g : (⟨3, ![4, 1, 4096]⟩ : Shape).Idx → EReal) :
    (⟨2, ![24576, 4096]⟩ : Shape).Idx → EReal := fun i =>
  x (ix2 (i 0) (i 1)) + g (ix3 (seqOf (i 0)) 0 (i 1)) * ∑ k : Fin 4096, a (ix2 (i 0) k) * w (ix2 k (i 1))

end Cert.Sequences

end
-- ==== Proof.PoolOut.lean ====
/-
  The value of the bf16 output projection of the pooling and delta-rule mixers, `x + gate · (a · w)` over all tokens.

  The kernel computes 1024 × 1024 output tiles over eight channel blocks and adds the gated product to the residual
  tile at the last block.  The reference does it for the two prompt sequences and the two sample sequences apart, as
  arrays of sequences, and joins the rows.  Both are `Sequences.gated`.
-/
module

public import proofs.«01_k».proof.Proof.Gen.Kernel4Ideal.Frame
public import proofs.«01_k».proof.Proof.Gen.Reference4Ideal.Run
public import proofs.«01_k».proof.Proof.BlockProduct
public import proofs.«01_k».proof.Proof.Sequences
public import Idealize.ShloMosaic.Lib.Pipeline.ReadBack
public import Idealize.ShloMosaic.Lib.Pipeline.Value

@[expose] public section

set_option maxRecDepth 16384

noncomputable section

namespace Cert.Kernel4Ideal.PoolOut

open Idealize.ShloMosaic Idealize.ShloMosaic.TcCoe Idealize.SL.Sem
open Idealize.ShloMosaic.Pipeline (Dat)
open Cert.Kernel4Ideal Cert.Kernel4Ideal.Gen
open Cert.BlockProduct (part)
open Cert.Sequences (seqOf seqOf_prompt seqOf_sample gated)

variable (m : (ℓ : Loc nD τ sig) → Buf (Elt Ideal) ℓ)

/-- The rows of one group of sequences in the reference, prompt sequences: `x + gate · (a · w)`. -/
def refPrompt (a : FVec Ideal S24576x4096 .bf16) (w : FVec Ideal S4096x4096 .f32) (x : FVec Ideal S24576x4096 .f32)
    (g : FVec Ideal S4x1x4096 .f32) : FVec Ideal Cert.Reference4Ideal.S16384x4096 .f32 :=
  shapeCast _ (addf (shapeCast _ (extractStridedSlice Cert.Reference4Ideal.S16384x4096 ![0, 0] x Cert.Reference4Ideal.Gen.slices_S24576x4096_S16384x4096_0_0) Cert.Reference4Ideal.Gen.shapeCasts_S16384x4096_S2x8192x4096)
    (mulf (broadcastInDim Cert.Reference4Ideal.S2x8192x4096 ![0, 1, 2] Cert.Reference4Ideal.Gen.bcast_S2x1x4096_S2x8192x4096_0_1_2 (extractStridedSlice Cert.Reference4Ideal.S2x1x4096 ![0, 0, 0] g Cert.Reference4Ideal.Gen.slices_S4x1x4096_S2x1x4096_0_0_0))
      (Host.dotGeneral Cert.Reference4Ideal.dot_S2x8192x4096_S4096x4096_S2x8192x4096_2_0_01_1_n_n none (shapeCast _ (extractStridedSlice Cert.Reference4Ideal.S16384x4096 ![0, 0] (extf .f32 a Cert.Reference4Ideal.Gen.bitsLt_bf16_f32) Cert.Reference4Ideal.Gen.slices_S24576x4096_S16384x4096_0_0) Cert.Reference4Ideal.Gen.shapeCasts_S16384x4096_S2x8192x4096) w))) Cert.Reference4Ideal.Gen.shapeCasts_S2x8192x4096_S16384x4096

/-- The same for the sample sequences. -/
def refSample (a : FVec Ideal S24576x4096 .bf16) (w : FVec Ideal S4096x4096 .f32) (x : FVec Ideal S24576x4096 .f32)
    (g : FVec Ideal S4x1x4096 .f32) : FVec Ideal Cert.Reference4Ideal.S8192x4096 .f32 :=
  shapeCast _ (addf (shapeCast _ (extractStridedSlice Cert.Reference4Ideal.S8192x4096 ![16384, 0] x Cert.Reference4Ideal.Gen.slices_S24576x4096_S8192x4096_16384_0) Cert.Reference4Ideal.Gen.shapeCasts_S8192x4096_S2x4096x4096)
    (mulf (broadcastInDim Cert.Reference4Ideal.S2x4096x4096 ![0, 1, 2] Cert.Reference4Ideal.Gen.bcast_S2x1x4096_S2x4096x4096_0_1_2 (extractStridedSlice Cert.Reference4Ideal.S2x1x4096 ![2, 0, 0] g Cert.Reference4Ideal.Gen.slices_S4x1x4096_S2x1x4096_2_0_0))
      (Host.dotGeneral Cert.Reference4Ideal.dot_S2x4096x4096_S4096x4096_S2x4096x4096_2_0_01_1_n_n none (shapeCast _ (extractStridedSlice Cert.Reference4Ideal.S8192x4096 ![16384, 0] (extf .f32 a Cert.Reference4Ideal.Gen.bitsLt_bf16_f32) Cert.Reference4Ideal.Gen.slices_S24576x4096_S8192x4096_16384_0) Cert.Reference4Ideal.Gen.shapeCasts_S8192x4096_S2x4096x4096) w))) Cert.Reference4Ideal.Gen.shapeCasts_S2x4096x4096_S8192x4096

/-- The reference's result: both groups' rows, joined. -/
def ref (a : FVec Ideal S24576x4096 .bf16) (w : FVec Ideal S4096x4096 .f32) (x : FVec Ideal S24576x4096 .f32)
    (g : FVec Ideal S4x1x4096 .f32) : FVec Ideal S24576x4096 .f32 :=
  concatenate S24576x4096 0 [⟨Cert.Reference4Ideal.S16384x4096, refPrompt a w x g⟩, ⟨Cert.Reference4Ideal.S8192x4096, refSample a w x g⟩]
    Cert.Reference4Ideal.Gen.concatenates_S16384x4096_S8192x4096_S24576x4096_d0

/-- A prompt row of the reference. -/
theorem refPrompt_at (a : FVec Ideal S24576x4096 .bf16) (w : FVec Ideal S4096x4096 .f32) (x : FVec Ideal S24576x4096 .f32)
    (g : FVec Ideal S4x1x4096 .f32) (r : Fin 16384) (n : Fin 4096) :
    refPrompt a w x g (ix2 r n) = gated a w x g (ix2 ⟨r.val, by omega⟩ n) := by
  pointwise [refPrompt, gated]
  rw [seqOf_prompt]

/-- A sample row of the reference. -/
theorem refSample_at (a : FVec Ideal S24576x4096 .bf16) (w : FVec Ideal S4096x4096 .f32) (x : FVec Ideal S24576x4096 .f32)
    (g : FVec Ideal S4x1x4096 .f32) (r : Fin 8192) (n : Fin 4096) :
    refSample a w x g (ix2 r n) = gated a w x g (ix2 ⟨16384 + r.val, by omega⟩ n) := by
  pointwise [refSample, gated]
  rw [seqOf_sample]

/-- The reference computes the gated projection. -/
theorem ref_eq (a : FVec Ideal S24576x4096 .bf16) (w : FVec Ideal S4096x4096 .f32) (x : FVec Ideal S24576x4096 .f32)
    (g : FVec Ideal S4x1x4096 .f32) : ref a w x g = gated a w x g := by
  funext i
  pointwise [ref]
  by_cases h : (i 0 : ℕ) < 16384
  · rw [dif_pos h]
    exact refPrompt_at a w x g ⟨(i 0 : ℕ), h⟩ (i 1)
  · rw [dif_neg h]
    have hi : (i 0 : ℕ) < 24576 := (i 0).isLt
    exact (refSample_at a w x g ⟨(i 0 : ℕ) - 16384, by omega⟩ (i 1)).trans
      (congrArg (fun q : Fin 24576 => gated a w x g (ix2 q (i 1)))
        (Fin.ext (show 16384 + ((i 0 : ℕ) - 16384) = (i 0 : ℕ) by omega)))

/-- The windows' block indices at grid point `t`: row tile `t / 32`, column tile `t / 8 % 4`, channel block `t % 8`;
    the gate's row is that of the row tile's sequence. -/
theorem idx : ∀ t : Fin cfg0.N,
    win0_0.index t = ![t.val / 32, t.val % 8]
      ∧ win0_1.index t = ![0, t.val % 8, t.val / 8 % 4]
      ∧ win0_2.index t = ![t.val / 32, t.val / 8 % 4]
      ∧ win0_3.index t = ![max (t.val / 256) (t.val / 128 - 2), 0, t.val / 8 % 4]
      ∧ win0_4.index t = ![t.val / 32, t.val / 8 % 4] :=
  (by decide +kernel : ∀ t : Fin grid0.N, _)

/-- The scratch starts at zero. -/
theorem zero_at (j : S1024x1024.Idx) : k0_pay1 (F := Ideal) j = 0 := by pointwise [k0_pay1]

/-- One step adds one block product. -/
theorem step_at (x : FVec Ideal S1024x512 .bf16) (acc : FVec Ideal S1024x1024 .f32) (w : FVec Ideal S1x512x1024 .bf16)
    (j : S1024x1024.Idx) : k0_pay2 (F := Ideal) x acc w j = acc j + part x w j := by
  pointwise [k0_pay2, part]

/-- The output tile is the residual plus the gate's row times the product. -/
theorem out_at (acc x : FVec Ideal S1024x1024 .f32) (g : FVec Ideal S1x1x1024 .f32) (j : S1024x1024.Idx) :
    k0_pay3 (F := Ideal) acc x g j = x j + g (ix3 0 0 (j 1)) * acc j := by
  pointwise [k0_pay3]

/-- At the first channel block the scratch is the first block product. -/
theorem first (c : Dev nD) (t : Fin cfg0.N) (h : t.val % 8 = 0) (j : S1024x1024.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 8 = 0) (j : S1024x1024.Idx) :
    (outsAt0 m c t.val t.isLt).2 j
      = (show FVec Ideal S1024x1024 .f32 from
          (outsAt0 m c (t.val - 1) (Nat.lt_of_le_of_lt (Nat.sub_le _ _) t.isLt)).2) j
        + part (iblk m c 0 t) (iblk m c 1 t) j := by
  by_cases h1 : t.val % 8 = 7
  · rw [outsAt0_C m c t h h1]; frame_out; rw [step_at, read_unread_whole]
  · rw [outsAt0_B m c t h h1]; frame_out; rw [step_at, read_unread_whole]

/-- At the last channel block the output tile is the gated scratch added to the residual tile. -/
theorem out_eq (c : Dev nD) (t : Fin cfg0.N) (h : t.val % 8 = 7) (j : S1024x1024.Idx) :
    (outsAt0 m c t.val t.isLt).1 j
      = (show FVec Ideal S1024x1024 .f32 from iblk m c 2 t) j
        + (show FVec Ideal S1x1x1024 .f32 from iblk m c 3 t) (ix3 0 0 (j 1))
          * (show FVec Ideal S1024x1024 .f32 from (outsAt0 m c t.val t.isLt).2) j := by
  rw [outsAt0_C m c t (by omega) h]; frame_out; rw [out_at]

/-- After the run the result array is the reference's. -/
theorem final (c : Dev nD) : (dats m 0 c).arrAt 4 cfg0.N
    = ref (m ((c : Thread nD τ).loc main_arg0)) (m ((c : Thread nD τ).loc main_arg1))
        (m ((c : Thread nD τ).loc main_arg2)) (m ((c : Thread nD τ).loc main_arg3)) := by
  rw [ref_eq]
  refine (dats m 0 c).arrAt_eq_of_covers 4 _ (by decide +kernel) fun t hf y => ?_
  have h7 : t.val % 8 = 7 := (flush0_4 t).mp hf
  blk_simp
  rw [after0_4, out_eq m c t h7]
  unfold gated
  congr 1
  · blk_point [iblk, V, idx t]
  congr 1
  · blk_point [iblk, V, idx t, seqOf]
  refine BlockProduct.whole 8 4096 (fun n h => (outsAt0 m c n h).2) (iblk m c 0) (iblk m c 1) (first m c) (next m c) t h7 y rfl
    _ _ (fun s k hl => ?_) (fun s k hl => ?_)
  all_goals blk_point [iblk, V, idx t, idx ⟨_, Pipeline.run_point_lt_of_flush t h7 s⟩]

/-- Every run ends with the result array at the output window's contents after the last grid point and the arguments
    as launched. -/
theorem run (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel4Ideal.PoolOut

end
-- ==== Proof.HyOut.lean ====
/-
  The value of the output projection of the hyena mixer, `x + gate · (a · w)` over all tokens.

  The kernel computes 1024 × 1024 output tiles over eight channel blocks and adds the gated product to the residual
  tile at the last block.  The reference does it for the two prompt sequences and the two sample sequences apart, as
  arrays of sequences, and joins the rows.  Both are `Sequences.gated`.
-/
module

public import proofs.«01_k».proof.Proof.Gen.Kernel5Ideal.Frame
public import proofs.«01_k».proof.Proof.Gen.Reference5Ideal.Run
public import proofs.«01_k».proof.Proof.BlockProduct
public import proofs.«01_k».proof.Proof.Sequences
public import Idealize.ShloMosaic.Lib.Pipeline.ReadBack
public import Idealize.ShloMosaic.Lib.Pipeline.Value

@[expose] public section

set_option maxRecDepth 16384

noncomputable section

namespace Cert.Kernel5Ideal.HyOut

open Idealize.ShloMosaic Idealize.ShloMosaic.TcCoe Idealize.SL.Sem
open Idealize.ShloMosaic.Pipeline (Dat)
open Cert.Kernel5Ideal Cert.Kernel5Ideal.Gen
open Cert.BlockProduct (part)
open Cert.Sequences (seqOf seqOf_prompt seqOf_sample gated)

variable (m : (ℓ : Loc nD τ sig) → Buf (Elt Ideal) ℓ)

/-- The rows of one group of sequences in the reference, prompt sequences: `x + gate · (a · w)`. -/
def refPrompt (a : FVec Ideal S24576x4096 .f32) (w : FVec Ideal S4096x4096 .f32) (x : FVec Ideal S24576x4096 .f32)
    (g : FVec Ideal S4x1x4096 .f32) : FVec Ideal Cert.Reference5Ideal.S16384x4096 .f32 :=
  shapeCast _ (addf (shapeCast _ (extractStridedSlice Cert.Reference5Ideal.S16384x4096 ![0, 0] x Cert.Reference5Ideal.Gen.slices_S24576x4096_S16384x4096_0_0) Cert.Reference5Ideal.Gen.shapeCasts_S16384x4096_S2x8192x4096)
    (mulf (broadcastInDim Cert.Reference5Ideal.S2x8192x4096 ![0, 1, 2] Cert.Reference5Ideal.Gen.bcast_S2x1x4096_S2x8192x4096_0_1_2 (extractStridedSlice Cert.Reference5Ideal.S2x1x4096 ![0, 0, 0] g Cert.Reference5Ideal.Gen.slices_S4x1x4096_S2x1x4096_0_0_0))
      (Host.dotGeneral Cert.Reference5Ideal.dot_S2x8192x4096_S4096x4096_S2x8192x4096_2_0_01_1_n_n none (shapeCast _ (extractStridedSlice Cert.Reference5Ideal.S16384x4096 ![0, 0] a Cert.Reference5Ideal.Gen.slices_S24576x4096_S16384x4096_0_0) Cert.Reference5Ideal.Gen.shapeCasts_S16384x4096_S2x8192x4096) w))) Cert.Reference5Ideal.Gen.shapeCasts_S2x8192x4096_S16384x4096

/-- The same for the sample sequences. -/
def refSample (a : FVec Ideal S24576x4096 .f32) (w : FVec Ideal S4096x4096 .f32) (x : FVec Ideal S24576x4096 .f32)
    (g : FVec Ideal S4x1x4096 .f32) : FVec Ideal Cert.Reference5Ideal.S8192x4096 .f32 :=
  shapeCast _ (addf (shapeCast _ (extractStridedSlice Cert.Reference5Ideal.S8192x4096 ![16384, 0] x Cert.Reference5Ideal.Gen.slices_S24576x4096_S8192x4096_16384_0) Cert.Reference5Ideal.Gen.shapeCasts_S8192x4096_S2x4096x4096)
    (mulf (broadcastInDim Cert.Reference5Ideal.S2x4096x4096 ![0, 1, 2] Cert.Reference5Ideal.Gen.bcast_S2x1x4096_S2x4096x4096_0_1_2 (extractStridedSlice Cert.Reference5Ideal.S2x1x4096 ![2, 0, 0] g Cert.Reference5Ideal.Gen.slices_S4x1x4096_S2x1x4096_2_0_0))
      (Host.dotGeneral Cert.Reference5Ideal.dot_S2x4096x4096_S4096x4096_S2x4096x4096_2_0_01_1_n_n none (shapeCast _ (extractStridedSlice Cert.Reference5Ideal.S8192x4096 ![16384, 0] a Cert.Reference5Ideal.Gen.slices_S24576x4096_S8192x4096_16384_0) Cert.Reference5Ideal.Gen.shapeCasts_S8192x4096_S2x4096x4096) w))) Cert.Reference5Ideal.Gen.shapeCasts_S2x4096x4096_S8192x4096

/-- The reference's result: both groups' rows, joined. -/
def ref (a : FVec Ideal S24576x4096 .f32) (w : FVec Ideal S4096x4096 .f32) (x : FVec Ideal S24576x4096 .f32)
    (g : FVec Ideal S4x1x4096 .f32) : FVec Ideal S24576x4096 .f32 :=
  concatenate S24576x4096 0 [⟨Cert.Reference5Ideal.S16384x4096, refPrompt a w x g⟩, ⟨Cert.Reference5Ideal.S8192x4096, refSample a w x g⟩]
    Cert.Reference5Ideal.Gen.concatenates_S16384x4096_S8192x4096_S24576x4096_d0

/-- A prompt row of the reference. -/
theorem refPrompt_at (a : FVec Ideal S24576x4096 .f32) (w : FVec Ideal S4096x4096 .f32) (x : FVec Ideal S24576x4096 .f32)
    (g : FVec Ideal S4x1x4096 .f32) (r : Fin 16384) (n : Fin 4096) :
    refPrompt a w x g (ix2 r n) = gated a w x g (ix2 ⟨r.val, by omega⟩ n) := by
  pointwise [refPrompt, gated]
  rw [seqOf_prompt]

/-- A sample row of the reference. -/
theorem refSample_at (a : FVec Ideal S24576x4096 .f32) (w : FVec Ideal S4096x4096 .f32) (x : FVec Ideal S24576x4096 .f32)
    (g : FVec Ideal S4x1x4096 .f32) (r : Fin 8192) (n : Fin 4096) :
    refSample a w x g (ix2 r n) = gated a w x g (ix2 ⟨16384 + r.val, by omega⟩ n) := by
  pointwise [refSample, gated]
  rw [seqOf_sample]

/-- The reference computes the gated projection. -/
theorem ref_eq (a : FVec Ideal S24576x4096 .f32) (w : FVec Ideal S4096x4096 .f32) (x : FVec Ideal S24576x4096 .f32)
    (g : FVec Ideal S4x1x4096 .f32) : ref a w x g = gated a w x g := by
  funext i
  pointwise [ref]
  by_cases h : (i 0 : ℕ) < 16384
  · rw [dif_pos h]
    exact refPrompt_at a w x g ⟨(i 0 : ℕ), h⟩ (i 1)
  · rw [dif_neg h]
    have hi : (i 0 : ℕ) < 24576 := (i 0).isLt
    exact (refSample_at a w x g ⟨(i 0 : ℕ) - 16384, by omega⟩ (i 1)).trans
      (congrArg (fun q : Fin 24576 => gated a w x g (ix2 q (i 1)))
        (Fin.ext (show 16384 + ((i 0 : ℕ) - 16384) = (i 0 : ℕ) by omega)))

/-- The windows' block indices at grid point `t`: row tile `t / 32`, column tile `t / 8 % 4`, channel block `t % 8`;
    the gate's row is that of the row tile's sequence. -/
theorem idx : ∀ t : Fin cfg0.N,
    win0_0.index t = ![t.val / 32, t.val % 8]
      ∧ win0_1.index t = ![0, t.val % 8, t.val / 8 % 4]
      ∧ win0_2.index t = ![t.val / 32, t.val / 8 % 4]
      ∧ win0_3.index t = ![max (t.val / 256) (t.val / 128 - 2), 0, t.val / 8 % 4]
      ∧ win0_4.index t = ![t.val / 32, t.val / 8 % 4] :=
  (by decide +kernel : ∀ t : Fin grid0.N, _)

/-- The scratch starts at zero. -/
theorem zero_at (j : S1024x1024.Idx) : k0_pay1 (F := Ideal) j = 0 := by pointwise [k0_pay1]

/-- One step adds one block product. -/
theorem step_at (x : FVec Ideal S1024x512 .f32) (acc : FVec Ideal S1024x1024 .f32) (w : FVec Ideal S1x512x1024 .bf16)
    (j : S1024x1024.Idx) : k0_pay2 (F := Ideal) x acc w j = acc j + part x w j := by
  pointwise [k0_pay2, part]

/-- The output tile is the residual plus the gate's row times the product. -/
theorem out_at (acc x : FVec Ideal S1024x1024 .f32) (g : FVec Ideal S1x1x1024 .f32) (j : S1024x1024.Idx) :
    k0_pay3 (F := Ideal) acc x g j = x j + g (ix3 0 0 (j 1)) * acc j := by
  pointwise [k0_pay3]

/-- At the first channel block the scratch is the first block product. -/
theorem first (c : Dev nD) (t : Fin cfg0.N) (h : t.val % 8 = 0) (j : S1024x1024.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 8 = 0) (j : S1024x1024.Idx) :
    (outsAt0 m c t.val t.isLt).2 j
      = (show FVec Ideal S1024x1024 .f32 from
          (outsAt0 m c (t.val - 1) (Nat.lt_of_le_of_lt (Nat.sub_le _ _) t.isLt)).2) j
        + part (iblk m c 0 t) (iblk m c 1 t) j := by
  by_cases h1 : t.val % 8 = 7
  · rw [outsAt0_C m c t h h1]; frame_out; rw [step_at, read_unread_whole]
  · rw [outsAt0_B m c t h h1]; frame_out; rw [step_at, read_unread_whole]

/-- At the last channel block the output tile is the gated scratch added to the residual tile. -/
theorem out_eq (c : Dev nD) (t : Fin cfg0.N) (h : t.val % 8 = 7) (j : S1024x1024.Idx) :
    (outsAt0 m c t.val t.isLt).1 j
      = (show FVec Ideal S1024x1024 .f32 from iblk m c 2 t) j
        + (show FVec Ideal S1x1x1024 .f32 from iblk m c 3 t) (ix3 0 0 (j 1))
          * (show FVec Ideal S1024x1024 .f32 from (outsAt0 m c t.val t.isLt).2) j := by
  rw [outsAt0_C m c t (by omega) h]; frame_out; rw [out_at]

/-- After the run the result array is the reference's. -/
theorem final (c : Dev nD) : (dats m 0 c).arrAt 4 cfg0.N
    = ref (m ((c : Thread nD τ).loc main_arg0)) (m ((c : Thread nD τ).loc main_arg1))
        (m ((c : Thread nD τ).loc main_arg2)) (m ((c : Thread nD τ).loc main_arg3)) := by
  rw [ref_eq]
  refine (dats m 0 c).arrAt_eq_of_covers 4 _ (by decide +kernel) fun t hf y => ?_
  have h7 : t.val % 8 = 7 := (flush0_4 t).mp hf
  blk_simp
  rw [after0_4, out_eq m c t h7]
  unfold gated
  congr 1
  · blk_point [iblk, V, idx t]
  congr 1
  · blk_point [iblk, V, idx t, seqOf]
  refine BlockProduct.whole 8 4096 (fun n h => (outsAt0 m c n h).2) (iblk m c 0) (iblk m c 1) (first m c) (next m c) t h7 y rfl
    _ _ (fun s k hl => ?_) (fun s k hl => ?_)
  all_goals blk_point [iblk, V, idx t, idx ⟨_, Pipeline.run_point_lt_of_flush t h7 s⟩]

/-- Every run ends with the result array at the output window's contents after the last grid point and the arguments
    as launched. -/
theorem run (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Kernel5Ideal.HyOut

end
-- ==== Proof.PeerQ.lean ====
/-
  The value of the query projection of the expert mixer (`peer_q`), `h · w_q` rounded to bf16.

  The kernel computes 1024 × 1024 output tiles over eight channel blocks and rounds the finished tile; the reference
  rounds one contraction over the 4096 channels.
-/
module

public import proofs.«01_k».proof.Proof.Gen.Kernel6Ideal.Value
public import proofs.«01_k».proof.Proof.Gen.Reference6Ideal.Run
public import proofs.«01_k».proof.Proof.BlockProduct
public import Idealize.ShloMosaic.Lib.Pipeline.ReadBack

@[expose] public section

set_option maxRecDepth 16384

noncomputable section

namespace Cert.Kernel6Ideal.PeerQ

open Idealize.ShloMosaic Idealize.ShloMosaic.TcCoe Idealize.SL.Sem
open Idealize.ShloMosaic.Pipeline (Dat)
open Cert.Kernel6Ideal Cert.Kernel6Ideal.Gen
open Cert.BlockProduct (part)

variable (m : (ℓ : Loc nD τ sig) → Buf (Elt Ideal) ℓ)

/-- The reference's result: the token rows times the query weight, rounded. -/
def ref (x : FVec Ideal S24576x4096 .bf16) (w : FVec Ideal S4096x2048 .f32) : FVec Ideal S24576x2048 .bf16 :=
  truncf .bf16 (Host.dotGeneral Cert.Reference6Ideal.dot_S24576x4096_S4096x2048_S24576x2048_1_0_0_1_n_n none
    (extf .f32 x Cert.Reference6Ideal.Gen.bitsLt_bf16_f32) w) Cert.Reference6Ideal.Gen.bitsLt_bf16_f32

/-- The windows' block indices at grid point `t`: row tile `t / 16`, column tile `t / 8 % 2`, channel block `t % 8`. -/
theorem idx : ∀ t : Fin cfg0.N,
    win0_0.index t = ![t.val / 16, t.val % 8]
      ∧ win0_1.index t = ![0, t.val % 8, t.val / 8 % 2]
      ∧ win0_2.index t = ![t.val / 16, t.val / 8 % 2] :=
  (by decide +kernel : ∀ t : Fin grid0.N, _)

/-- The scratch starts at zero. -/
theorem zero_at (j : S1024x1024.Idx) : k0_pay1 (F := Ideal) j = 0 := by pointwise [k0_pay1]

/-- One step adds one block product. -/
theorem step_at (x : FVec Ideal S1024x512 .bf16) (acc : FVec Ideal S1024x1024 .f32) (w : FVec Ideal S1x512x1024 .bf16)
    (j : S1024x1024.Idx) : k0_pay2 (F := Ideal) x acc w j = acc j + part x w j := by
  pointwise [k0_pay2, part]

/-- At the first channel block the scratch is the first block product. -/
theorem first (c : Dev nD) (t : Fin cfg0.N) (h : t.val % 8 = 0) (j : S1024x1024.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 8 = 0) (j : S1024x1024.Idx) :
    (outsAt0 m c t.val t.isLt).2 j
      = (show FVec Ideal S1024x1024 .f32 from
          (outsAt0 m c (t.val - 1) (Nat.lt_of_le_of_lt (Nat.sub_le _ _) t.isLt)).2) j
        + part (iblk m c 0 t) (iblk m c 1 t) j := by
  by_cases h1 : t.val % 8 = 7
  · rw [outsAt0_C m c t h h1]; frame_out; rw [step_at, read_unread_whole]
  · rw [outsAt0_B m c t h h1]; frame_out; rw [step_at, read_unread_whole]

/-- At the last channel block the output tile is the scratch, rounded. -/
theorem out_eq_scratch (c : Dev nD) (t : Fin cfg0.N) (h : t.val % 8 = 7) :
    (outsAt0 m c t.val t.isLt).1 = k0_pay3 (outsAt0 m c t.val t.isLt).2 := by
  rw [outsAt0_C m c t (by omega) h]; frame_out

/-- After the run the result array is the reference's. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, out_eq_scratch m c t h7]
  pointwise [ref, k0_pay3]
  refine BlockProduct.whole 8 4096 (fun n h => (outsAt0 m c n h).2) (iblk m c 0) (iblk m c 1) (first m c) (next m c) t h7 y rfl
    _ _ (fun s k hl => ?_) (fun s k hl => ?_)
  all_goals blk_point [iblk, V, idx t, idx ⟨_, Pipeline.run_point_lt_of_flush t h7 s⟩]

end Cert.Kernel6Ideal.PeerQ

end
-- ==== Proof.PoolIn.lean ====
/-
  The value of the input projection of the pooling mixer (`pool_in`), `h · w_in` over all tokens.

  The kernel computes 1024 × 1024 output tiles over eight channel blocks; the reference is one contraction over the
  4096 channels.
-/
module

public import proofs.«01_k».proof.Proof.Gen.Kernel7Ideal.Value
public import proofs.«01_k».proof.Proof.Gen.Reference7Ideal.Run
public import proofs.«01_k».proof.Proof.BlockProduct
public import Idealize.ShloMosaic.Lib.Pipeline.ReadBack

@[expose] public section

set_option maxRecDepth 16384

noncomputable section

namespace Cert.Kernel7Ideal.PoolIn

open Idealize.ShloMosaic Idealize.ShloMosaic.TcCoe Idealize.SL.Sem
open Idealize.ShloMosaic.Pipeline (Dat)
open Cert.Kernel7Ideal Cert.Kernel7Ideal.Gen
open Cert.BlockProduct (part)

variable (m : (ℓ : Loc nD τ sig) → Buf (Elt Ideal) ℓ)

/-- The reference's result: the token rows times the weight. -/
def ref (x : FVec Ideal S24576x4096 .bf16) (w : FVec Ideal S4096x4096 .f32) : FVec Ideal S24576x4096 .f32 :=
  Host.dotGeneral Cert.Reference7Ideal.dot_S24576x4096_S4096x4096_S24576x4096_1_0_0_1_n_n none
    (extf .f32 x Cert.Reference7Ideal.Gen.bitsLt_bf16_f32) w

/-- The windows' block indices at grid point `t`: row tile `t / 32`, column tile `t / 8 % 4`, channel block `t % 8`. -/
theorem idx : ∀ t : Fin cfg0.N,
    win0_0.index t = ![t.val / 32, t.val % 8]
      ∧ win0_1.index t = ![0, t.val % 8, t.val / 8 % 4]
      ∧ win0_2.index t = ![t.val / 32, t.val / 8 % 4] :=
  (by decide +kernel : ∀ t : Fin grid0.N, _)

/-- The scratch starts at zero. -/
theorem zero_at (j : S1024x1024.Idx) : k0_pay1 (F := Ideal) j = 0 := by pointwise [k0_pay1]

/-- One step adds one block product. -/
theorem step_at (x : FVec Ideal S1024x512 .bf16) (acc : FVec Ideal S1024x1024 .f32) (w : FVec Ideal S1x512x1024 .bf16)
    (j : S1024x1024.Idx) : k0_pay2 (F := Ideal) x acc w j = acc j + part x w j := by
  pointwise [k0_pay2, part]

/-- At the first channel block the scratch is the first block product. -/
theorem first (c : Dev nD) (t : Fin cfg0.N) (h : t.val % 8 = 0) (j : S1024x1024.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 8 = 0) (j : S1024x1024.Idx) :
    (outsAt0 m c t.val t.isLt).2 j
      = (show FVec Ideal S1024x1024 .f32 from
          (outsAt0 m c (t.val - 1) (Nat.lt_of_le_of_lt (Nat.sub_le _ _) t.isLt)).2) j
        + part (iblk m c 0 t) (iblk m c 1 t) j := by
  by_cases h1 : t.val % 8 = 7
  · rw [outsAt0_C m c t h h1]; frame_out; rw [step_at, read_unread_whole]
  · rw [outsAt0_B m c t h h1]; frame_out; rw [step_at, read_unread_whole]

/-- At the last channel block the output tile is a copy of the scratch. -/
theorem out_eq_scratch (c : Dev nD) (t : Fin cfg0.N) (h : t.val % 8 = 7) :
    (outsAt0 m c t.val t.isLt).1 = (outsAt0 m c t.val t.isLt).2 := by
  rw [outsAt0_C m c t (by omega) h]; frame_out

/-- After the run the result array is the reference's. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, out_eq_scratch m c t h7]
  pointwise [ref]
  refine BlockProduct.whole 8 4096 (fun n h => (outsAt0 m c n h).2) (iblk m c 0) (iblk m c 1) (first m c) (next m c) t h7 y rfl
    _ _ (fun s k hl => ?_) (fun s k hl => ?_)
  all_goals blk_point [iblk, V, idx t, idx ⟨_, Pipeline.run_point_lt_of_flush t h7 s⟩]

end Cert.Kernel7Ideal.PoolIn

end
-- ==== Proof.PoolGrp.lean ====
/-
  The value of the grouped product of the pooling mixer (`pool_grp`): each of the four groups of 1024 pooled channels
  times its own weight, every channel times its scale.

  The kernel computes 1024 × 1024 output tiles over two channel blocks; the reference is one batched contraction over
  the 1024 channels of a group.
-/
module

public import proofs.«01_k».proof.Proof.Gen.Kernel8Ideal.Value
public import proofs.«01_k».proof.Proof.Gen.Reference8Ideal.Run
public import proofs.«01_k».proof.Proof.BlockProduct
public import Idealize.ShloMosaic.Lib.Pipeline.ReadBack

@[expose] public section

set_option maxRecDepth 16384

noncomputable section

namespace Cert.Kernel8Ideal.PoolGrp

open Idealize.ShloMosaic Idealize.ShloMosaic.TcCoe Idealize.SL.Sem
open Idealize.ShloMosaic.Pipeline (Dat)
open Cert.Kernel8Ideal Cert.Kernel8Ideal.Gen
open Cert.BlockProduct (part)

variable (m : (ℓ : Loc nD τ sig) → Buf (Elt Ideal) ℓ)

/-- The reference's result: the groups' products, scaled per channel. -/
def ref (p : FVec Ideal S24576x4096 .bf16) (w : FVec Ideal S4x1024x1024 .f32) (s : FVec Ideal S4096 .f32) :
    FVec Ideal S24576x4096 .bf16 :=
  truncf .bf16 (mulf (shapeCast _ (transpose Cert.Reference8Ideal.S24576x4x1024 [2, 0, 1]
      (Host.dotGeneral Cert.Reference8Ideal.dot_S4x1024x1024_S24576x4x1024_S4x1024x24576_1_2_2_0_0_1 none w
        (shapeCast _ (extf .f32 p Cert.Reference8Ideal.Gen.bitsLt_bf16_f32) Cert.Reference8Ideal.Gen.shapeCasts_S24576x4096_S24576x4x1024))
      Cert.Reference8Ideal.Gen.transposes_S4x1024x24576_S24576x4x1024_2_0_1) Cert.Reference8Ideal.Gen.shapeCasts_S24576x4x1024_S24576x4096)
    (broadcastInDim Cert.Reference8Ideal.S24576x4096 ![0, 1] Cert.Reference8Ideal.Gen.bcast_S1x4096_S24576x4096_0_1
      (broadcastInDim Cert.Reference8Ideal.S1x4096 ![1] Cert.Reference8Ideal.Gen.bcast_S4096_S1x4096_1 s))) Cert.Reference8Ideal.Gen.bitsLt_bf16_f32

/-- The reference at an entry: the contraction over the group's channels, the pooled channel first. -/
theorem ref_at (p : FVec Ideal S24576x4096 .bf16) (w : FVec Ideal S4x1024x1024 .f32) (s : FVec Ideal S4096 .f32)
    (i : S24576x4096.Idx) :
    ref p w s i
      = (∑ k : Fin 1024, p (ix2 (i 0) ⟨(i 1).val / 1024 * 1024 + k.val, by have := (i 1).isLt; simp at this; omega⟩)
          * w (ix3 ⟨(i 1).val / 1024, by have := (i 1).isLt; simp at this; omega⟩ k ⟨(i 1).val % 1024, by omega⟩))
        * s (ix1 (i 1)) := by
  pointwise [ref]
  simp only [mul_comm (w _)]

/-- The windows' block indices at grid point `t`: group `t / 48`, row tile `t / 2 % 24`, channel block `t % 2`. -/
theorem idx : ∀ t : Fin cfg0.N,
    win0_0.index t = ![t.val / 2 % 24, t.val / 48 * 2 + t.val % 2]
      ∧ win0_1.index t = ![t.val / 48, t.val % 2, 0]
      ∧ win0_2.index t = ![0, t.val / 48]
      ∧ win0_3.index t = ![t.val / 2 % 24, t.val / 48] :=
  (by decide +kernel : ∀ t : Fin grid0.N, _)

/-- The scratch starts at zero. -/
theorem zero_at (j : S1024x1024.Idx) : k0_pay1 (F := Ideal) j = 0 := by pointwise [k0_pay1]

/-- One step adds one block product. -/
theorem step_at (x : FVec Ideal S1024x512 .bf16) (acc : FVec Ideal S1024x1024 .f32) (w : FVec Ideal S1x512x1024 .bf16)
    (j : S1024x1024.Idx) : k0_pay2 (F := Ideal) x acc w j = acc j + part x w j := by
  pointwise [k0_pay2, part]

/-- The output tile is the product times the channels' scales. -/
theorem out_at (acc : FVec Ideal S1024x1024 .f32) (s : FVec Ideal S1x1024 .f32) (j : S1024x1024.Idx) :
    k0_pay3 (F := Ideal) acc s j = acc j * s (ix2 0 (j 1)) := by
  pointwise [k0_pay3]

/-- At the first channel block the scratch is the first block product. -/
theorem first (c : Dev nD) (t : Fin cfg0.N) (h : t.val % 2 = 0) (j : S1024x1024.Idx) :
    (outsAt0 m c t.val t.isLt).2 j = (0 : EReal) + part (iblk m c 0 t) (iblk m c 1 t) j := by
  rw [outsAt0_A m c t h (by omega)]; frame_out; rw [step_at, zero_at]

/-- At the second channel block the scratch gets that block's product added. -/
theorem next (c : Dev nD) (t : Fin cfg0.N) (h : ¬t.val % 2 = 0) (j : S1024x1024.Idx) :
    (outsAt0 m c t.val t.isLt).2 j
      = (show FVec Ideal S1024x1024 .f32 from
          (outsAt0 m c (t.val - 1) (Nat.lt_of_le_of_lt (Nat.sub_le _ _) t.isLt)).2) j
        + part (iblk m c 0 t) (iblk m c 1 t) j := by
  rw [outsAt0_B m c t h (by omega)]; frame_out; rw [step_at, read_unread_whole]

/-- At the second channel block the output tile is the scaled scratch. -/
theorem out_eq (c : Dev nD) (t : Fin cfg0.N) (h : t.val % 2 = 1) (j : S1024x1024.Idx) :
    (outsAt0 m c t.val t.isLt).1 j
      = (show FVec Ideal S1024x1024 .f32 from (outsAt0 m c t.val t.isLt).2) j
        * (show FVec Ideal S1x1024 .f32 from iblk m c 2 t) (ix2 0 (j 1)) := by
  rw [outsAt0_B m c t (by omega) h]; frame_out; rw [out_at]

/-- After the run the result array is the reference's. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  blk_simp
  rw [after0_3, out_eq m c t h1]
  refine Eq.trans ?_ (ref_at _ _ _ _).symm
  congr 1
  · refine BlockProduct.whole 2 1024 (fun n h => (outsAt0 m c n h).2) (iblk m c 0) (iblk m c 1) (first m c) (next m c) t h1 y rfl
      _ _ (fun s k hl => ?_) (fun s k hl => ?_)
    all_goals blk_point [iblk, V, idx t, idx ⟨_, Pipeline.run_point_lt_of_flush t h1 s⟩]
  · blk_point [iblk, V, idx t]

end Cert.Kernel8Ideal.PoolGrp

end
-- ==== Proof.FinalNorm.lean ====
/-
  The value of the final RMS norm: the residual `y = x + gate · o` of every token, divided by the root of its mean
  square (plus ε) and scaled per channel.

  The kernel walks blocks of 256 token rows.  The reference does it for the two prompt sequences and the two sample
  sequences apart, as arrays of sequences, and joins the rows.
-/
module

public import proofs.«01_k».proof.Proof.Gen.Kernel9Ideal.Value
public import proofs.«01_k».proof.Proof.Gen.Reference9Ideal.Run
public import proofs.«01_k».proof.Proof.Sequences
public import Idealize.ShloMosaic.Lib.Pipeline.ReadBack

@[expose] public section

set_option maxRecDepth 16384

noncomputable section

namespace Cert.Kernel9Ideal.FinalNorm

open Idealize.ShloMosaic Idealize.ShloMosaic.TcCoe Idealize.SL.Sem
open Idealize.ShloMosaic.Pipeline (Dat)
open Cert.Kernel9Ideal Cert.Kernel9Ideal.Gen
open Cert.Sequences (seqOf seqOf_prompt seqOf_sample)

variable (m : (ℓ : Loc nD τ sig) → Buf (Elt Ideal) ℓ)

/-- The windows' block indices at grid point `t`: row block `t`, and the gate's row of the block's sequence. -/
theorem idx : ∀ t : Fin cfg0.N,
    win0_0.index t = ![t.val, 0]
      ∧ win0_1.index t = ![t.val, 0]
      ∧ win0_2.index t = ![max (t.val / 32) (t.val / 16 - 2), 0, 0]
      ∧ win0_3.index t = ![0, 0]
      ∧ win0_4.index t = ![t.val, 0] :=
  (by decide +kernel : ∀ t : Fin grid0.N, _)

/-- The residual of the prompt sequences, `x + gate · o`. -/
def sumPrompt (x : FVec Ideal S24576x4096 .f32) (o : FVec Ideal S24576x4096 .f32) (g : FVec Ideal S4x1x4096 .f32) :
    FVec Ideal Cert.Reference9Ideal.S2x8192x4096 .f32 :=
  addf (shapeCast _ (extractStridedSlice Cert.Reference9Ideal.S16384x4096 ![0, 0] x Cert.Reference9Ideal.Gen.slices_S24576x4096_S16384x4096_0_0) Cert.Reference9Ideal.Gen.shapeCasts_S16384x4096_S2x8192x4096)
    (mulf (broadcastInDim Cert.Reference9Ideal.S2x8192x4096 ![0, 1, 2] Cert.Reference9Ideal.Gen.bcast_S2x1x4096_S2x8192x4096_0_1_2 (extractStridedSlice Cert.Reference9Ideal.S2x1x4096 ![0, 0, 0] g Cert.Reference9Ideal.Gen.slices_S4x1x4096_S2x1x4096_0_0_0))
      (shapeCast _ (extractStridedSlice Cert.Reference9Ideal.S16384x4096 ![0, 0] o Cert.Reference9Ideal.Gen.slices_S24576x4096_S16384x4096_0_0) Cert.Reference9Ideal.Gen.shapeCasts_S16384x4096_S2x8192x4096))

/-- The RMS norm of the prompt sequences, as rows. -/
def normPrompt (y : FVec Ideal Cert.Reference9Ideal.S2x8192x4096 .f32) (s : FVec Ideal S4096 .f32) : FVec Ideal Cert.Reference9Ideal.S16384x4096 .f32 :=
  shapeCast _ (mulf (mulf y (broadcastInDim Cert.Reference9Ideal.S2x8192x4096 ![0, 1, 2] Cert.Reference9Ideal.Gen.bcast_S2x8192x1_S2x8192x4096_0_1_2
      (Host.rsqrt (addf (Host.divf (broadcastInDim Cert.Reference9Ideal.S2x8192x1 ![0, 1] Cert.Reference9Ideal.Gen.bcast_S2x8192_S2x8192x1_0_1
          (Host.reduceAdd (mulf y y) (constant Cert.Reference9Ideal.S_ .f32 0x00000000#32) Cert.Reference9Ideal.Gen.reducesTo_S2x8192x4096_S2x8192_d2 Cert.Reference9Ideal.Gen.h_S_))
        (broadcastInDim Cert.Reference9Ideal.S2x8192x1 ![] Cert.Reference9Ideal.Gen.bcast_S_S2x8192x1 (constant Cert.Reference9Ideal.S_ .f32 0x45800000#32)))
        (broadcastInDim Cert.Reference9Ideal.S2x8192x1 ![] Cert.Reference9Ideal.Gen.bcast_S_S2x8192x1 (constant Cert.Reference9Ideal.S_ .f32 0x358637BD#32))))))
    (broadcastInDim Cert.Reference9Ideal.S2x8192x4096 ![0, 1, 2] Cert.Reference9Ideal.Gen.bcast_S1x1x4096_S2x8192x4096_0_1_2 (broadcastInDim Cert.Reference9Ideal.S1x1x4096 ![2] Cert.Reference9Ideal.Gen.bcast_S4096_S1x1x4096_2 s)))
    Cert.Reference9Ideal.Gen.shapeCasts_S2x8192x4096_S16384x4096

/-- The residual of the sample sequences, `x + gate · o`. -/
def sumSample (x : FVec Ideal S24576x4096 .f32) (o : FVec Ideal S24576x4096 .f32) (g : FVec Ideal S4x1x4096 .f32) :
    FVec Ideal Cert.Reference9Ideal.S2x4096x4096 .f32 :=
  addf (shapeCast _ (extractStridedSlice Cert.Reference9Ideal.S8192x4096 ![16384, 0] x Cert.Reference9Ideal.Gen.slices_S24576x4096_S8192x4096_16384_0) Cert.Reference9Ideal.Gen.shapeCasts_S8192x4096_S2x4096x4096)
    (mulf (broadcastInDim Cert.Reference9Ideal.S2x4096x4096 ![0, 1, 2] Cert.Reference9Ideal.Gen.bcast_S2x1x4096_S2x4096x4096_0_1_2 (extractStridedSlice Cert.Reference9Ideal.S2x1x4096 ![2, 0, 0] g Cert.Reference9Ideal.Gen.slices_S4x1x4096_S2x1x4096_2_0_0))
      (shapeCast _ (extractStridedSlice Cert.Reference9Ideal.S8192x4096 ![16384, 0] o Cert.Reference9Ideal.Gen.slices_S24576x4096_S8192x4096_16384_0) Cert.Reference9Ideal.Gen.shapeCasts_S8192x4096_S2x4096x4096))

/-- The RMS norm of the sample sequences, as rows. -/
def normSample (y : FVec Ideal Cert.Reference9Ideal.S2x4096x4096 .f32) (s : FVec Ideal S4096 .f32) : FVec Ideal Cert.Reference9Ideal.S8192x4096 .f32 :=
  shapeCast _ (mulf (mulf y (broadcastInDim Cert.Reference9Ideal.S2x4096x4096 ![0, 1, 2] Cert.Reference9Ideal.Gen.bcast_S2x4096x1_S2x4096x4096_0_1_2
      (Host.rsqrt (addf (Host.divf (broadcastInDim Cert.Reference9Ideal.S2x4096x1 ![0, 1] Cert.Reference9Ideal.Gen.bcast_S2x4096_S2x4096x1_0_1
          (Host.reduceAdd (mulf y y) (constant Cert.Reference9Ideal.S_ .f32 0x00000000#32) Cert.Reference9Ideal.Gen.reducesTo_S2x4096x4096_S2x4096_d2 Cert.Reference9Ideal.Gen.h_S_))
        (broadcastInDim Cert.Reference9Ideal.S2x4096x1 ![] Cert.Reference9Ideal.Gen.bcast_S_S2x4096x1 (constant Cert.Reference9Ideal.S_ .f32 0x45800000#32)))
        (broadcastInDim Cert.Reference9Ideal.S2x4096x1 ![] Cert.Reference9Ideal.Gen.bcast_S_S2x4096x1 (constant Cert.Reference9Ideal.S_ .f32 0x358637BD#32))))))
    (broadcastInDim Cert.Reference9Ideal.S2x4096x4096 ![0, 1, 2] Cert.Reference9Ideal.Gen.bcast_S1x1x4096_S2x4096x4096_0_1_2 (broadcastInDim Cert.Reference9Ideal.S1x1x4096 ![2] Cert.Reference9Ideal.Gen.bcast_S4096_S1x1x4096_2 s)))
    Cert.Reference9Ideal.Gen.shapeCasts_S2x4096x4096_S8192x4096

/-- The reference's result: both groups' rows, joined. -/
def ref (x : FVec Ideal S24576x4096 .f32) (s : FVec Ideal S4096 .f32) (o : FVec Ideal S24576x4096 .f32)
    (g : FVec Ideal S4x1x4096 .f32) : FVec Ideal S24576x4096 .f32 :=
  concatenate S24576x4096 0 [⟨Cert.Reference9Ideal.S16384x4096, normPrompt (sumPrompt x o g) s⟩, ⟨Cert.Reference9Ideal.S8192x4096, normSample (sumSample x o g) s⟩]
    Cert.Reference9Ideal.Gen.concatenates_S16384x4096_S8192x4096_S24576x4096_d0

/-- The reference program's result term is `ref` of its arguments. -/
theorem ref_term (m : (ℓ : Loc Cert.Reference9Ideal.nD Cert.Reference9Ideal.τ Cert.Reference9Ideal.sig) → Buf (Elt Ideal) ℓ) (c : Dev Cert.Reference9Ideal.nD) :
    Cert.Reference9Ideal.Value.res_main_v44 (F := Ideal) m c
      = ref (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1))
          (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) := rfl

/-- The residual of a token at a channel. -/
def total (x o : (⟨2, ![24576, 4096]⟩ : Shape).Idx → EReal) (g : (⟨3, ![4, 1, 4096]⟩ : Shape).Idx → EReal) (r : Fin 24576)
    (n : Fin 4096) : EReal := x (ix2 r n) + g (ix3 (seqOf r) 0 n) * o (ix2 r n)

/-- The RMS norm of a row at a channel. -/
def rms (y : Fin 4096 → EReal) (s : EReal) (n : Fin 4096) : EReal :=
  y n * Ideal.rsqrt (Ideal.div (∑ k, y k * y k) (Ideal.ofBits FTy.f32 0x45800000#32) + Ideal.ofBits FTy.f32 0x358637BD#32) * s

/-- A prompt token's residual in the reference. -/
theorem sumPrompt_at (x o : FVec Ideal S24576x4096 .f32) (g : FVec Ideal S4x1x4096 .f32) (r : Fin 16384) (n : Fin 4096) :
    sumPrompt x o g (ix3 ⟨r.val / 8192, by omega⟩ ⟨r.val % 8192, by omega⟩ n) = total x o g ⟨r.val, by omega⟩ n := by
  pointwise [sumPrompt, total]
  rw [seqOf_prompt]

/-- A sample token's residual in the reference. -/
theorem sumSample_at (x o : FVec Ideal S24576x4096 .f32) (g : FVec Ideal S4x1x4096 .f32) (r : Fin 8192) (n : Fin 4096) :
    sumSample x o g (ix3 ⟨r.val / 4096, by omega⟩ ⟨r.val % 4096, by omega⟩ n) = total x o g ⟨16384 + r.val, by omega⟩ n := by
  pointwise [sumSample, total]
  rw [seqOf_sample]

/-- A prompt token's norm in the reference. -/
theorem normPrompt_at (y : FVec Ideal Cert.Reference9Ideal.S2x8192x4096 .f32) (s : FVec Ideal S4096 .f32) (r : Fin 16384) (n : Fin 4096) :
    normPrompt y s (ix2 r n) = rms (fun k => y (ix3 ⟨r.val / 8192, by omega⟩ ⟨r.val % 8192, by omega⟩ k)) (s (ix1 n)) n := by
  pointwise [normPrompt, rms]

/-- A sample token's norm in the reference. -/
theorem normSample_at (y : FVec Ideal Cert.Reference9Ideal.S2x4096x4096 .f32) (s : FVec Ideal S4096 .f32) (r : Fin 8192) (n : Fin 4096) :
    normSample y s (ix2 r n) = rms (fun k => y (ix3 ⟨r.val / 4096, by omega⟩ ⟨r.val % 4096, by omega⟩ k)) (s (ix1 n)) n := by
  pointwise [normSample, rms]

/-- The normed token array. -/
def normed (x : (⟨2, ![24576, 4096]⟩ : Shape).Idx → EReal) (s : (⟨1, ![4096]⟩ : Shape).Idx → EReal)
    (o : (⟨2, ![24576, 4096]⟩ : Shape).Idx → EReal) (g : (⟨3, ![4, 1, 4096]⟩ : Shape).Idx → EReal) :
    (⟨2, ![24576, 4096]⟩ : Shape).Idx → EReal := fun i => rms (total x o g (i 0)) (s (ix1 (i 1))) (i 1)

/-- The reference computes the normed token array. -/
theorem ref_eq (x : FVec Ideal S24576x4096 .f32) (s : FVec Ideal S4096 .f32) (o : FVec Ideal S24576x4096 .f32)
    (g : FVec Ideal S4x1x4096 .f32) : ref x s o g = normed x s o g := by
  funext i
  pointwise [ref]
  have hi : (i 0 : ℕ) < 24576 := (i 0).isLt
  by_cases h : (i 0 : ℕ) < 16384
  · rw [dif_pos h]
    exact (normPrompt_at _ s ⟨(i 0 : ℕ), h⟩ (i 1)).trans
      (congrArg (fun f => rms f (s (ix1 (i 1))) (i 1)) (funext fun k => sumPrompt_at x o g ⟨(i 0 : ℕ), h⟩ k))
  · rw [dif_neg h]
    have hr : (i 0 : ℕ) - 16384 < 8192 := by omega
    refine (normSample_at _ s ⟨(i 0 : ℕ) - 16384, hr⟩ (i 1)).trans
      ((congrArg (fun f => rms f (s (ix1 (i 1))) (i 1)) (funext fun k => sumSample_at x o g ⟨(i 0 : ℕ) - 16384, hr⟩ k)).trans ?_)
    exact congrArg (fun q : Fin 24576 => rms (total x o g q) (s (ix1 (i 1))) (i 1))
      (Fin.ext (show 16384 + ((i 0 : ℕ) - 16384) = (i 0 : ℕ) by omega))

/-- One point's block: the norm of every row of the block. -/
theorem pay_at (x o : FVec Ideal S256x4096 .f32) (g : FVec Ideal S1x1x4096 .f32) (s : FVec Ideal S1x4096 .f32)
    (j : S256x4096.Idx) : k0_pay1 (F := Ideal) x o g s j
      = rms (fun k => x (ix2 (j 0) k) + g (ix3 0 0 k) * o (ix2 (j 0) k)) (s (ix2 0 (j 1))) (j 1) := by
  pointwise [k0_pay1, rms]
  simp only [mul_comm (g _)]

/-- After the run the result array is the reference's. -/
theorem final (c : Dev nD) : (dats m 0 c).arrAt 4 cfg0.N
    = ref (m ((c : Thread nD τ).loc main_arg0)) (m ((c : Thread nD τ).loc main_arg1))
        (m ((c : Thread nD τ).loc main_arg2)) (m ((c : Thread nD τ).loc main_arg3)) := by
  rw [ref_eq]
  refine (dats m 0 c).arrAt_eq_of_covers 4 _ (by decide +kernel) fun t hf y => ?_
  blk_simp
  rw [after0_4]; frame_out; rw [pay_at]
  unfold normed
  refine congr (congr (congrArg rms (funext fun k => ?_)) ?_) ?_
  · unfold total
    congr 1
    · blk_point [iblk, V, idx t]
    congr 1
    · blk_point [iblk, V, idx t, seqOf]
    · blk_point [iblk, V, idx t]
  · blk_point [iblk, V, idx t]
  · refine Fin.ext ?_
    show (y 1 : ℕ) = win0_4.index t 1 * 4096 + 1 * (y 1 : ℕ)
    rw [(idx t).2.2.2.2]
    show (y 1 : ℕ) = 0 * 4096 + 1 * (y 1 : ℕ)
    omega

end Cert.Kernel9Ideal.FinalNorm

end
-- ==== Proof.GdnGates.lean ====
/-
  The value of the input projection of the gated DeltaNet (`gdn_in_gates`): the 128 columns of `h · w` that the write
  strengths and decays are made of.

  The kernel cuts these columns out of the weight before it multiplies, in 1024 × 128 output tiles over eight channel
  blocks; the reference multiplies by the whole weight and cuts the columns out
  of the product.
-/
module

public import proofs.«01_k».proof.Proof.Gen.Kernel10Ideal.Value
public import proofs.«01_k».proof.Proof.Gen.Reference10Ideal.Run
public import proofs.«01_k».proof.Proof.BlockProduct
public import Idealize.ShloMosaic.Lib.Pipeline.ReadBack

@[expose] public section

set_option maxRecDepth 16384

noncomputable section

namespace Cert.Kernel10Ideal.GdnGates

open Idealize.ShloMosaic Idealize.ShloMosaic.TcCoe Idealize.SL.Sem
open Idealize.ShloMosaic.Pipeline (Dat)
open Cert.Kernel10Ideal Cert.Kernel10Ideal.Gen
open Cert.BlockProduct (part)

variable (m : (ℓ : Loc nD τ sig) → Buf (Elt Ideal) ℓ)

/-- The reference's result: the last 128 columns of the token rows times the weight. -/
def ref (x : FVec Ideal S24576x4096 .bf16) (w : FVec Ideal S4096x16512 .f32) : FVec Ideal S24576x128 .f32 :=
  extractStridedSlice Cert.Reference10Ideal.S24576x128 ![0, 16384]
    (Host.dotGeneral Cert.Reference10Ideal.dot_S24576x4096_S4096x16512_S24576x16512_1_0_0_1_n_n none
      (extf .f32 x Cert.Reference10Ideal.Gen.bitsLt_bf16_f32) w)
    Cert.Reference10Ideal.Gen.slices_S24576x16512_S24576x128_0_16384

/-- The windows' block indices at grid point `t`: row tile `t / 8`, channel block `t % 8`. -/
theorem idx : ∀ t : Fin cfg0.N,
    win0_0.index t = ![t.val / 8, t.val % 8]
      ∧ win0_1.index t = ![0, t.val % 8, 0]
      ∧ win0_2.index t = ![t.val / 8, 0] :=
  (by decide +kernel : ∀ t : Fin grid0.N, _)

/-- The scratch starts at zero. -/
theorem zero_at (j : S1024x128.Idx) : k0_pay1 (F := Ideal) j = 0 := by pointwise [k0_pay1]

/-- One step adds one block product. -/
theorem step_at (x : FVec Ideal S1024x512 .bf16) (acc : FVec Ideal S1024x128 .f32) (w : FVec Ideal S1x512x128 .bf16)
    (j : S1024x128.Idx) : k0_pay2 (F := Ideal) x acc w j = acc j + part x w j := by
  pointwise [k0_pay2, part]

/-- At the first channel block the scratch is the first block product. -/
theorem first (c : Dev nD) (t : Fin cfg0.N) (h : t.val % 8 = 0) (j : S1024x128.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 8 = 0) (j : S1024x128.Idx) :
    (outsAt0 m c t.val t.isLt).2 j
      = (show FVec Ideal S1024x128 .f32 from
          (outsAt0 m c (t.val - 1) (Nat.lt_of_le_of_lt (Nat.sub_le _ _) t.isLt)).2) j
        + part (iblk m c 0 t) (iblk m c 1 t) j := by
  by_cases h1 : t.val % 8 = 7
  · rw [outsAt0_C m c t h h1]; frame_out; rw [step_at, read_unread_whole]
  · rw [outsAt0_B m c t h h1]; frame_out; rw [step_at, read_unread_whole]

/-- At the last channel block the output tile is a copy of the scratch. -/
theorem out_eq_scratch (c : Dev nD) (t : Fin cfg0.N) (h : t.val % 8 = 7) :
    (outsAt0 m c t.val t.isLt).1 = (outsAt0 m c t.val t.isLt).2 := by
  rw [outsAt0_C m c t (by omega) h]; frame_out

/-- After the run the result array is the reference's. -/
theorem final (c : Dev nD) : (dats m 0 c).arrAt 2 cfg0.N
    = ref (m ((c : Thread nD τ).loc main_arg0)) (m ((c : Thread nD τ).loc main_arg1)) := by
  refine (dats m 0 c).arrAt_eq_of_covers 2 _ (by decide +kernel) fun t hf y => ?_
  have h7 : t.val % 8 = 7 := (flush0_2 t).mp hf
  blk_simp
  rw [after0_2, out_eq_scratch m c t h7]
  pointwise [ref]
  refine BlockProduct.whole 8 4096 (fun n h => (outsAt0 m c n h).2) (iblk m c 0) (iblk m c 1) (first m c) (next m c) t h7 y rfl
    _ _ (fun s k hl => ?_) (fun s k hl => ?_)
  all_goals blk_point [iblk, V, idx t, idx ⟨_, Pipeline.run_point_lt_of_flush t h7 s⟩]

end Cert.Kernel10Ideal.GdnGates

end
-- ==== Proof.GdnOut.lean ====
/-
  The value of the gated DeltaNet's output step: the outputs of both directions added, divided per head by the root of
  their mean square (plus ε) and scaled per lane, times the SiLU of the output gate.

  The kernel walks blocks of 256 token rows and eight heads of 128 lanes, one store per head; the reference works on the
  array of tokens, heads and lanes.
-/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

namespace Cert.Kernel11Ideal.GdnOut

open Idealize.ShloMosaic Idealize.ShloMosaic.TcCoe Idealize.SL.Sem
open Idealize.ShloMosaic.Pipeline (Dat)
open Cert.Kernel11Ideal Cert.Kernel11Ideal.Gen

variable (m : (ℓ : Loc nD τ sig) → Buf (Elt Ideal) ℓ)

/-- The windows' block indices at grid point `t`: row block `t / 4`, eight heads `t % 4`; the gates are the last 4096 of
    the 16384 projected columns. -/
theorem idx : ∀ t : Fin cfg0.N,
    win0_0.index t = ![t.val / 4, t.val % 4]
      ∧ win0_1.index t = ![t.val / 4, t.val % 4]
      ∧ win0_2.index t = ![t.val / 4, 12 + t.val % 4]
      ∧ win0_3.index t = ![0, 0]
      ∧ win0_4.index t = ![t.val / 4, t.val % 4] :=
  (by decide +kernel : ∀ t : Fin grid0.N, _)

/-- Both directions' outputs, added, per head. -/
def both (f b : FVec Ideal S24576x4096 .f32) : FVec Ideal Cert.Reference11Ideal.S24576x32x128 .f32 :=
  shapeCast _ (addf f b) Cert.Reference11Ideal.Gen.shapeCasts_S24576x4096_S24576x32x128

/-- The output gates, per head. -/
def gates (p : FVec Ideal S24576x16384 .f32) : FVec Ideal Cert.Reference11Ideal.S24576x32x128 .f32 :=
  shapeCast _ (extractStridedSlice Cert.Reference11Ideal.S24576x4096 ![0, 12288] p Cert.Reference11Ideal.Gen.slices_S24576x16384_S24576x4096_0_12288)
    Cert.Reference11Ideal.Gen.shapeCasts_S24576x4096_S24576x32x128

/-- The norm of the heads `o` with the scale `w`. -/
def normed (o : FVec Ideal Cert.Reference11Ideal.S24576x32x128 .f32) (w : FVec Ideal S128 .f32) : FVec Ideal Cert.Reference11Ideal.S24576x32x128 .f32 :=
  mulf (mulf o (broadcastInDim Cert.Reference11Ideal.S24576x32x128 ![0, 1, 2] Cert.Reference11Ideal.Gen.bcast_S24576x32x1_S24576x32x128_0_1_2
      (Host.rsqrt (addf (Host.divf (broadcastInDim Cert.Reference11Ideal.S24576x32x1 ![0, 1] Cert.Reference11Ideal.Gen.bcast_S24576x32_S24576x32x1_0_1
          (Host.reduceAdd (mulf o o) (constant Cert.Reference11Ideal.S_ .f32 0x00000000#32) Cert.Reference11Ideal.Gen.reducesTo_S24576x32x128_S24576x32_d2 Cert.Reference11Ideal.Gen.h_S_))
        (broadcastInDim Cert.Reference11Ideal.S24576x32x1 ![] Cert.Reference11Ideal.Gen.bcast_S_S24576x32x1 (constant Cert.Reference11Ideal.S_ .f32 0x43000000#32)))
        (broadcastInDim Cert.Reference11Ideal.S24576x32x1 ![] Cert.Reference11Ideal.Gen.bcast_S_S24576x32x1 (constant Cert.Reference11Ideal.S_ .f32 0x358637BD#32))))))
    (broadcastInDim Cert.Reference11Ideal.S24576x32x128 ![0, 1, 2] Cert.Reference11Ideal.Gen.bcast_S1x1x128_S24576x32x128_0_1_2 (broadcastInDim Cert.Reference11Ideal.S1x1x128 ![2] Cert.Reference11Ideal.Gen.bcast_S128_S1x1x128_2 w))

/-- The SiLU of the gates `g`. -/
def silu (g : FVec Ideal Cert.Reference11Ideal.S24576x32x128 .f32) : FVec Ideal Cert.Reference11Ideal.S24576x32x128 .f32 :=
  mulf g (Host.divf (broadcastInDim Cert.Reference11Ideal.S24576x32x128 ![] Cert.Reference11Ideal.Gen.bcast_S_S24576x32x128 (constant Cert.Reference11Ideal.S_ .f32 0x3F800000#32))
    (addf (broadcastInDim Cert.Reference11Ideal.S24576x32x128 ![] Cert.Reference11Ideal.Gen.bcast_S_S24576x32x128 (constant Cert.Reference11Ideal.S_ .f32 0x3F800000#32)) (Host.exp (Host.negf g))))

/-- The reference's result. -/
def ref (f b : FVec Ideal S24576x4096 .f32) (p : FVec Ideal S24576x16384 .f32) (w : FVec Ideal S128 .f32) : FVec Ideal S24576x4096 .bf16 :=
  truncf .bf16 (shapeCast _ (mulf (normed (both f b) w) (silu (gates p))) Cert.Reference11Ideal.Gen.shapeCasts_S24576x32x128_S24576x4096)
    Cert.Reference11Ideal.Gen.bitsLt_bf16_f32

/-- One head's normed and gated output at a lane. -/
def headOut (o : Fin 128 → EReal) (w g : EReal) (k : Fin 128) : EReal :=
  o k * Ideal.rsqrt (Ideal.div (∑ l, o l * o l) (Ideal.ofBits FTy.f32 0x43000000#32) + Ideal.ofBits FTy.f32 0x358637BD#32) * w
    * (g * Ideal.logistic g)

/-- The normed and gated output of a token at a channel. -/
def value (f b : (⟨2, ![24576, 4096]⟩ : Shape).Idx → EReal) (p : (⟨2, ![24576, 16384]⟩ : Shape).Idx → EReal)
    (w : (⟨1, ![128]⟩ : Shape).Idx → EReal) (r : Fin 24576) (n : Fin 4096) : EReal :=
  headOut (fun l => f (ix2 r ⟨n.val / 128 * 128 + l.val, by omega⟩) + b (ix2 r ⟨n.val / 128 * 128 + l.val, by omega⟩))
    (w (ix1 ⟨n.val % 128, Nat.mod_lt _ (by decide)⟩)) (p (ix2 r ⟨12288 + n.val, by omega⟩)) ⟨n.val % 128, Nat.mod_lt _ (by decide)⟩

/-- The reference at a token and a channel. -/
theorem ref_at (f b : FVec Ideal S24576x4096 .f32) (p : FVec Ideal S24576x16384 .f32) (w : FVec Ideal S128 .f32) (r : Fin 24576) (n : Fin 4096) :
    ref f b p w (ix2 r n) = value f b p w r n := by
  have e : (⟨n.val / 128 * 128 + n.val % 128, by omega⟩ : Fin 4096) = n := Fin.ext (by show n.val / 128 * 128 + n.val % 128 = n.val; omega)
  pointwise [ref, normed, silu, both, gates, value, headOut]
  simp only [e]
  rfl

/-- One store's block: the heads' normed and gated outputs. -/
theorem pay_at (f b : FVec Ideal S256x128 .f32) (w : FVec Ideal S1x128 .f32) (g : FVec Ideal S256x128 .f32) (z : S256x128.Idx) :
    k0_pay1 (F := Ideal) f b w g z = headOut (fun l => f (ix2 (z 0) l) + b (ix2 (z 0) l)) (w (ix2 0 (z 1))) (g z) (z 1) := by
  pointwise [k0_pay1, headOut]

/-- The block of eight heads a grid point leaves, at a row and a lane. -/
def block (f b g : FVec Ideal S256x1024 .f32) (w : FVec Ideal S1x128 .f32) (r : Fin 256) (n : Fin 1024) : EReal :=
  headOut (fun l => f (ix2 r ⟨n.val / 128 * 128 + l.val, by omega⟩) + b (ix2 r ⟨n.val / 128 * 128 + l.val, by omega⟩))
    (w (ix2 0 ⟨n.val % 128, Nat.mod_lt _ (by decide)⟩)) (g (ix2 r n)) ⟨n.val % 128, Nat.mod_lt _ (by decide)⟩

/-- A head's store, at the lanes from `q * 128` on. -/
theorem piece_at (f b g : FVec Ideal S256x1024 .f32) (w : FVec Ideal S1x128 .f32) (q : ℕ) {o : Fin 2 → ℕ} (ho : o = ![0, q * 128])
    (inb : ∀ i, o i + S256x128.size i ≤ S256x1024.size i) (z : S256x128.Idx) (y : S256x1024.Idx)
    (h0 : (y 0).val = (z 0).val) (h1 : (y 1).val = q * 128 + (z 1).val) :
    k0_pay1 (F := Ideal) (View.ld (Val := Elt Ideal) (e' := .f32) f (Rect.unit o S256x128.size inb)) (View.ld (Val := Elt Ideal) (e' := .f32) b (Rect.unit o S256x128.size inb))
      (View.ld (Val := Elt Ideal) (e' := .f32) w r0_1) (View.ld (Val := Elt Ideal) (e' := .f32) g (Rect.unit o S256x128.size inb)) z = block f b g w (y 0) (y 1) := by
  subst ho
  rw [pay_at]
  unfold block
  have hz : (z 1).val < 128 := (z 1).isLt
  have hq : (y 1).val / 128 = q := by omega
  have hm : (y 1).val % 128 = (z 1).val := by omega
  refine congr (congr (congr (congrArg headOut (funext fun l => congrArg₂ (· + ·) ?_ ?_)) ?_) ?_) ?_
  · refine View.ld_unit_apply_of _ _ _ _ _ _ (Fin.forall_fin_two.mpr ⟨h0.trans (zero_add _).symm, ?_⟩)
    show (y 1).val / 128 * 128 + l.val = q * 128 + l.val
    rw [hq]
  · refine View.ld_unit_apply_of _ _ _ _ _ _ (Fin.forall_fin_two.mpr ⟨h0.trans (zero_add _).symm, ?_⟩)
    show (y 1).val / 128 * 128 + l.val = q * 128 + l.val
    rw [hq]
  · exact View.ld_unit_apply_of _ _ _ _ _ _ (Fin.forall_fin_two.mpr ⟨rfl, hm.trans (zero_add _).symm⟩)
  · exact View.ld_unit_apply_of _ _ _ _ _ _ (Fin.forall_fin_two.mpr ⟨h0.trans (zero_add _).symm, h1⟩)
  · exact Fin.ext hm.symm

/-- What a grid point leaves. -/
theorem out_at (f b g : FVec Ideal S256x1024 .f32) (w : FVec Ideal S1x128 .f32) (y : S256x1024.Idx) :
    out0_4 (F := Ideal) f b g w y = block f b g w (y 0) (y 1) := by
  unfold out0_4
  canon_tiles x q
  case piece0 => exact piece_at f b g w 7 rfl _ x y q0 q1
  case piece1 => exact piece_at f b g w 6 rfl _ x y q0 q1
  case piece2 => exact piece_at f b g w 5 rfl _ x y q0 q1
  case piece3 => exact piece_at f b g w 4 rfl _ x y q0 q1
  case piece4 => exact piece_at f b g w 3 rfl _ x y q0 q1
  case piece5 => exact piece_at f b g w 2 rfl _ x y q0 q1
  case piece6 => exact piece_at f b g w 1 rfl _ x y q0 q1
  case piece7 => exact piece_at f b g w 0 rfl _ x y q0 (q1.trans (by omega))

/-- After the run the result array is the reference's. -/
theorem final (c : Dev nD) : (dats m 0 c).arrAt 4 cfg0.N
    = ref (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4, out_at]
  refine Eq.trans ?_ ((congrArg _ (eq_ix2 _)).trans (ref_at _ _ _ _ _ _)).symm
  have hl : (⟨(y 1 : ℕ) % 128, Nat.mod_lt _ (by decide)⟩ : Fin 128)
      = ⟨(((cfg0.win 4).blk t).view.emb y 1 : ℕ) % 128, Nat.mod_lt _ (by decide)⟩ := by
    refine Fin.ext ?_
    show (y 1 : ℕ) % 128 = (win0_4.index t 1 * 1024 + 1 * (y 1 : ℕ)) % 128
    rw [(idx t).2.2.2.2]
    show (y 1 : ℕ) % 128 = (t.val % 4 * 1024 + 1 * (y 1 : ℕ)) % 128
    omega
  unfold block value
  refine congr (congr (congr (congrArg headOut (funext fun l => congrArg₂ (· + ·) ?_ ?_)) ?_) ?_) ?_
  · blk_point [iblk, V, idx t]
  · blk_point [iblk, V, idx t]
  · refine Eq.trans ?_ (congrArg (fun l => (m ((c : Thread nD τ).loc main_arg3)) (ix1 l)) hl)
    generalize (⟨(y 1 : ℕ) % 128, Nat.mod_lt _ (by decide)⟩ : Fin 128) = l
    blk_point [iblk, V, idx t]
  · blk_point [iblk, V, idx t]
  · exact hl

end Cert.Kernel11Ideal.GdnOut

end
-- ==== Proof.ModNorm.lean ====
/-
  The modulated RMS norm: every token row divided by the root of its mean square (plus ε) and scaled per channel, then
  multiplied by `1 + scale` and moved by `shift`, two rows per sequence.

  This module holds the reference's term for it, on the prompt and the sample sequences apart, and its entries.  The
  norm before the first layer's mixer and before PEER takes the tokens themselves (`FirstNorm`), the one before a later
  layer's mixer the residual of the tokens and the last PEER output (`LayerNorm`).
-/
module

public import proofs.«01_k».proof.Proof.Gen.Reference12Ideal
public import proofs.«01_k».proof.Proof.FinalNorm

@[expose] public section

set_option maxRecDepth 16384

noncomputable section

namespace Cert.ModNorm

open Idealize.ShloMosaic Idealize.ShloMosaic.TcCoe Idealize.SL.Sem
open Cert.Reference12Ideal Cert.Reference12Ideal.Gen
open Cert.Sequences (seqOf seqOf_prompt seqOf_sample)
open Cert.Kernel9Ideal.FinalNorm (rms)

/-- The modulated norm of the prompt sequences, as rows. -/
def prompt (y : FVec Ideal S2x8192x4096 .f32) (s : FVec Ideal S4096 .f32) (sc sh : FVec Ideal S4x1x4096 .f32) : FVec Ideal S16384x4096 .f32 :=
  shapeCast _ (addf (mulf (mulf (mulf y (broadcastInDim S2x8192x4096 ![0, 1, 2] bcast_S2x8192x1_S2x8192x4096_0_1_2
      (Host.rsqrt (addf (Host.divf (broadcastInDim S2x8192x1 ![0, 1] bcast_S2x8192_S2x8192x1_0_1
          (Host.reduceAdd (mulf y y) (constant S_ .f32 0x00000000#32) reducesTo_S2x8192x4096_S2x8192_d2 h_S_))
        (broadcastInDim S2x8192x1 ![] bcast_S_S2x8192x1 (constant S_ .f32 0x45800000#32)))
        (broadcastInDim S2x8192x1 ![] bcast_S_S2x8192x1 (constant S_ .f32 0x358637BD#32))))))
    (broadcastInDim S2x8192x4096 ![0, 1, 2] bcast_S1x1x4096_S2x8192x4096_0_1_2 (broadcastInDim S1x1x4096 ![2] bcast_S4096_S1x1x4096_2 s)))
    (broadcastInDim S2x8192x4096 ![0, 1, 2] bcast_S2x1x4096_S2x8192x4096_0_1_2 (addf (broadcastInDim S2x1x4096 ![] bcast_S_S2x1x4096 (constant S_ .f32 0x3F800000#32)) (extractStridedSlice S2x1x4096 ![0, 0, 0] sc slices_S4x1x4096_S2x1x4096_0_0_0))))
    (broadcastInDim S2x8192x4096 ![0, 1, 2] bcast_S2x1x4096_S2x8192x4096_0_1_2 (extractStridedSlice S2x1x4096 ![0, 0, 0] sh slices_S4x1x4096_S2x1x4096_0_0_0)))
    shapeCasts_S2x8192x4096_S16384x4096

/-- The modulated norm of the sample sequences, as rows. -/
def sample (y : FVec Ideal S2x4096x4096 .f32) (s : FVec Ideal S4096 .f32) (sc sh : FVec Ideal S4x1x4096 .f32) : FVec Ideal S8192x4096 .f32 :=
  shapeCast _ (addf (mulf (mulf (mulf y (broadcastInDim S2x4096x4096 ![0, 1, 2] bcast_S2x4096x1_S2x4096x4096_0_1_2
      (Host.rsqrt (addf (Host.divf (broadcastInDim S2x4096x1 ![0, 1] bcast_S2x4096_S2x4096x1_0_1
          (Host.reduceAdd (mulf y y) (constant S_ .f32 0x00000000#32) reducesTo_S2x4096x4096_S2x4096_d2 h_S_))
        (broadcastInDim S2x4096x1 ![] bcast_S_S2x4096x1 (constant S_ .f32 0x45800000#32)))
        (broadcastInDim S2x4096x1 ![] bcast_S_S2x4096x1 (constant S_ .f32 0x358637BD#32))))))
    (broadcastInDim S2x4096x4096 ![0, 1, 2] bcast_S1x1x4096_S2x4096x4096_0_1_2 (broadcastInDim S1x1x4096 ![2] bcast_S4096_S1x1x4096_2 s)))
    (broadcastInDim S2x4096x4096 ![0, 1, 2] bcast_S2x1x4096_S2x4096x4096_0_1_2 (addf (broadcastInDim S2x1x4096 ![] bcast_S_S2x1x4096 (constant S_ .f32 0x3F800000#32)) (extractStridedSlice S2x1x4096 ![2, 0, 0] sc slices_S4x1x4096_S2x1x4096_2_0_0))))
    (broadcastInDim S2x4096x4096 ![0, 1, 2] bcast_S2x1x4096_S2x4096x4096_0_1_2 (extractStridedSlice S2x1x4096 ![2, 0, 0] sh slices_S4x1x4096_S2x1x4096_2_0_0)))
    shapeCasts_S2x4096x4096_S8192x4096

/-- Both groups' rows, joined, as bf16. -/
def joined (yp : FVec Ideal S2x8192x4096 .f32) (ys : FVec Ideal S2x4096x4096 .f32) (s : FVec Ideal S4096 .f32)
    (sc sh : FVec Ideal S4x1x4096 .f32) : FVec Ideal S24576x4096 .bf16 :=
  truncf .bf16 (concatenate S24576x4096 0 [⟨S16384x4096, prompt yp s sc sh⟩, ⟨S8192x4096, sample ys s sc sh⟩]
    concatenates_S16384x4096_S8192x4096_S24576x4096_d0) bitsLt_bf16_f32

/-- The modulated norm of a row at a channel. -/
def modulated (y : Fin 4096 → EReal) (s sc sh : EReal) (n : Fin 4096) : EReal :=
  rms y s n * (Ideal.ofBits FTy.f32 0x3F800000#32 + sc) + sh

/-- A prompt token's modulated norm. -/
theorem prompt_at (y : FVec Ideal S2x8192x4096 .f32) (s : FVec Ideal S4096 .f32) (sc sh : FVec Ideal S4x1x4096 .f32) (r : Fin 16384) (n : Fin 4096) :
    prompt y s sc sh (ix2 r n) = modulated (fun k => y (ix3 ⟨r.val / 8192, by omega⟩ ⟨r.val % 8192, by omega⟩ k)) (s (ix1 n))
      (sc (ix3 (seqOf ⟨r.val, by omega⟩) 0 n)) (sh (ix3 (seqOf ⟨r.val, by omega⟩) 0 n)) n := by
  rw [seqOf_prompt]
  pointwise [prompt, modulated, rms]

/-- A sample token's modulated norm. -/
theorem sample_at (y : FVec Ideal S2x4096x4096 .f32) (s : FVec Ideal S4096 .f32) (sc sh : FVec Ideal S4x1x4096 .f32) (r : Fin 8192) (n : Fin 4096) :
    sample y s sc sh (ix2 r n) = modulated (fun k => y (ix3 ⟨r.val / 4096, by omega⟩ ⟨r.val % 4096, by omega⟩ k)) (s (ix1 n))
      (sc (ix3 (seqOf ⟨16384 + r.val, by omega⟩) 0 n)) (sh (ix3 (seqOf ⟨16384 + r.val, by omega⟩) 0 n)) n := by
  rw [seqOf_sample]
  pointwise [sample, modulated, rms]

/-- The modulated norm of the token rows `y`. -/
def rows (y : Fin 24576 → Fin 4096 → EReal) (s : (⟨1, ![4096]⟩ : Shape).Idx → EReal) (sc sh : (⟨3, ![4, 1, 4096]⟩ : Shape).Idx → EReal) :
    (⟨2, ![24576, 4096]⟩ : Shape).Idx → EReal := fun i =>
  modulated (y (i 0)) (s (ix1 (i 1))) (sc (ix3 (seqOf (i 0)) 0 (i 1))) (sh (ix3 (seqOf (i 0)) 0 (i 1))) (i 1)

/-- Where the two groups' sequences hold the token rows `y`, the joined norms are the norms of the rows. -/
theorem joined_eq (yp : FVec Ideal S2x8192x4096 .f32) (ys : FVec Ideal S2x4096x4096 .f32) (s : FVec Ideal S4096 .f32)
    (sc sh : FVec Ideal S4x1x4096 .f32) (y : Fin 24576 → Fin 4096 → EReal)
    (hp : ∀ (r : Fin 16384) n, yp (ix3 ⟨r.val / 8192, by omega⟩ ⟨r.val % 8192, by omega⟩ n) = y ⟨r.val, by omega⟩ n)
    (hs : ∀ (r : Fin 8192) n, ys (ix3 ⟨r.val / 4096, by omega⟩ ⟨r.val % 4096, by omega⟩ n) = y ⟨16384 + r.val, by omega⟩ n) :
    joined yp ys s sc sh = rows y s sc sh := by
  funext i
  pointwise [joined]
  have hi : (i 0 : ℕ) < 24576 := (i 0).isLt
  by_cases h : (i 0 : ℕ) < 16384
  · rw [dif_pos h]
    exact (prompt_at yp s sc sh ⟨(i 0 : ℕ), h⟩ (i 1)).trans
      (congrArg (fun f => modulated f (s (ix1 (i 1))) (sc (ix3 (seqOf (i 0)) 0 (i 1))) (sh (ix3 (seqOf (i 0)) 0 (i 1))) (i 1))
        (funext fun k => hp ⟨(i 0 : ℕ), h⟩ k))
  · rw [dif_neg h]
    have hr : (i 0 : ℕ) - 16384 < 8192 := by omega
    refine (sample_at ys s sc sh ⟨(i 0 : ℕ) - 16384, hr⟩ (i 1)).trans ?_
    rw [show (fun k => ys (ix3 ⟨((i 0 : ℕ) - 16384) / 4096, by omega⟩ ⟨((i 0 : ℕ) - 16384) % 4096, by omega⟩ k))
        = y ⟨16384 + ((i 0 : ℕ) - 16384), by omega⟩ from funext fun k => hs ⟨(i 0 : ℕ) - 16384, hr⟩ k]
    exact congrArg (fun q : Fin 24576 => modulated (y q) (s (ix1 (i 1))) (sc (ix3 (seqOf q) 0 (i 1))) (sh (ix3 (seqOf q) 0 (i 1))) (i 1))
      (Fin.ext (show 16384 + ((i 0 : ℕ) - 16384) = (i 0 : ℕ) by omega))

end Cert.ModNorm

end
-- ==== Proof.FirstNorm.lean ====
/-
  The value of the modulated norm of the tokens (the first layer's norm before its mixer, and every norm before PEER).

  The kernel walks blocks of 256 token rows; a block lies in one sequence and takes that sequence's scale and shift.
-/
module

public import proofs.«01_k».proof.Proof.Gen.Kernel12Ideal.Value
public import proofs.«01_k».proof.Proof.Gen.Reference12Ideal.Run
public import proofs.«01_k».proof.Proof.ModNorm
public import Idealize.ShloMosaic.Lib.Pipeline.ReadBack

@[expose] public section

set_option maxRecDepth 16384

noncomputable section

namespace Cert.Kernel12Ideal.FirstNorm

open Idealize.ShloMosaic Idealize.ShloMosaic.TcCoe Idealize.SL.Sem
open Idealize.ShloMosaic.Pipeline (Dat)
open Cert.Kernel12Ideal Cert.Kernel12Ideal.Gen
open Cert.Sequences (seqOf)
open Cert.ModNorm (modulated)
open Cert.Kernel9Ideal.FinalNorm (rms)

variable (m : (ℓ : Loc nD τ sig) → Buf (Elt Ideal) ℓ)

/-- The windows' block indices at grid point `t`: row block `t`, and scale and shift of the block's sequence. -/
theorem idx : ∀ t : Fin cfg0.N,
    win0_0.index t = ![t.val, 0]
      ∧ win0_1.index t = ![0, 0]
      ∧ win0_2.index t = ![max (t.val / 32) (t.val / 16 - 2), 0, 0]
      ∧ win0_3.index t = ![max (t.val / 32) (t.val / 16 - 2), 0, 0]
      ∧ win0_4.index t = ![t.val, 0] :=
  (by decide +kernel : ∀ t : Fin grid0.N, _)

/-- The tokens of the prompt sequences. -/
def tokPrompt (x : FVec Ideal S24576x4096 .f32) : FVec Ideal Cert.Reference12Ideal.S2x8192x4096 .f32 :=
  shapeCast _ (extractStridedSlice Cert.Reference12Ideal.S16384x4096 ![0, 0] x Cert.Reference12Ideal.Gen.slices_S24576x4096_S16384x4096_0_0) Cert.Reference12Ideal.Gen.shapeCasts_S16384x4096_S2x8192x4096

/-- The tokens of the sample sequences. -/
def tokSample (x : FVec Ideal S24576x4096 .f32) : FVec Ideal Cert.Reference12Ideal.S2x4096x4096 .f32 :=
  shapeCast _ (extractStridedSlice Cert.Reference12Ideal.S8192x4096 ![16384, 0] x Cert.Reference12Ideal.Gen.slices_S24576x4096_S8192x4096_16384_0) Cert.Reference12Ideal.Gen.shapeCasts_S8192x4096_S2x4096x4096

/-- The reference's result. -/
def ref (x : FVec Ideal S24576x4096 .f32) (s : FVec Ideal S4096 .f32) (sc sh : FVec Ideal S4x1x4096 .f32) : FVec Ideal S24576x4096 .bf16 :=
  Cert.ModNorm.joined (tokPrompt x) (tokSample x) s sc sh

/-- The reference computes the modulated norm of every token row. -/
theorem ref_eq (x : FVec Ideal S24576x4096 .f32) (s : FVec Ideal S4096 .f32) (sc sh : FVec Ideal S4x1x4096 .f32) :
    ref x s sc sh = Cert.ModNorm.rows (fun r k => x (ix2 r k)) s sc sh :=
  Cert.ModNorm.joined_eq _ _ s sc sh _ (fun r n => by pointwise [tokPrompt]) (fun r n => by pointwise [tokSample])

/-- One point's block: the modulated norm of every row of the block. -/
theorem pay_at (x : FVec Ideal S256x4096 .f32) (s : FVec Ideal S1x4096 .f32) (sc sh : FVec Ideal S1x1x4096 .f32)
    (j : S256x4096.Idx) : k0_pay1 (F := Ideal) x s sc sh j
      = modulated (fun k => x (ix2 (j 0) k)) (s (ix2 0 (j 1))) (sc (ix3 0 0 (j 1))) (sh (ix3 0 0 (j 1))) (j 1) := by
  pointwise [k0_pay1, modulated, rms]

/-- After the run the result array is the reference's. -/
theorem final (c : Dev nD) : (dats m 0 c).arrAt 4 cfg0.N
    = ref (m ((c : Thread nD τ).loc main_arg0)) (m ((c : Thread nD τ).loc main_arg1))
        (m ((c : Thread nD τ).loc main_arg2)) (m ((c : Thread nD τ).loc main_arg3)) := by
  rw [ref_eq]
  refine (dats m 0 c).arrAt_eq_of_covers 4 _ (by decide +kernel) fun t hf y => ?_
  blk_simp
  rw [after0_4]; frame_out; rw [pay_at]
  unfold Cert.ModNorm.rows
  refine congr (congr (congr (congr (congrArg modulated (funext fun k => ?_)) ?_) ?_) ?_) ?_
  · blk_point [iblk, V, idx t]
  · blk_point [iblk, V, idx t]
  · blk_point [iblk, V, idx t, seqOf]
  · blk_point [iblk, V, idx t, seqOf]
  · refine Fin.ext ?_
    show (y 1 : ℕ) = win0_4.index t 1 * 4096 + 1 * (y 1 : ℕ)
    rw [(idx t).2.2.2.2]
    show (y 1 : ℕ) = 0 * 4096 + 1 * (y 1 : ℕ)
    omega

end Cert.Kernel12Ideal.FirstNorm

end
-- ==== Proof.LayerNorm.lean ====
/-
  The value of a later layer's norm before its mixer: the residual `y = x + gate · o` of the tokens and the last PEER
  output, handed on as a result of its own, and the modulated norm of it.

  The kernel walks blocks of 256 token rows; a block lies in one sequence and takes that sequence's gate, scale and
  shift.
-/
module

public import proofs.«01_k».proof.Proof.Gen.Kernel13Ideal.Value
public import proofs.«01_k».proof.Proof.Gen.Reference13Ideal.Run
public import proofs.«01_k».proof.Proof.ModNorm
public import Idealize.ShloMosaic.Lib.Pipeline.ReadBack

@[expose] public section

set_option maxRecDepth 16384

noncomputable section

namespace Cert.Kernel13Ideal.LayerNorm

open Idealize.ShloMosaic Idealize.ShloMosaic.TcCoe Idealize.SL.Sem
open Idealize.ShloMosaic.Pipeline (Dat)
open Cert.Kernel13Ideal Cert.Kernel13Ideal.Gen
open Cert.Sequences (seqOf)
open Cert.ModNorm (modulated)
open Cert.Kernel9Ideal.FinalNorm (rms total sumPrompt sumSample sumPrompt_at sumSample_at)

variable (m : (ℓ : Loc nD τ sig) → Buf (Elt Ideal) ℓ)

/-- The windows' block indices at grid point `t`: row block `t`, and gate, scale and shift of the block's sequence. -/
theorem idx : ∀ t : Fin cfg0.N,
    win0_0.index t = ![t.val, 0]
      ∧ win0_1.index t = ![t.val, 0]
      ∧ win0_2.index t = ![max (t.val / 32) (t.val / 16 - 2), 0, 0]
      ∧ win0_3.index t = ![0, 0]
      ∧ win0_4.index t = ![max (t.val / 32) (t.val / 16 - 2), 0, 0]
      ∧ win0_5.index t = ![max (t.val / 32) (t.val / 16 - 2), 0, 0]
      ∧ win0_6.index t = ![t.val, 0]
      ∧ win0_7.index t = ![t.val, 0] :=
  (by decide +kernel : ∀ t : Fin grid0.N, _)

/-- The reference's first result: both groups' residuals, as rows. -/
def refSum (x o : FVec Ideal S24576x4096 .f32) (g : FVec Ideal S4x1x4096 .f32) : FVec Ideal S24576x4096 .f32 :=
  concatenate S24576x4096 0
    [⟨Cert.Reference13Ideal.S16384x4096, shapeCast _ (sumPrompt x o g) Cert.Reference13Ideal.Gen.shapeCasts_S2x8192x4096_S16384x4096⟩,
     ⟨Cert.Reference13Ideal.S8192x4096, shapeCast _ (sumSample x o g) Cert.Reference13Ideal.Gen.shapeCasts_S2x4096x4096_S8192x4096⟩]
    Cert.Reference13Ideal.Gen.concatenates_S16384x4096_S8192x4096_S24576x4096_d0

/-- The reference's second result: the modulated norm of the residual. -/
def refNorm (x : FVec Ideal S24576x4096 .f32) (s : FVec Ideal S4096 .f32) (sc sh : FVec Ideal S4x1x4096 .f32)
    (o : FVec Ideal S24576x4096 .f32) (g : FVec Ideal S4x1x4096 .f32) : FVec Ideal S24576x4096 .bf16 :=
  Cert.ModNorm.joined (sumPrompt x o g) (sumSample x o g) s sc sh

/-- The reference program's second result term is `refNorm` of its arguments. -/
theorem ref_term (m : (ℓ : Loc Cert.Reference13Ideal.nD Cert.Reference13Ideal.τ Cert.Reference13Ideal.sig) → Buf (Elt Ideal) ℓ) (c : Dev Cert.Reference13Ideal.nD) :
    Cert.Reference13Ideal.Value.res_out1 (F := Ideal) m c
      = refNorm (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))
          (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3))
          (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) := rfl

/-- The reference's first result is the residual of every token row. -/
theorem refSum_eq (x o : FVec Ideal S24576x4096 .f32) (g : FVec Ideal S4x1x4096 .f32) :
    refSum x o g = fun i => total x o g (i 0) (i 1) := by
  funext i
  pointwise [refSum]
  have hi : (i 0 : ℕ) < 24576 := (i 0).isLt
  by_cases h : (i 0 : ℕ) < 16384
  · rw [dif_pos h]
    exact sumPrompt_at x o g ⟨(i 0 : ℕ), h⟩ (i 1)
  · rw [dif_neg h]
    have hr : (i 0 : ℕ) - 16384 < 8192 := by omega
    refine (sumSample_at x o g ⟨(i 0 : ℕ) - 16384, hr⟩ (i 1)).trans ?_
    exact congrArg (fun q : Fin 24576 => total x o g q (i 1)) (Fin.ext (show 16384 + ((i 0 : ℕ) - 16384) = (i 0 : ℕ) by omega))

/-- The reference's second result is the modulated norm of the residuals. -/
theorem refNorm_eq (x : FVec Ideal S24576x4096 .f32) (s : FVec Ideal S4096 .f32) (sc sh : FVec Ideal S4x1x4096 .f32)
    (o : FVec Ideal S24576x4096 .f32) (g : FVec Ideal S4x1x4096 .f32) :
    refNorm x s sc sh o g = Cert.ModNorm.rows (total x o g) s sc sh :=
  Cert.ModNorm.joined_eq _ _ s sc sh _ (sumPrompt_at x o g) (sumSample_at x o g)

/-- One point's first block: the residuals. -/
theorem sum_at (x o : FVec Ideal S256x4096 .f32) (g : FVec Ideal S1x1x4096 .f32) (j : S256x4096.Idx) :
    k0_pay1 (F := Ideal) x o g j = x (ix2 (j 0) (j 1)) + g (ix3 0 0 (j 1)) * o (ix2 (j 0) (j 1)) := by
  pointwise [k0_pay1]
  simp only [mul_comm (g _)]

/-- One point's second block: the modulated norm of the residuals. -/
theorem norm_at (x o : FVec Ideal S256x4096 .f32) (g : FVec Ideal S1x1x4096 .f32) (s : FVec Ideal S1x4096 .f32)
    (sc sh : FVec Ideal S1x1x4096 .f32) (j : S256x4096.Idx) : k0_pay2 (F := Ideal) x o g s sc sh j
      = modulated (fun k => x (ix2 (j 0) k) + g (ix3 0 0 k) * o (ix2 (j 0) k)) (s (ix2 0 (j 1))) (sc (ix3 0 0 (j 1)))
          (sh (ix3 0 0 (j 1))) (j 1) := by
  pointwise [k0_pay2, k0_pay1, modulated, rms]
  simp only [mul_comm (g _)]

/-- After the run the first result array is the reference's. -/
theorem finalSum (c : Dev nD) : (dats m 0 c).arrAt 6 cfg0.N
    = refSum (m ((c : Thread nD τ).loc main_arg0)) (m ((c : Thread nD τ).loc main_arg4)) (m ((c : Thread nD τ).loc main_arg5)) := by
  rw [refSum_eq]
  refine (dats m 0 c).arrAt_eq_of_covers 6 _ (by decide +kernel) fun t hf y => ?_
  blk_simp
  rw [after0_6]; frame_out; rw [sum_at]
  unfold total
  congr 1
  · blk_point [iblk, V, idx t]
  congr 1
  · blk_point [iblk, V, idx t, seqOf]
  · blk_point [iblk, V, idx t]

/-- After the run the second result array is the reference's. -/
theorem finalNorm (c : Dev nD) : (dats m 0 c).arrAt 7 cfg0.N
    = refNorm (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [refNorm_eq]
  refine (dats m 0 c).arrAt_eq_of_covers 7 _ (by decide +kernel) fun t hf y => ?_
  blk_simp
  rw [after0_7]; frame_out; rw [norm_at]
  unfold Cert.ModNorm.rows
  refine congr (congr (congr (congr (congrArg modulated (funext fun k => ?_)) ?_) ?_) ?_) ?_
  · unfold total
    congr 1
    · blk_point [iblk, V, idx t]
    congr 1
    · blk_point [iblk, V, idx t, seqOf]
    · blk_point [iblk, V, idx t]
  · blk_point [iblk, V, idx t]
  · blk_point [iblk, V, idx t, seqOf]
  · blk_point [iblk, V, idx t, seqOf]
  · refine Fin.ext ?_
    show (y 1 : ℕ) = win0_7.index t 1 * 4096 + 1 * (y 1 : ℕ)
    rw [(idx t).2.2.2.2.2.2.2]
    show (y 1 : ℕ) = 0 * 4096 + 1 * (y 1 : ℕ)
    omega

end Cert.Kernel13Ideal.LayerNorm

end
-- ==== Proof.ShortConv.lean ====
/-
  The short convolution over the sequence axis: every channel of a token times the middle weight, plus the tokens before
  and after it in the same sequence times the first and the third weight; at the ends of a sequence a zero stands for
  the token that is not there.

  This module states it on the packed token rows and on one block of 512 rows with the rows next to the block, and reads
  off how the kernel finds the ends of the sequences.
-/
module

public import Idealize.ShloMosaic.Lib.Pipeline.ValueKit
public import Idealize.ShloMosaic.Lib.KernelVsHost
public import proofs.«01_k».proof.Proof.Gen.Kernel14Ideal.Value

@[expose] public section

set_option maxRecDepth 16384

noncomputable section

namespace Cert.ShortConv

open Idealize.ShloMosaic Idealize.ShloMosaic.TcCoe Idealize.SL.Sem
open Cert.Kernel14Ideal Cert.Kernel14Ideal.Gen

/-- The packed rows at which a sequence begins. -/
abbrev Starts (r : ℕ) : Prop := r = 0 ∨ r = 8192 ∨ r = 16384 ∨ r = 20480

/-- The packed rows just behind a sequence's last row. -/
abbrev Ends (r : ℕ) : Prop := r = 8192 ∨ r = 16384 ∨ r = 20480 ∨ r = 24576

/-- The three-term convolution. -/
def three (a b c w0 w1 w2 : EReal) : EReal := a * w0 + b * w1 + c * w2

/-- One channel's convolution at a packed row. -/
def entry (x : Fin 24576 → EReal) (w : Fin 3 → EReal) (r : Fin 24576) : EReal :=
  three (if Starts r.val then 0 else x ⟨r.val - 1, by omega⟩) (x r)
    (if h : Ends (r.val + 1) then 0 else x ⟨r.val + 1, by unfold Ends at h; omega⟩) (w 0) (w 1) (w 2)

/-- Floor division of signed words as the kernel writes it: the quotient towards zero, less one where the signs differ and a
    rest remains. -/
def floorDiv (a b : BitVec 32) : BitVec 32 :=
  Scalar.select (Scalar.andi (Scalar.cmpi .ne (Scalar.subi (Scalar.extui (Scalar.cmpi .sgt a 0#32)) (Scalar.extui (Scalar.cmpi .slt a 0#32)))
      (Scalar.subi (Scalar.extui (Scalar.cmpi .sgt b 0#32)) (Scalar.extui (Scalar.cmpi .slt b 0#32))))
    (Scalar.cmpi .ne (Scalar.remsi a b) 0#32)) (Scalar.subi (Scalar.divsi a b) 1#32) (Scalar.divsi a b)

/-- The first row of block `k`, as the kernel's word. -/
def row (k : ℕ) : BitVec 32 := Scalar.muli (BitVec.ofNat 32 k) 512#32

/-- Whether block `k` lies in the prompts. -/
def inPrompt (k : ℕ) : BitVec 1 := Scalar.cmpi .slt (row k) 16384#32

/-- The first row of the block's sequence, were it a prompt. -/
def startPrompt (k : ℕ) : BitVec 32 := Scalar.muli (floorDiv (row k) 8192#32) 8192#32

/-- The first row of the block's sequence counted from the first sample, were it a sample. -/
def startSample (k : ℕ) : BitVec 32 := Scalar.muli (floorDiv (Scalar.subi (row k) 16384#32) 4096#32) 4096#32

/-- The first row of the block's sequence. -/
def start (k : ℕ) : BitVec 32 := Scalar.select (inPrompt k) (startPrompt k) (Scalar.addi 16384#32 (startSample k))

/-- The kernel's test for a block that begins a sequence. -/
theorem begins : ∀ k : Fin 48, (Scalar.cmpi .eq (row k.val) (start k.val) = 1#1) ↔ Starts (k.val * 512) := by
  decide +kernel

/-- The kernel's test for a block that ends a sequence. -/
theorem finishes : ∀ k : Fin 48, (Scalar.cmpi .eq (Scalar.addi (row k.val) 512#32)
    (Scalar.addi (start k.val) (Scalar.select (inPrompt k.val) 8192#32 4096#32)) = 1#1) ↔ Ends (k.val * 512 + 512) := by
  decide +kernel

/-- The kernel's test for a block's first row. -/
theorem isFirst : ∀ a : Fin 512, (IntOp.cmpi CmpIPredicate.eq (BitVec.ofNat 32 a.val) 0#32 = 1#1) ↔ a.val = 0 := by
  decide +kernel

/-- The kernel's test for a block's last row. -/
theorem isLast : ∀ a : Fin 512, (IntOp.cmpi CmpIPredicate.eq (BitVec.ofNat 32 a.val) 511#32 = 1#1) ↔ a.val = 511 := by
  decide +kernel

/-- A selection by a bit that says `P`. -/
theorem select_of {c : BitVec 1} {P : Prop} [Decidable P] (h : c = 1#1 ↔ P) (a b : EReal) :
    Scalar.select c a b = if P then a else b := by
  unfold Scalar.select
  by_cases hP : P
  · rw [if_pos hP]; exact if_pos (h.mpr hP)
  · rw [if_neg hP]; exact if_neg fun hc => hP (h.mp hc)

/-- One block's convolution at an entry: the row before the block is the last of the eight before it, the row after it the first of the
    eight after it, and at the ends of a sequence they are zero. -/
theorem pay_at (k : Fin 48) (x : FVec Ideal S512x1024 .f32) (p n w0 w1 w2 : FVec Ideal S1x1024 .f32) (j : S512x1024.Idx) :
    k0_pay1 (F := Ideal) (row k.val) (inPrompt k.val) (startPrompt k.val) (startSample k.val) x p n w0 w1 w2 j
      = three (if (j 0 : ℕ) = 0 then if Starts (k.val * 512) then 0 else p (ix2 0 (j 1)) else x (ix2 ⟨((j 0 : ℕ) + 512 - 1) % 512, Nat.mod_lt _ (by decide)⟩ (j 1)))
          (x j)
          (if (j 0 : ℕ) = 511 then if Ends (k.val * 512 + 512) then 0 else n (ix2 0 (j 1)) else x (ix2 ⟨((j 0 : ℕ) + 512 - 511) % 512, Nat.mod_lt _ (by decide)⟩ (j 1)))
          (w0 (ix2 0 (j 1))) (w1 (ix2 0 (j 1))) (w2 (ix2 0 (j 1))) := by
  have hb := begins k
  have hf := finishes k
  unfold start at hb hf
  pointwise [k0_pay1, three]
  rw [select_of (isFirst (j 0)), select_of (isLast (j 0)), select_of hb, select_of hf]

/-- A block's convolution is the packed rows' convolution, where the block, the row before it and the row after it hold the
    packed rows. -/
theorem block_eq (k : Fin 48) (f : Fin 24576 → EReal) (w : Fin 3 → EReal) (x : FVec Ideal S512x1024 .f32) (p n w0 w1 w2 : FVec Ideal S1x1024 .f32)
    (j : S512x1024.Idx) (hx : ∀ a : Fin 512, x (ix2 a (j 1)) = f ⟨k.val * 512 + a.val, by omega⟩)
    (hp : 0 < k.val → p (ix2 0 (j 1)) = f ⟨k.val * 512 - 1, by omega⟩)
    (hn : (h : k.val < 47) → n (ix2 0 (j 1)) = f ⟨k.val * 512 + 512, by omega⟩)
    (h0 : w0 (ix2 0 (j 1)) = w 0) (h1 : w1 (ix2 0 (j 1)) = w 1) (h2 : w2 (ix2 0 (j 1)) = w 2)
    (r : Fin 24576) (hr : r.val = k.val * 512 + (j 0 : ℕ)) :
    k0_pay1 (F := Ideal) (row k.val) (inPrompt k.val) (startPrompt k.val) (startSample k.val) x p n w0 w1 w2 j = entry f w r := by
  have hk : k.val < 48 := k.isLt
  have hj : (j 0 : ℕ) < 512 := (j 0).isLt
  have hxj : x j = f r := by
    rw [show j = ix2 (j 0) (j 1) from by funext a; fin_cases a <;> rfl]
    exact (hx (j 0)).trans (congrArg f (Fin.ext hr.symm))
  rw [pay_at, h0, h1, h2, hxj]
  unfold entry
  congr 1
  · by_cases hz : (j 0 : ℕ) = 0
    · rw [if_pos hz]
      by_cases hs : Starts (k.val * 512)
      · rw [if_pos hs, if_pos (by rw [hr, hz]; exact hs)]
      · rw [if_neg hs, if_neg (by rw [hr, hz]; exact hs), hp (by unfold Starts at hs; omega)]
        exact congrArg f (Fin.ext (by show k.val * 512 - 1 = r.val - 1; omega))
    · rw [if_neg hz, if_neg (by unfold Starts; omega), hx]
      exact congrArg f (Fin.ext (by show k.val * 512 + ((j 0 : ℕ) + 512 - 1) % 512 = r.val - 1; omega))
  · by_cases hz : (j 0 : ℕ) = 511
    · rw [if_pos hz]
      by_cases hs : Ends (k.val * 512 + 512)
      · rw [if_pos hs, dif_pos (by unfold Ends at hs ⊢; omega)]
      · rw [if_neg hs, dif_neg (by unfold Ends at hs ⊢; omega), hn (by unfold Ends at hs; omega)]
        exact congrArg f (Fin.ext (by show k.val * 512 + 512 = r.val + 1; omega))
    · rw [if_neg hz, dif_neg (by unfold Ends; omega), hx]
      exact congrArg f (Fin.ext (by show k.val * 512 + ((j 0 : ℕ) + 512 - 511) % 512 = r.val + 1; omega))

end Cert.ShortConv

end
-- ==== Proof.ShortConvRef.lean ====
/-
  The short convolution as the reference computes it: every sequence gets a zero token before and behind it, and three shifted
  copies of it are weighted and added.  This module shows that it is the convolution of the packed rows (`ShortConv.entry`).
-/
module

public import proofs.«01_k».proof.Proof.Gen.Reference14Ideal.Run
public import proofs.«01_k».proof.Proof.ShortConv

@[expose] public section

set_option maxRecDepth 16384

noncomputable section

namespace Cert.ShortConv

open Idealize.ShloMosaic Idealize.ShloMosaic.TcCoe Idealize.SL.Sem
open Cert.Reference14Ideal Cert.Reference14Ideal.Gen

/-- A weight row, for every token of the prompt sequences. -/
def weightPrompt (w : FVec Ideal S1x12288 .f32) : FVec Ideal S2x8192x12288 .f32 :=
  broadcastInDim S2x8192x12288 ![0, 1, 2] bcast_S1x1x12288_S2x8192x12288_0_1_2
    (broadcastInDim S1x1x12288 ![2] bcast_S12288_S1x1x12288_2 (shapeCast _ w shapeCasts_S1x12288_S12288))

/-- A weight row, for every token of the sample sequences. -/
def weightSample (w : FVec Ideal S1x12288 .f32) : FVec Ideal S2x4096x12288 .f32 :=
  broadcastInDim S2x4096x12288 ![0, 1, 2] bcast_S1x1x12288_S2x4096x12288_0_1_2
    (broadcastInDim S1x1x12288 ![2] bcast_S12288_S1x1x12288_2 (shapeCast _ w shapeCasts_S1x12288_S12288))

/-- The prompt sequences with a zero token at both ends. -/
def paddedPrompt (x : FVec Ideal S2x8192x12288 .f32) : FVec Ideal S2x8194x12288 .f32 :=
  pad S2x8194x12288 ![0, 1, 0] ![0, 1, 0] ![0, 0, 0] x (sitofp .f32 (constantI S_ 32 0#32)) pads_S2x8192x12288_S2x8194x12288_000_110_000 h_S_

/-- The sample sequences with a zero token at both ends. -/
def paddedSample (x : FVec Ideal S2x4096x12288 .f32) : FVec Ideal S2x4098x12288 .f32 :=
  pad S2x4098x12288 ![0, 1, 0] ![0, 1, 0] ![0, 0, 0] x (sitofp .f32 (constantI S_ 32 0#32)) pads_S2x4096x12288_S2x4098x12288_000_110_000 h_S_

/-- The convolution of the prompt sequences. -/
def prompt (x : FVec Ideal S2x8192x12288 .f32) (w : FVec Ideal S3x12288 .f32) : FVec Ideal S2x8192x12288 .f32 :=
  addf (addf
    (mulf (extractStridedSlice S2x8192x12288 ![0, 0, 0] (paddedPrompt x) slices_S2x8194x12288_S2x8192x12288_0_0_0)
      (weightPrompt (extractStridedSlice S1x12288 ![0, 0] w slices_S3x12288_S1x12288_0_0)))
    (mulf (extractStridedSlice S2x8192x12288 ![0, 1, 0] (paddedPrompt x) slices_S2x8194x12288_S2x8192x12288_0_1_0)
      (weightPrompt (extractStridedSlice S1x12288 ![1, 0] w slices_S3x12288_S1x12288_1_0))))
    (mulf (extractStridedSlice S2x8192x12288 ![0, 2, 0] (paddedPrompt x) slices_S2x8194x12288_S2x8192x12288_0_2_0)
      (weightPrompt (extractStridedSlice S1x12288 ![2, 0] w slices_S3x12288_S1x12288_2_0)))

/-- The convolution of the sample sequences. -/
def sample (x : FVec Ideal S2x4096x12288 .f32) (w : FVec Ideal S3x12288 .f32) : FVec Ideal S2x4096x12288 .f32 :=
  addf (addf
    (mulf (extractStridedSlice S2x4096x12288 ![0, 0, 0] (paddedSample x) slices_S2x4098x12288_S2x4096x12288_0_0_0)
      (weightSample (extractStridedSlice S1x12288 ![0, 0] w slices_S3x12288_S1x12288_0_0)))
    (mulf (extractStridedSlice S2x4096x12288 ![0, 1, 0] (paddedSample x) slices_S2x4098x12288_S2x4096x12288_0_1_0)
      (weightSample (extractStridedSlice S1x12288 ![1, 0] w slices_S3x12288_S1x12288_1_0))))
    (mulf (extractStridedSlice S2x4096x12288 ![0, 2, 0] (paddedSample x) slices_S2x4098x12288_S2x4096x12288_0_2_0)
      (weightSample (extractStridedSlice S1x12288 ![2, 0] w slices_S3x12288_S1x12288_2_0)))

/-- The padding value is zero. -/
theorem zero_pad : (FloatOps.sitofp (F := Ideal) FTy.f32 0#32 : EReal) = 0 := by
  show ((((0#32 : BitVec 32).toInt : ℝ)) : EReal) = 0
  simp

/-- Where the prompt sequences hold the packed rows `y`, their convolution is the packed rows'. -/
theorem prompt_at (x : FVec Ideal S2x8192x12288 .f32) (w : FVec Ideal S3x12288 .f32) (y : Fin 24576 → Fin 12288 → EReal)
    (hx : ∀ (r : Fin 16384) n, x (ix3 ⟨r.val / 8192, by omega⟩ ⟨r.val % 8192, by omega⟩ n) = y ⟨r.val, by omega⟩ n)
    (r : Fin 16384) (n : Fin 12288) :
    prompt x w (ix3 ⟨r.val / 8192, by omega⟩ ⟨r.val % 8192, by omega⟩ n)
      = entry (fun k => y k n) (fun k => w (ix2 k n)) ⟨r.val, by omega⟩ := by
  have at_row : ∀ (q : ℕ) (a : Fin 2) (b : Fin 8192) (v : Fin 24576), q < 16384 → a.val = q / 8192 → b.val = q % 8192 → v.val = q →
      x (ix3 a b n) = y v n := by
    intro q a b v hq ha hb hv
    have e := hx ⟨q, hq⟩ n
    rw [show (⟨q / 8192, by omega⟩ : Fin 2) = a from Fin.ext ha.symm, show (⟨q % 8192, by omega⟩ : Fin 8192) = b from Fin.ext hb.symm,
      show (⟨q, by omega⟩ : Fin 24576) = v from Fin.ext hv.symm] at e
    exact e
  pointwise [prompt, paddedPrompt, weightPrompt, entry, three]
  rw [zero_pad]
  congr 1
  · congr 1
    · congr 1
      by_cases h : Starts (r.val)
      · rw [if_pos h, dif_neg (by unfold Starts at h; omega)]
      · rw [if_neg h, dif_pos (by unfold Starts at h; omega)]
        exact at_row (r.val - 1) _ _ _ (by omega) (by unfold Starts at h; show r.val / 8192 = _; omega)
          (by unfold Starts at h; show r.val % 8192 - 1 = _; omega) (by unfold Starts at h; show r.val - 1 = _; omega)
    · rw [dif_pos (by omega)]
      exact congrArg (· * w (ix2 1 n)) (at_row r.val _ _ _ (by omega) rfl rfl rfl)
  · congr 1
    by_cases h : Ends (r.val + 1)
    · rw [dif_pos h, dif_neg (by unfold Ends at h; omega)]
    · rw [dif_neg h, dif_pos (by unfold Ends at h; omega)]
      exact at_row (r.val + 1) _ _ _ (by unfold Ends at h; omega) (by unfold Ends at h; show r.val / 8192 = _; omega)
        (by unfold Ends at h; show 2 + r.val % 8192 - 1 = _; omega) (by show r.val + 1 = _; omega)

/-- Where the sample sequences hold the packed rows `y`, their convolution is the packed rows'. -/
theorem sample_at (x : FVec Ideal S2x4096x12288 .f32) (w : FVec Ideal S3x12288 .f32) (y : Fin 24576 → Fin 12288 → EReal)
    (hx : ∀ (r : Fin 8192) n, x (ix3 ⟨r.val / 4096, by omega⟩ ⟨r.val % 4096, by omega⟩ n) = y ⟨16384 + r.val, by omega⟩ n)
    (r : Fin 8192) (n : Fin 12288) :
    sample x w (ix3 ⟨r.val / 4096, by omega⟩ ⟨r.val % 4096, by omega⟩ n)
      = entry (fun k => y k n) (fun k => w (ix2 k n)) ⟨16384 + r.val, by omega⟩ := by
  have at_row : ∀ (q : ℕ) (a : Fin 2) (b : Fin 4096) (v : Fin 24576), q < 8192 → a.val = q / 4096 → b.val = q % 4096 → v.val = 16384 + q →
      x (ix3 a b n) = y v n := by
    intro q a b v hq ha hb hv
    have e := hx ⟨q, hq⟩ n
    rw [show (⟨q / 4096, by omega⟩ : Fin 2) = a from Fin.ext ha.symm, show (⟨q % 4096, by omega⟩ : Fin 4096) = b from Fin.ext hb.symm,
      show (⟨16384 + q, by omega⟩ : Fin 24576) = v from Fin.ext hv.symm] at e
    exact e
  pointwise [sample, paddedSample, weightSample, entry, three]
  rw [zero_pad]
  congr 1
  · congr 1
    · congr 1
      by_cases h : Starts (16384 + r.val)
      · rw [if_pos h, dif_neg (by unfold Starts at h; omega)]
      · rw [if_neg h, dif_pos (by unfold Starts at h; omega)]
        exact at_row (r.val - 1) _ _ _ (by omega) (by unfold Starts at h; show r.val / 4096 = _; omega)
          (by unfold Starts at h; show r.val % 4096 - 1 = _; omega) (by unfold Starts at h; show 16384 + r.val - 1 = _; omega)
    · rw [dif_pos (by omega)]
      exact congrArg (· * w (ix2 1 n)) (at_row r.val _ _ _ (by omega) rfl rfl rfl)
  · congr 1
    by_cases h : Ends (16384 + r.val + 1)
    · rw [dif_pos h, dif_neg (by unfold Ends at h; omega)]
    · rw [dif_neg h, dif_pos (by unfold Ends at h; omega)]
      exact at_row (r.val + 1) _ _ _ (by unfold Ends at h; omega) (by unfold Ends at h; show r.val / 4096 = _; omega)
        (by unfold Ends at h; show 2 + r.val % 4096 - 1 = _; omega) (by show 16384 + r.val + 1 = _; omega)

/-- The two groups' sequences joined to the packed rows. -/
def joined (yp : FVec Ideal S2x8192x12288 .f32) (ys : FVec Ideal S2x4096x12288 .f32) : FVec Ideal S24576x12288 .f32 :=
  concatenate S24576x12288 0 [⟨S16384x12288, shapeCast _ yp shapeCasts_S2x8192x12288_S16384x12288⟩,
    ⟨S8192x12288, shapeCast _ ys shapeCasts_S2x4096x12288_S8192x12288⟩] concatenates_S16384x12288_S8192x12288_S24576x12288_d0

/-- Where the sequences hold the packed rows `g`, the joined array is `g`. -/
theorem joined_eq (yp : FVec Ideal S2x8192x12288 .f32) (ys : FVec Ideal S2x4096x12288 .f32) (g : Fin 24576 → Fin 12288 → EReal)
    (hp : ∀ (r : Fin 16384) n, yp (ix3 ⟨r.val / 8192, by omega⟩ ⟨r.val % 8192, by omega⟩ n) = g ⟨r.val, by omega⟩ n)
    (hs : ∀ (r : Fin 8192) n, ys (ix3 ⟨r.val / 4096, by omega⟩ ⟨r.val % 4096, by omega⟩ n) = g ⟨16384 + r.val, by omega⟩ n) :
    joined yp ys = fun i => g (i 0) (i 1) := by
  funext i
  pointwise [joined]
  have hi : (i 0 : ℕ) < 24576 := (i 0).isLt
  by_cases h : (i 0 : ℕ) < 16384
  · rw [dif_pos h]
    exact hp ⟨(i 0 : ℕ), h⟩ (i 1)
  · rw [dif_neg h]
    refine (hs ⟨(i 0 : ℕ) - 16384, by omega⟩ (i 1)).trans ?_
    exact congrArg (fun q : Fin 24576 => g q (i 1)) (Fin.ext (show 16384 + ((i 0 : ℕ) - 16384) = (i 0 : ℕ) by omega))

end Cert.ShortConv

end
-- ==== Proof.Conv3.lean ====
/-
  The value of the Hyena mixer's short convolution.

  The kernel walks blocks of 512 token rows and 1024 channels; with every block it gets the eight rows before it and the eight
  rows after it.
-/
module

public import proofs.«01_k».proof.Proof.Gen.Kernel14Ideal.Value
public import proofs.«01_k».proof.Proof.ShortConvRef
public import Idealize.ShloMosaic.Lib.Pipeline.ReadBack

@[expose] public section

set_option maxRecDepth 16384

noncomputable section

namespace Cert.Kernel14Ideal.Conv3

open Idealize.ShloMosaic Idealize.ShloMosaic.TcCoe Idealize.SL.Sem
open Idealize.ShloMosaic.Pipeline (Dat)
open Cert.Kernel14Ideal Cert.Kernel14Ideal.Gen
open Cert.ShortConv (entry row inPrompt startPrompt startSample block_eq joined joined_eq prompt sample prompt_at sample_at)

variable (m : (ℓ : Loc nD τ sig) → Buf (Elt Ideal) ℓ)

/-- The windows' block indices at grid point `t`: row block `t / 12` and channel block `t % 12`, the eight rows before it and the
    eight rows after it, and the weights of the channel block. -/
theorem idx : ∀ t : Fin cfg0.N,
    win0_0.index t = ![t.val / 12, t.val % 12]
      ∧ win0_1.index t = ![t.val / 12 * 64 - 1, t.val % 12]
      ∧ win0_2.index t = ![min (t.val / 12 * 64 + 64) 3071, t.val % 12]
      ∧ win0_3.index t = ![0, t.val % 12]
      ∧ win0_4.index t = ![t.val / 12, t.val % 12]
      ∧ (grid0.coords t 0).val = t.val / 12 :=
  (by decide +kernel : ∀ t : Fin grid0.N, _)

/-- The tokens of the prompt sequences. -/
def tokPrompt (x : FVec Ideal S24576x12288 .f32) : FVec Ideal Cert.Reference14Ideal.S2x8192x12288 .f32 :=
  shapeCast _ (extractStridedSlice Cert.Reference14Ideal.S16384x12288 ![0, 0] x Cert.Reference14Ideal.Gen.slices_S24576x12288_S16384x12288_0_0)
    Cert.Reference14Ideal.Gen.shapeCasts_S16384x12288_S2x8192x12288

/-- The tokens of the sample sequences. -/
def tokSample (x : FVec Ideal S24576x12288 .f32) : FVec Ideal Cert.Reference14Ideal.S2x4096x12288 .f32 :=
  shapeCast _ (extractStridedSlice Cert.Reference14Ideal.S8192x12288 ![16384, 0] x Cert.Reference14Ideal.Gen.slices_S24576x12288_S8192x12288_16384_0)
    Cert.Reference14Ideal.Gen.shapeCasts_S8192x12288_S2x4096x12288

/-- The reference's result. -/
def ref (x : FVec Ideal S24576x12288 .f32) (w : FVec Ideal S3x12288 .f32) : FVec Ideal S24576x12288 .f32 :=
  joined (prompt (tokPrompt x) w) (sample (tokSample x) w)

/-- The reference program's result term is `ref` of its arguments. -/
theorem ref_term (m : (ℓ : Loc Cert.Reference14Ideal.nD Cert.Reference14Ideal.τ Cert.Reference14Ideal.sig) → Buf (Elt Ideal) ℓ) (c : Dev Cert.Reference14Ideal.nD) :
    Cert.Reference14Ideal.Value.res_main_v48 (F := Ideal) m c
      = ref (m ((c.tc : Thread Cert.Reference14Ideal.nD Cert.Reference14Ideal.τ).loc Cert.Reference14Ideal.main_arg0))
          (m ((c.tc : Thread Cert.Reference14Ideal.nD Cert.Reference14Ideal.τ).loc Cert.Reference14Ideal.main_arg1)) := rfl

/-- The reference computes the packed rows' convolution. -/
theorem ref_eq (x : FVec Ideal S24576x12288 .f32) (w : FVec Ideal S3x12288 .f32) :
    ref x w = fun i => entry (fun k => x (ix2 k (i 1))) (fun k => w (ix2 k (i 1))) (i 0) :=
  joined_eq _ _ (fun r n => entry (fun k => x (ix2 k n)) (fun k => w (ix2 k n)) r)
    (prompt_at _ w (fun r n => x (ix2 r n)) fun r n => by pointwise [tokPrompt])
    (sample_at _ w (fun r n => x (ix2 r n)) fun r n => by pointwise [tokSample])

/-- What a grid point leaves in the output block. -/
theorem out_eq (i : grid0.Coords) (x : FVec Ideal S512x1024 .f32) (p n : FVec Ideal S8x1024 .f32) (w : FVec Ideal S3x1024 .f32) (j : S512x1024.Idx) :
    out0_4 (F := Ideal) i x p n w j
      = k0_pay1 (F := Ideal) (row (i 0).val) (inPrompt (i 0).val) (startPrompt (i 0).val) (startSample (i 0).val) x
          (View.ld (Val := Elt Ideal) (e' := .f32) p r0_1) (View.ld (Val := Elt Ideal) (e' := .f32) n r0_2)
          (View.ld (Val := Elt Ideal) (e' := .f32) w r0_3) (View.ld (Val := Elt Ideal) (e' := .f32) w r0_4) (View.ld (Val := Elt Ideal) (e' := .f32) w r0_5) j := by
  frame_out
  rfl

/-- After the run the result array is the reference's. -/
theorem final (c : Dev nD) : (dats m 0 c).arrAt 4 cfg0.N
    = ref (m ((c : Thread nD τ).loc main_arg0)) (m ((c : Thread nD τ).loc main_arg1)) := by
  rw [ref_eq]
  refine (dats m 0 c).arrAt_eq_of_covers 4 _ (by decide +kernel) fun t hf y => ?_
  blk_simp
  rw [after0_4, out_eq]
  have ht : t.val < 576 := t.isLt
  refine block_eq (grid0.coords t 0) _ _ _ _ _ _ _ _ y ?_ ?_ ?_ ?_ ?_ ?_ _ ?_
  · intro a
    blk_point [iblk, V, idx t]
  · intro h
    rw [(idx t).2.2.2.2.2] at h
    refine (View.ld_unit_apply_of _ _ _ _ _ (ix2 7 (y 1)) (Fin.forall_fin_two.mpr ⟨by simp [ix2], by simp [ix2]⟩)).trans ?_
    blk_point [iblk, V, idx t]
  · intro h
    rw [(idx t).2.2.2.2.2] at h
    refine (View.ld_unit_apply_of _ _ _ _ _ (ix2 0 (y 1)) (Fin.forall_fin_two.mpr ⟨by simp [ix2], by simp [ix2]⟩)).trans ?_
    blk_point [iblk, V, idx t]
  · refine (View.ld_unit_apply_of _ _ _ _ _ (ix2 0 (y 1)) (Fin.forall_fin_two.mpr ⟨by simp [ix2], by simp [ix2]⟩)).trans ?_
    blk_point [iblk, V, idx t]
  · refine (View.ld_unit_apply_of _ _ _ _ _ (ix2 1 (y 1)) (Fin.forall_fin_two.mpr ⟨by simp [ix2], by simp [ix2]⟩)).trans ?_
    blk_point [iblk, V, idx t]
  · refine (View.ld_unit_apply_of _ _ _ _ _ (ix2 2 (y 1)) (Fin.forall_fin_two.mpr ⟨by simp [ix2], by simp [ix2]⟩)).trans ?_
    blk_point [iblk, V, idx t]
  · show win0_4.index t 0 * 512 + 1 * (y 0 : ℕ) = (grid0.coords t 0).val * 512 + (y 0 : ℕ)
    rw [(idx t).2.2.2.2.1, (idx t).2.2.2.2.2]
    show t.val / 12 * 512 + 1 * (y 0 : ℕ) = t.val / 12 * 512 + (y 0 : ℕ)
    omega

end Cert.Kernel14Ideal.Conv3

end
-- ==== Proof.ConvSilu.lean ====
/-
  The value of the DeltaNet mixer's short convolution, which covers the first 12288 of the projected columns (queries, keys and
  values) and ends with the SiLU.

  The block's convolution is the one of `ShortConv`; only the activation and the columns are new here.
-/
module

public import proofs.«01_k».proof.Proof.Gen.Kernel15Ideal.Value
public import proofs.«01_k».proof.Proof.Gen.Reference15Ideal.Run
public import proofs.«01_k».proof.Proof.ShortConvRef
public import Idealize.ShloMosaic.Lib.Pipeline.ReadBack

@[expose] public section

set_option maxRecDepth 16384

noncomputable section

namespace Cert.Kernel15Ideal.ConvSilu

open Idealize.ShloMosaic Idealize.ShloMosaic.TcCoe Idealize.SL.Sem
open Idealize.ShloMosaic.Pipeline (Dat)
open Cert.Kernel15Ideal Cert.Kernel15Ideal.Gen
open Cert.ShortConv (entry row inPrompt startPrompt startSample block_eq joined joined_eq prompt sample prompt_at sample_at)

variable (m : (ℓ : Loc nD τ sig) → Buf (Elt Ideal) ℓ)

/-- The windows' block indices at grid point `t`: row block `t / 12` and channel block `t % 12`, the eight rows before it and the
    eight rows after it, and the weights of the channel block. -/
theorem idx : ∀ t : Fin cfg0.N,
    win0_0.index t = ![t.val / 12, t.val % 12]
      ∧ win0_1.index t = ![t.val / 12 * 64 - 1, t.val % 12]
      ∧ win0_2.index t = ![min (t.val / 12 * 64 + 64) 3071, t.val % 12]
      ∧ win0_3.index t = ![0, t.val % 12]
      ∧ win0_4.index t = ![t.val / 12, t.val % 12]
      ∧ (grid0.coords t 0).val = t.val / 12 :=
  (by decide +kernel : ∀ t : Fin grid0.N, _)

/-- The projected queries, keys and values of the prompt sequences. -/
def tokPrompt (x : FVec Ideal S24576x16384 .f32) : FVec Ideal Cert.Reference15Ideal.S2x8192x12288 .f32 :=
  shapeCast _ (extractStridedSlice Cert.Reference15Ideal.S16384x12288 ![0, 0]
    (extractStridedSlice S24576x12288 ![0, 0] x Cert.Reference15Ideal.Gen.slices_S24576x16384_S24576x12288_0_0) Cert.Reference15Ideal.Gen.slices_S24576x12288_S16384x12288_0_0)
    Cert.Reference15Ideal.Gen.shapeCasts_S16384x12288_S2x8192x12288

/-- The projected queries, keys and values of the sample sequences. -/
def tokSample (x : FVec Ideal S24576x16384 .f32) : FVec Ideal Cert.Reference15Ideal.S2x4096x12288 .f32 :=
  shapeCast _ (extractStridedSlice Cert.Reference15Ideal.S8192x12288 ![16384, 0]
    (extractStridedSlice S24576x12288 ![0, 0] x Cert.Reference15Ideal.Gen.slices_S24576x16384_S24576x12288_0_0) Cert.Reference15Ideal.Gen.slices_S24576x12288_S8192x12288_16384_0)
    Cert.Reference15Ideal.Gen.shapeCasts_S8192x12288_S2x4096x12288

/-- The SiLU of the prompt sequences. -/
def siluPrompt (x : FVec Ideal Cert.Reference15Ideal.S2x8192x12288 .f32) : FVec Ideal Cert.Reference15Ideal.S2x8192x12288 .f32 :=
  mulf x (Host.divf (broadcastInDim Cert.Reference15Ideal.S2x8192x12288 ![] Cert.Reference15Ideal.Gen.bcast_S_S2x8192x12288 (constant Cert.Reference15Ideal.S_ .f32 0x3F800000#32))
    (addf (broadcastInDim Cert.Reference15Ideal.S2x8192x12288 ![] Cert.Reference15Ideal.Gen.bcast_S_S2x8192x12288 (constant Cert.Reference15Ideal.S_ .f32 0x3F800000#32)) (Host.exp (Host.negf x))))

/-- The SiLU of the sample sequences. -/
def siluSample (x : FVec Ideal Cert.Reference15Ideal.S2x4096x12288 .f32) : FVec Ideal Cert.Reference15Ideal.S2x4096x12288 .f32 :=
  mulf x (Host.divf (broadcastInDim Cert.Reference15Ideal.S2x4096x12288 ![] Cert.Reference15Ideal.Gen.bcast_S_S2x4096x12288 (constant Cert.Reference15Ideal.S_ .f32 0x3F800000#32))
    (addf (broadcastInDim Cert.Reference15Ideal.S2x4096x12288 ![] Cert.Reference15Ideal.Gen.bcast_S_S2x4096x12288 (constant Cert.Reference15Ideal.S_ .f32 0x3F800000#32)) (Host.exp (Host.negf x))))

/-- The SiLU of a number. -/
def silu (v : EReal) : EReal := v * Ideal.logistic v

/-- The SiLU of the prompt sequences at an entry. -/
theorem siluPrompt_at (x : FVec Ideal Cert.Reference15Ideal.S2x8192x12288 .f32) (j : Cert.Reference15Ideal.S2x8192x12288.Idx) : siluPrompt x j = silu (x j) := by
  pointwise [siluPrompt, silu]
  rfl

/-- The SiLU of the sample sequences at an entry. -/
theorem siluSample_at (x : FVec Ideal Cert.Reference15Ideal.S2x4096x12288 .f32) (j : Cert.Reference15Ideal.S2x4096x12288.Idx) : siluSample x j = silu (x j) := by
  pointwise [siluSample, silu]
  rfl

/-- The entry of the projected array that column `n` of the convolution reads, at token row `r`. -/
def col (x : FVec Ideal S24576x16384 .f32) (r : Fin 24576) (n : Fin 12288) : EReal := x (ix2 r ⟨n.val, by omega⟩)

/-- The reference's result. -/
def ref (x : FVec Ideal S24576x16384 .f32) (w : FVec Ideal S3x12288 .f32) : FVec Ideal S24576x12288 .f32 :=
  joined (siluPrompt (prompt (tokPrompt x) w)) (siluSample (sample (tokSample x) w))

/-- The reference program's result term is `ref` of its arguments. -/
theorem ref_term (m : (ℓ : Loc Cert.Reference15Ideal.nD Cert.Reference15Ideal.τ Cert.Reference15Ideal.sig) → Buf (Elt Ideal) ℓ) (c : Dev Cert.Reference15Ideal.nD) :
    Cert.Reference15Ideal.Value.res_main_v51 (F := Ideal) m c
      = ref (m ((c.tc : Thread Cert.Reference15Ideal.nD Cert.Reference15Ideal.τ).loc Cert.Reference15Ideal.main_arg0))
          (m ((c.tc : Thread Cert.Reference15Ideal.nD Cert.Reference15Ideal.τ).loc Cert.Reference15Ideal.main_arg1)) := rfl

/-- The reference computes the SiLU of the packed rows' convolution. -/
theorem ref_eq (x : FVec Ideal S24576x16384 .f32) (w : FVec Ideal S3x12288 .f32) :
    ref x w = fun i => silu (entry (fun k => col x k (i 1)) (fun k => w (ix2 k (i 1))) (i 0)) :=
  joined_eq _ _ (fun r n => silu (entry (fun k => col x k n) (fun k => w (ix2 k n)) r))
    (fun r n => (siluPrompt_at _ _).trans (congrArg silu (prompt_at _ w (col x) (fun r n => by pointwise [tokPrompt, col]) r n)))
    (fun r n => (siluSample_at _ _).trans (congrArg silu (sample_at _ w (col x) (fun r n => by pointwise [tokSample, col]) r n)))

/-- What a grid point leaves in the output block. -/
theorem out_eq (i : grid0.Coords) (x : FVec Ideal S512x1024 .f32) (p n : FVec Ideal S8x1024 .f32) (w : FVec Ideal S3x1024 .f32) (j : S512x1024.Idx) :
    out0_4 (F := Ideal) i x p n w j
      = silu (Cert.Kernel14Ideal.Gen.k0_pay1 (F := Ideal) (row (i 0).val) (inPrompt (i 0).val) (startPrompt (i 0).val) (startSample (i 0).val) x
          (View.ld (Val := Elt Ideal) (e' := .f32) p r0_1) (View.ld (Val := Elt Ideal) (e' := .f32) n r0_2)
          (View.ld (Val := Elt Ideal) (e' := .f32) w r0_3) (View.ld (Val := Elt Ideal) (e' := .f32) w r0_4) (View.ld (Val := Elt Ideal) (e' := .f32) w r0_5) j) := by
  frame_out
  pointwise [k0_pay1]
  rfl

/-- After the run the result array is the reference's. -/
theorem final (c : Dev nD) : (dats m 0 c).arrAt 4 cfg0.N
    = ref (m ((c : Thread nD τ).loc main_arg0)) (m ((c : Thread nD τ).loc main_arg1)) := by
  rw [ref_eq]
  refine (dats m 0 c).arrAt_eq_of_covers 4 _ (by decide +kernel) fun t hf y => ?_
  blk_simp
  rw [after0_4, out_eq]
  have ht : t.val < 576 := t.isLt
  refine congrArg silu (block_eq (grid0.coords t 0) _ _ _ _ _ _ _ _ y ?_ ?_ ?_ ?_ ?_ ?_ _ ?_)
  · intro a
    blk_point [iblk, V, idx t, col]
  · intro h
    rw [(idx t).2.2.2.2.2] at h
    refine (View.ld_unit_apply_of _ _ _ _ _ (ix2 7 (y 1)) (Fin.forall_fin_two.mpr ⟨by simp [ix2], by simp [ix2]⟩)).trans ?_
    blk_point [iblk, V, idx t, col]
  · intro h
    rw [(idx t).2.2.2.2.2] at h
    refine (View.ld_unit_apply_of _ _ _ _ _ (ix2 0 (y 1)) (Fin.forall_fin_two.mpr ⟨by simp [ix2], by simp [ix2]⟩)).trans ?_
    blk_point [iblk, V, idx t, col]
  · refine (View.ld_unit_apply_of _ _ _ _ _ (ix2 0 (y 1)) (Fin.forall_fin_two.mpr ⟨by simp [ix2], by simp [ix2]⟩)).trans ?_
    blk_point [iblk, V, idx t, col]
  · refine (View.ld_unit_apply_of _ _ _ _ _ (ix2 1 (y 1)) (Fin.forall_fin_two.mpr ⟨by simp [ix2], by simp [ix2]⟩)).trans ?_
    blk_point [iblk, V, idx t, col]
  · refine (View.ld_unit_apply_of _ _ _ _ _ (ix2 2 (y 1)) (Fin.forall_fin_two.mpr ⟨by simp [ix2], by simp [ix2]⟩)).trans ?_
    blk_point [iblk, V, idx t, col]
  · show win0_4.index t 0 * 512 + 1 * (y 0 : ℕ) = (grid0.coords t 0).val * 512 + (y 0 : ℕ)
    rw [(idx t).2.2.2.2.1, (idx t).2.2.2.2.2]
    show t.val / 12 * 512 + 1 * (y 0 : ℕ) = t.val / 12 * 512 + (y 0 : ℕ)
    omega

end Cert.Kernel15Ideal.ConvSilu

end
-- ==== Proof.ModRows.lean ====
/-
  The value of the modulation rows (`adaln`): the silu of the eight condition rows times the modulation weight, plus
  the bias.

  The kernel computes 8 × 2048 output tiles over four blocks of 1024 channels: a scratch tile is set to zero at the
  first block, gets one block product per block, and the bias is added after the last one.  The silu is applied to
  each block as it is read.  The reference is one contraction over the 4096 channels.
-/
module

public import proofs.«01_k».proof.Proof.Gen.Kernel16Ideal.Value
public import proofs.«01_k».proof.Proof.Gen.Reference16Ideal.Run
public import Idealize.ShloMosaic.Lib.Pipeline.ValueKit
public import Idealize.ShloMosaic.Lib.Pipeline.ReadBack

@[expose] public section

set_option maxRecDepth 16384

noncomputable section

namespace Cert.Kernel16Ideal.ModRows

open Idealize.ShloMosaic Idealize.ShloMosaic.TcCoe Idealize.SL.Sem
open Idealize.ShloMosaic.Pipeline (Dat)
open Cert.Kernel16Ideal Cert.Kernel16Ideal.Gen

variable (m : (ℓ : Loc nD τ sig) → Buf (Elt Ideal) ℓ)

/-- The silu of a real: the real times its logistic. -/
def silu (x : EReal) : EReal := x * Ideal.logistic x

/-- The product of one block of the condition rows, after the silu, with one block of the weight. -/
def part (x : FVec Ideal S8x1024 .f32) (w : FVec Ideal S1x1024x2048 .f32) (j : S8x2048.Idx) : EReal :=
  ∑ k : Fin 1024, silu (x (ix2 (j 0) k)) * w (ix3 0 k (j 1))

/-- The reference's result: the silu of the condition rows, times the weight, plus the bias. -/
def ref (x : FVec Ideal S8x4096 .f32) (w : FVec Ideal S4096x24576 .f32) (b : FVec Ideal S24576 .f32) :
    FVec Ideal S8x24576 .f32 :=
  addf (Host.dotGeneral Cert.Reference16Ideal.dot_S8x4096_S4096x24576_S8x24576_1_0_0_1_n_n none
      (mulf x (Host.divf
        (broadcastInDim Cert.Reference16Ideal.S8x4096 ![] Cert.Reference16Ideal.Gen.bcast_S_S8x4096
          (constant Cert.Reference16Ideal.S_ .f32 0x3F800000#32))
        (addf (broadcastInDim Cert.Reference16Ideal.S8x4096 ![] Cert.Reference16Ideal.Gen.bcast_S_S8x4096
          (constant Cert.Reference16Ideal.S_ .f32 0x3F800000#32)) (Host.exp (Host.negf x))))) w)
    (broadcastInDim Cert.Reference16Ideal.S8x24576 ![0, 1] Cert.Reference16Ideal.Gen.bcast_S1x24576_S8x24576_0_1
      (broadcastInDim Cert.Reference16Ideal.S1x24576 ![1] Cert.Reference16Ideal.Gen.bcast_S24576_S1x24576_1 b))

/-- The reference at an entry: one contraction of the silu'd row with the weight's column, plus the column's bias. -/
theorem ref_at (x : FVec Ideal S8x4096 .f32) (w : FVec Ideal S4096x24576 .f32) (b : FVec Ideal S24576 .f32)
    (i : S8x24576.Idx) :
    ref x w b i = (∑ k : Fin 4096, silu (x (ix2 (i 0) k)) * w (ix2 k (i 1))) + b (ix1 (i 1)) := by
  pointwise [ref, silu]
  rfl

/-- The windows' block indices at grid point `t`: column tile `t / 4`, channel block `t % 4`. -/
theorem idx : ∀ t : Fin cfg0.N,
    win0_0.index t = ![0, t.val % 4]
      ∧ win0_1.index t = ![0, t.val % 4, t.val / 4]
      ∧ win0_2.index t = ![0, t.val / 4]
      ∧ win0_3.index t = ![0, t.val / 4] :=
  (by decide +kernel : ∀ t : Fin grid0.N, _)

/-- The scratch starts at zero. -/
theorem zero_at (j : S8x2048.Idx) : k0_pay1 (F := Ideal) j = 0 := by pointwise [k0_pay1]

/-- One step adds one block product. -/
theorem step_at (x : FVec Ideal S8x1024 .f32) (acc : FVec Ideal S8x2048 .f32) (w : FVec Ideal S1x1024x2048 .f32)
    (j : S8x2048.Idx) : k0_pay2 (F := Ideal) x acc w j = acc j + part x w j := by
  pointwise [k0_pay2, part, silu]

/-- The output tile is the product plus the columns' biases. -/
theorem out_at (acc : FVec Ideal S8x2048 .f32) (b : FVec Ideal S1x2048 .f32) (j : S8x2048.Idx) :
    k0_pay3 (F := Ideal) acc b j = acc j + b (ix2 0 (j 1)) := by
  pointwise [k0_pay3]

/-- At the first channel block the scratch is the first block product. -/
theorem first (c : Dev nD) (t : Fin cfg0.N) (h : t.val % 4 = 0) (j : S8x2048.Idx) :
    (outsAt0 m c t.val t.isLt).2 j = (0 : EReal) + part (iblk m c 0 t) (iblk m c 1 t) j := by
  rw [outsAt0_A m c t h (by omega)]; frame_out; rw [step_at, zero_at]

/-- At every later channel block the scratch gets that block's product added. -/
theorem next (c : Dev nD) (t : Fin cfg0.N) (h : ¬t.val % 4 = 0) (j : S8x2048.Idx) :
    (outsAt0 m c t.val t.isLt).2 j
      = (show FVec Ideal S8x2048 .f32 from
          (outsAt0 m c (t.val - 1) (Nat.lt_of_le_of_lt (Nat.sub_le _ _) t.isLt)).2) j
        + part (iblk m c 0 t) (iblk m c 1 t) j := by
  by_cases h1 : t.val % 4 = 3
  · rw [outsAt0_C m c t h h1]; frame_out; rw [step_at, read_unread_whole]
  · rw [outsAt0_B m c t h h1]; frame_out; rw [step_at, read_unread_whole]

/-- At the last channel block the output tile is the scratch plus the bias. -/
theorem out_eq (c : Dev nD) (t : Fin cfg0.N) (h : t.val % 4 = 3) (j : S8x2048.Idx) :
    (outsAt0 m c t.val t.isLt).1 j
      = (show FVec Ideal S8x2048 .f32 from (outsAt0 m c t.val t.isLt).2) j
        + (show FVec Ideal S1x2048 .f32 from iblk m c 2 t) (ix2 0 (j 1)) := by
  rw [outsAt0_C m c t (by omega) h]; frame_out; rw [out_at]

/-- After the run the result array is the reference's. -/
theorem final (c : Dev nD) : (dats m 0 c).arrAt 3 cfg0.N
    = ref (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  blk_simp
  rw [after0_3, out_eq m c t h3]
  refine Eq.trans ?_ (ref_at _ _ _ _).symm
  congr 1
  · refine (Pipeline.eq_sum_fin_of_reset_step_apply_of_flush (fun n h => (outsAt0 m c n h).2) 4 (fun _ => 0)
      (fun p => part (iblk m c 0 p) (iblk m c 1 p)) (first m c) (next m c) t h3 y).trans ?_
    rw [zero_add]
    refine Fin.sum_mul_add_congr fun s k hl => ?_
    congr 1
    · refine congrArg silu ?_
      blk_point [iblk, V, idx t, idx ⟨_, Pipeline.run_point_lt_of_flush t h3 s⟩]
    · blk_point [iblk, V, idx t, idx ⟨_, Pipeline.run_point_lt_of_flush t h3 s⟩]
  · blk_point [iblk, V, idx t]

end Cert.Kernel16Ideal.ModRows

end
-- ==== Proof.PoolMean.lean ====
/-
  The window means of the pooling mixer: around every token the mean of the tokens of its own sequence in a centred window,
  less the token itself.  The four groups of 1024 channels have windows of 2, 4, 8 and 16 tokens.

  This module states a window mean on the packed token rows, and shows what the kernel computes on one block of 512 rows with the
  eight rows before it and the eight rows after it: sums over windows doubled from sums over half as many rows.
-/
module

public import Idealize.ShloMosaic.Lib.Pipeline.ValueKit
public import Idealize.ShloMosaic.Lib.KernelVsHost
public import proofs.«01_k».proof.Proof.Gen.Kernel17Ideal.Value
public import proofs.«01_k».proof.Proof.ShortConv

@[expose] public section

set_option maxRecDepth 16384

noncomputable section

namespace Cert.PoolMean

open Idealize.ShloMosaic Idealize.ShloMosaic.TcCoe Idealize.SL.Sem
open Cert.Kernel17Ideal Cert.Kernel17Ideal.Gen
open Cert.ShortConv (Starts Ends floorDiv row inPrompt startPrompt start begins finishes select_of)

/-- The packed row at which the sequence of row `r` begins. -/
def seqStart (r : ℕ) : ℕ := if r < 8192 then 0 else if r < 16384 then 8192 else if r < 20480 then 16384 else 20480

/-- The packed row behind the last row of the sequence of row `r`. -/
def seqEnd (r : ℕ) : ℕ := if r < 8192 then 8192 else if r < 16384 then 16384 else if r < 20480 then 20480 else 24576

/-- The token `q - 8` rows after row `r`, or zero where the sequence of `r` has no such token. -/
def tap (f : ℕ → EReal) (r q : ℕ) : EReal :=
  if seqStart r + 8 ≤ r + q ∧ r + q < seqEnd r + 8 then f (r + q - 8) else 0

/-- How many tokens of a sequence of `L` tokens lie less than `h` after or at most `h` before the token at `p`: the words are the
    reference's. -/
def count (h L p : BitVec 32) : EReal :=
  FloatOps.sitofp (F := Ideal) FTy.f32 (IntOp.subi (IntOp.minsi (IntOp.addi p h) L) (IntOp.maxsi (IntOp.subi p h) 0#32))

/-- The window mean of a channel at packed row `r`, less the token: the window reaches `h` tokens back and `h - 1` ahead. -/
def entry (h : ℕ) (f : ℕ → EReal) (r : ℕ) : EReal :=
  Ideal.div (∑ q ∈ Finset.range (h + h), tap f r (8 - h + q))
    (count (BitVec.ofNat 32 h) (if r < 16384 then 8192#32 else 4096#32) (BitVec.ofNat 32 (r - seqStart r))) - f r

/-- A sum over a window walked backwards is the sum walked forwards. -/
theorem reflect (f : ℕ → EReal) (n w : ℕ) (h : w ≤ n + 1) :
    ∑ i ∈ Finset.range w, f (n - i) = ∑ q ∈ Finset.range w, f (n + 1 - w + q) := by
  rw [← Finset.sum_range_reflect]
  refine Finset.sum_congr rfl fun q hq => congrArg f ?_
  have := Finset.mem_range.mp hq
  omega

/-- A channel of a block with its halos, by row. -/
def lane (v : FVec Ideal S528x512 .f32) (c : Fin 512) (n : ℕ) : EReal := if h : n < 528 then v (ix2 ⟨n, h⟩ c) else 0

/-- A lane below the last row. -/
theorem lane_of (v : FVec Ideal S528x512 .f32) (c : Fin 512) (n : ℕ) (h : n < 528) : lane v c n = v (ix2 ⟨n, h⟩ c) := dif_pos h

/-- Adding the rows moved down by `s`: row `n` gets row `n - s`. -/
theorem down_at (s : ℕ) (b : BitVec 32) (hb : b.toNat = s) (v : FVec Ideal S528x512 .f32) (c : Fin 512) (n : ℕ)
    (h : n < 528) (hn : s ≤ n) :
    lane (addf v (dynamicRotate 0 b none v rotates_S528x512_d0)) c n = lane v c n + lane v c (n - s) := by
  rw [lane_of _ _ _ h, lane_of _ _ _ h, lane_of _ _ (n - s) (by omega)]
  pointwise []
  exact congrArg (fun q : Fin 528 => v (ix2 ⟨n, h⟩ c) + v (ix2 q c)) (Fin.ext (show (n + 528 - b.toNat % 528) % 528 = n - s by omega))

/-- Where each row holds the sum of the `w` rows up to it, adding the rows moved down by `w` gives the sums of `w + w` rows. -/
theorem double_at (w lo : ℕ) (b : BitVec 32) (hb : b.toNat = w) (v : FVec Ideal S528x512 .f32) (c : Fin 512) (g : ℕ → EReal)
    (hv : ∀ n, lo ≤ n → n < 528 → lane v c n = ∑ i ∈ Finset.range w, g (n - i)) (n : ℕ) (hlo : lo + w ≤ n) (h : n < 528) :
    lane (addf v (dynamicRotate 0 b none v rotates_S528x512_d0)) c n = ∑ i ∈ Finset.range (w + w), g (n - i) := by
  rw [down_at w b hb v c n h (by omega), hv n (by omega) h, hv (n - w) (by omega) (by omega), Finset.sum_range_add]
  simp only [Nat.sub_sub]

/-- The sums over two rows. -/
theorem two_at (v : FVec Ideal S528x512 .f32) (c : Fin 512) (n : ℕ) (hn : 1 ≤ n) (h : n < 528) :
    lane (k0_pay5 v) c n = ∑ i ∈ Finset.range (1 + 1), lane v c (n - i) :=
  double_at 1 0 1#32 rfl v c (lane v c) (fun n _ _ => by simp) n hn h

/-- The sums over four rows. -/
theorem four_at (v : FVec Ideal S528x512 .f32) (c : Fin 512) (n : ℕ) (hn : 3 ≤ n) (h : n < 528) :
    lane (k0_pay6 v) c n = ∑ i ∈ Finset.range (2 + 2), lane v c (n - i) :=
  double_at 2 1 2#32 rfl (k0_pay5 v) c (lane v c) (two_at v c) n hn h

/-- The sums over eight rows. -/
theorem eight_at (v : FVec Ideal S528x512 .f32) (c : Fin 512) (n : ℕ) (hn : 7 ≤ n) (h : n < 528) :
    lane (k0_pay8 v) c n = ∑ i ∈ Finset.range (4 + 4), lane v c (n - i) :=
  double_at 4 3 4#32 rfl (k0_pay6 v) c (lane v c) (four_at v c) n hn h

/-- The sums over sixteen rows. -/
def sixteen (v : FVec Ideal S528x512 .f32) : FVec Ideal S528x512 .f32 :=
  addf (k0_pay8 v) (dynamicRotate 0 8#32 none (k0_pay8 v) rotates_S528x512_d0)

/-- Each of them is one. -/
theorem sixteen_at (v : FVec Ideal S528x512 .f32) (c : Fin 512) (n : ℕ) (hn : 15 ≤ n) (h : n < 528) :
    lane (sixteen v) c n = ∑ i ∈ Finset.range (8 + 8), lane v c (n - i) :=
  double_at 8 7 8#32 rfl (k0_pay8 v) c (lane v c) (eight_at v c) n hn h

/-- The block's own rows of the sums moved up by `s` rows. -/
def centred (b : BitVec 32) (v : FVec Ideal S528x512 .f32) : FVec Ideal S512x512 .f32 :=
  extractStridedSlice S512x512 ![8, 0] (dynamicRotate 0 b none v rotates_S528x512_d0) slices_S528x512_o8_0_S512x512

/-- At an entry they are the sums `s` rows further on. -/
theorem centred_at (s : ℕ) (b : BitVec 32) (hb : b.toNat + s = 528) (h0 : 0 < s) (hs : s < 8) (v : FVec Ideal S528x512 .f32) (a c : Fin 512) :
    centred b v (ix2 a c) = lane v c (8 + a.val + s) := by
  have hj : a.val < 512 := a.isLt
  rw [lane_of _ _ _ (by omega)]
  pointwise [centred]
  exact congrArg (fun q : Fin 528 => v (ix2 q c)) (Fin.ext (show (8 + a.val + 528 - b.toNat % 528) % 528 = 8 + a.val + s by omega))

/-- The block's own rows, as they are. -/
theorem own_at (v : FVec Ideal S528x512 .f32) (a c : Fin 512) :
    extractStridedSlice S512x512 ![8, 0] v slices_S528x512_o8_0_S512x512 (ix2 a c) = lane v c (8 + a.val) := by
  have hj : a.val < 512 := a.isLt
  rw [lane_of _ _ _ (by omega)]
  pointwise []

/-- A block of means: sums over windows divided by their counts, less the block. -/
def means (h L : BitVec 32) (pos : IVec S512x1 32) (s x : FVec Ideal S512x512 .f32) : FVec Ideal S512x512 .bf16 :=
  truncf .bf16 (subf (divf s (broadcastTo S512x512 (sitofp .f32 (subi (minsi (addi pos (broadcast S512x1 h)) (broadcast S512x1 L))
    (maxsi (subi pos (broadcast S512x1 h)) (broadcast S512x1 0#32)))) broadcasts_S512x1_S512x512)) x) bitsLt_bf16_f32

/-- A block of means at an entry. -/
theorem means_at (h L : BitVec 32) (pos : IVec S512x1 32) (s x : FVec Ideal S512x512 .f32) (a c : Fin 512) :
    means h L pos s x (ix2 a c) = Ideal.div (s (ix2 a c)) (count h L (pos (ix2 a 0))) - x (ix2 a c) := by
  pointwise [means, count]

/-- What the kernel stores for a block of channel group `G`. -/
def stored (G L : BitVec 32) (pos : IVec S512x1 32) (e : FVec Ideal S528x512 .f32) (x : FVec Ideal S512x512 .f32) : FVec Ideal S512x512 .bf16 :=
  k0_pay1 (F := Ideal) G L x pos (k0_pay7 (F := Ideal) G L pos (Scalar.ofBits .f32 0x3F800000#32)) (k0_pay8 e) (k0_pay9 G e k0_pay4) k0_pay10

/-- In the first group it is the means over two tokens. -/
theorem stored_0 (L : BitVec 32) (pos : IVec S512x1 32) (e : FVec Ideal S528x512 .f32) (x : FVec Ideal S512x512 .f32) :
    stored 0#32 L pos e x
      = means 1#32 L pos (extractStridedSlice S512x512 ![8, 0] (k0_pay5 e) slices_S528x512_o8_0_S512x512) x := rfl

/-- In the second group it is the means over four tokens. -/
theorem stored_1 (L : BitVec 32) (pos : IVec S512x1 32) (e : FVec Ideal S528x512 .f32) (x : FVec Ideal S512x512 .f32) :
    stored 1#32 L pos e x = means 2#32 L pos (centred 527#32 (k0_pay6 e)) x := rfl

/-- In the third group it is the means over eight tokens. -/
theorem stored_2 (L : BitVec 32) (pos : IVec S512x1 32) (e : FVec Ideal S528x512 .f32) (x : FVec Ideal S512x512 .f32) :
    stored 2#32 L pos e x = means 4#32 L pos (centred 525#32 (k0_pay8 e)) x := rfl

/-- In the fourth group it is the means over sixteen tokens. -/
theorem stored_3 (L : BitVec 32) (pos : IVec S512x1 32) (e : FVec Ideal S528x512 .f32) (x : FVec Ideal S512x512 .f32) :
    stored 3#32 L pos e x = means 8#32 L pos (centred 521#32 (sixteen e)) x := rfl

/-- In every group `g` it is the mean over the window that reaches `2 ^ g` rows back. -/
theorem stored_at (g : Fin 4) (L : BitVec 32) (pos : IVec S512x1 32) (e : FVec Ideal S528x512 .f32) (x : FVec Ideal S512x512 .f32) (a c : Fin 512) :
    stored (BitVec.ofNat 32 g.val) L pos e x (ix2 a c)
      = Ideal.div (∑ q ∈ Finset.range (2 ^ g.val + 2 ^ g.val), lane e c (8 + a.val - 2 ^ g.val + q))
          (count (BitVec.ofNat 32 (2 ^ g.val)) L (pos (ix2 a 0))) - x (ix2 a c) := by
  have hj : a.val < 512 := a.isLt
  have window (w n : ℕ) (h : w + w ≤ n + 1) (hn : n + 1 = 8 + a.val + w) : ∑ i ∈ Finset.range (w + w), lane e c (n - i)
      = ∑ q ∈ Finset.range (w + w), lane e c (8 + a.val - w + q) := by
    rw [reflect _ _ _ h, show n + 1 - (w + w) = 8 + a.val - w by omega]
  match g with
  | 0 => exact (congrFun (stored_0 L pos e x) (ix2 a c)).trans ((means_at _ _ _ _ _ a c).trans
      (by rw [own_at, two_at _ _ _ (by omega) (by omega), window 1 _ (by omega) (by omega)]; rfl))
  | 1 => exact (congrFun (stored_1 L pos e x) (ix2 a c)).trans ((means_at _ _ _ _ _ a c).trans
      (by rw [centred_at 1 _ rfl (by omega) (by omega), four_at _ _ _ (by omega) (by omega), window 2 _ (by omega) (by omega)]; rfl))
  | 2 => exact (congrFun (stored_2 L pos e x) (ix2 a c)).trans ((means_at _ _ _ _ _ a c).trans
      (by rw [centred_at 3 _ rfl (by omega) (by omega), eight_at _ _ _ (by omega) (by omega), window 4 _ (by omega) (by omega)]; rfl))
  | 3 => exact (congrFun (stored_3 L pos e x) (ix2 a c)).trans ((means_at _ _ _ _ _ a c).trans
      (by rw [centred_at 7 _ rfl (by omega) (by omega), sixteen_at _ _ _ (by omega) (by omega), window 8 _ (by omega) (by omega)]; rfl))

/-- The block with its halos: the eight rows before it, the block, the eight rows after it, and zeros for halo rows of another
    sequence. -/
def haloed (k : ℕ) (x : FVec Ideal S512x512 .f32) (p q : FVec Ideal S8x512 .f32) : FVec Ideal S528x512 .f32 :=
  k0_pay2 (F := Ideal) (row k) (inPrompt k) (startPrompt k) (Scalar.subi (row k) 16384#32) x p q

/-- The block with its halos at an entry. -/
theorem haloed_at (k : Fin 48) (x : FVec Ideal S512x512 .f32) (p q : FVec Ideal S8x512 .f32) (n : Fin 528) (c : Fin 512) :
    haloed k.val x p q (ix2 n c)
      = if h : n.val < 8 then if Starts (k.val * 512) then 0 else p (ix2 ⟨n.val, h⟩ c)
        else if h' : n.val - 8 < 512 then x (ix2 ⟨n.val - 8, h'⟩ c)
        else if Ends (k.val * 512 + 512) then 0 else q (ix2 ⟨n.val - 8 - 512, by omega⟩ c) := by
  have hb := begins k
  have hf := finishes k
  unfold start ShortConv.startSample floorDiv at hb hf
  pointwise [haloed, k0_pay2]
  simp only [select_of hb, select_of hf]

/-- Row `a + q` of the block with its halos is the token `q - 8` rows after the block's row `a`. -/
theorem haloed_tap (k : Fin 48) (f : ℕ → EReal) (x : FVec Ideal S512x512 .f32) (p n : FVec Ideal S8x512 .f32) (c : Fin 512)
    (hx : ∀ a : Fin 512, x (ix2 a c) = f (k.val * 512 + a.val))
    (hp : 0 < k.val → ∀ i : Fin 8, p (ix2 i c) = f (k.val * 512 - 8 + i.val))
    (hn : k.val < 47 → ∀ i : Fin 8, n (ix2 i c) = f (k.val * 512 + 512 + i.val)) (a q : ℕ) (ha : a < 512) (hq : q < 16) :
    lane (haloed k.val x p n) c (a + q) = tap f (k.val * 512 + a) q := by
  have hk : k.val < 48 := k.isLt
  rw [lane_of _ _ _ (by omega), haloed_at]
  unfold tap
  by_cases h1 : a + q < 8
  · rw [dif_pos h1]
    by_cases hs : Starts (k.val * 512)
    · rw [if_pos hs, if_neg (by unfold Starts at hs; unfold seqStart seqEnd; split_ifs <;> omega)]
    · rw [if_neg hs, if_pos (by unfold Starts at hs; unfold seqStart seqEnd; split_ifs <;> omega), hp (by unfold Starts at hs; omega)]
      exact congrArg f (by unfold Starts at hs; show k.val * 512 - 8 + (a + q) = _; omega)
  · rw [dif_neg h1]
    by_cases h2 : a + q - 8 < 512
    · rw [dif_pos h2, if_pos (by unfold seqStart seqEnd; split_ifs <;> omega), hx]
      exact congrArg f (by show k.val * 512 + (a + q - 8) = _; omega)
    · rw [dif_neg h2]
      by_cases hs : Ends (k.val * 512 + 512)
      · rw [if_pos hs, if_neg (by unfold Ends at hs; unfold seqStart seqEnd; split_ifs <;> omega)]
      · rw [if_neg hs, if_pos (by unfold Ends at hs; unfold seqStart seqEnd; split_ifs <;> omega), hn (by unfold Ends at hs; omega)]
        exact congrArg f (by show k.val * 512 + 512 + (a + q - 8 - 512) = _; omega)

/-- The block's first position in its sequence, in the kernel's words. -/
theorem offset : ∀ k : Fin 48, Scalar.subi (row k.val) (start k.val) = BitVec.ofNat 32 (k.val * 512 - seqStart (k.val * 512)) := by
  decide +kernel

/-- The length of the block's sequence, in the kernel's words. -/
theorem length : ∀ k : Fin 48, Scalar.select (inPrompt k.val) 8192#32 4096#32 = if k.val * 512 < 16384 then 8192#32 else 4096#32 := by
  decide +kernel

/-- The block's positions. -/
def positions (k : ℕ) : IVec S512x1 32 :=
  k0_pay3 (row k) (inPrompt k) (startPrompt k) (Scalar.subi (row k) 16384#32)

/-- The position of row `a` of the block in its sequence. -/
theorem positions_at (k : Fin 48) (a : Fin 512) : positions k.val (ix2 a 0) = BitVec.ofNat 32 (k.val * 512 + a.val - seqStart (k.val * 512 + a.val)) := by
  have ho := offset k
  unfold start ShortConv.startSample floorDiv at ho
  have hk : k.val < 48 := k.isLt
  have e : k.val * 512 + a.val - seqStart (k.val * 512 + a.val) = k.val * 512 - seqStart (k.val * 512) + a.val := by
    unfold seqStart; split_ifs <;> omega
  rw [e, BitVec.ofNat_add, ← ho]
  pointwise [positions, k0_pay3]
  rfl

/-- The kernel's channel group of channel block `i`. -/
theorem group : ∀ i : Fin 8, floorDiv (Scalar.muli (BitVec.ofNat 32 i.val) 512#32) 1024#32 = BitVec.ofNat 32 (i.val / 2) := by
  decide +kernel

/-- A block of the result is the packed rows' window means, where the block and its halos hold the packed rows. -/
theorem block_eq (k : Fin 48) (i : Fin 8) (f : ℕ → EReal) (x : FVec Ideal S512x512 .f32) (p n : FVec Ideal S8x512 .f32) (a c : Fin 512)
    (hx : ∀ b : Fin 512, x (ix2 b c) = f (k.val * 512 + b.val))
    (hp : 0 < k.val → ∀ i : Fin 8, p (ix2 i c) = f (k.val * 512 - 8 + i.val))
    (hn : k.val < 47 → ∀ i : Fin 8, n (ix2 i c) = f (k.val * 512 + 512 + i.val)) :
    stored (floorDiv (Scalar.muli (BitVec.ofNat 32 i.val) 512#32) 1024#32) (Scalar.select (inPrompt k.val) 8192#32 4096#32)
        (positions k.val) (haloed k.val x p n) x (ix2 a c)
      = entry (2 ^ (i.val / 2)) f (k.val * 512 + a.val) := by
  have hj : a.val < 512 := a.isLt
  have hk : k.val < 48 := k.isLt
  have hg : 2 ^ (i.val / 2) ≤ 8 := le_trans (Nat.pow_le_pow_right (by omega) (show i.val / 2 ≤ 3 by omega)) (by decide)
  rw [group, stored_at ⟨i.val / 2, by omega⟩, length, positions_at, hx]
  unfold entry
  rw [show (if k.val * 512 < 16384 then 8192#32 else 4096#32) = if k.val * 512 + a.val < 16384 then 8192#32 else 4096#32 from by
    split_ifs <;> first | rfl | omega]
  congr 2
  refine Finset.sum_congr rfl fun q hq => ?_
  have hq' := Finset.mem_range.mp hq
  rw [← haloed_tap k f x p n c hx hp hn a.val (8 - 2 ^ (i.val / 2) + q) hj (by omega)]
  exact congrArg _ (show 8 + a.val - 2 ^ (i.val / 2) + q = a.val + (8 - 2 ^ (i.val / 2) + q) by omega)

end Cert.PoolMean

end
-- ==== Proof.PoolMeanRef.lean ====
/-
  The window means as the reference computes them: every sequence gets eight zero tokens before and behind it, the shifted copies
  of it inside a window are added, and the sum is divided by the number of tokens the window holds.  This module shows that the
  result is the packed rows' window means (`PoolMean.entry`).
-/
module

public import proofs.«01_k».proof.Proof.Gen.Reference17Ideal.Run
public import proofs.«01_k».proof.Proof.PoolMean
public import proofs.«01_k».proof.Proof.ShortConvRef

@[expose] public section

set_option maxRecDepth 16384

noncomputable section

namespace Cert.PoolMean

open Idealize.ShloMosaic Idealize.ShloMosaic.TcCoe Idealize.SL.Sem
open Cert.Reference17Ideal Cert.Reference17Ideal.Gen
open Cert.ShortConv (zero_pad)

/-- Two sequences of `n` tokens of `m` channels. -/
abbrev Pair (n m : ℕ) : Shape := ⟨3, ![2, n, m]⟩

/-- A shifted copy of one channel group lies inside the padded sequences. -/
theorem inside {L P : ℕ} (s o : ℕ) (hs : s + L ≤ P) (ho : o + 1024 ≤ 4096) : (Pair P 4096).Slices ![0, s, o] (Pair L 1024) :=
  ⟨rfl, fun a => by
    fin_cases a
    · show 0 + 2 ≤ 2; omega
    · show s + L ≤ P; exact hs
    · show o + 1024 ≤ 4096; exact ho⟩

/-- The sum of the shifted copies of one channel group, from shift `s` to shift `s + n`. -/
def shifted {L P : ℕ} (s o : ℕ) (ho : o + 1024 ≤ 4096) (y : FVec Ideal (Pair P 4096) .f32) : (n : ℕ) → s + n + L ≤ P → FVec Ideal (Pair L 1024) .f32
  | 0, h => extractStridedSlice (Pair L 1024) ![0, s, o] y (inside s o h ho)
  | n + 1, h => addf (shifted s o ho y n (by omega))
      (extractStridedSlice (Pair L 1024) ![0, s + (n + 1), o] y (inside (s + (n + 1)) o h ho))

/-- A channel of a padded sequence, by token. -/
def token {P : ℕ} (y : FVec Ideal (Pair P 4096) .f32) (b : Fin 2) (c : Fin 4096) (i : ℕ) : EReal :=
  if h : i < P then y (ix3 b ⟨i, h⟩ c) else 0

/-- A shifted copy at a token. -/
theorem copy_at {L P : ℕ} (s o : ℕ) (h : s + L ≤ P) (ho : o + 1024 ≤ 4096) (y : FVec Ideal (Pair P 4096) .f32) (b : Fin 2) (p : Fin L) (c : Fin 1024) :
    extractStridedSlice (Pair L 1024) ![0, s, o] y (inside s o h ho) (ix3 b p c) = token y b ⟨o + c.val, by omega⟩ (s + p.val) := by
  unfold token
  rw [dif_pos (by omega)]
  refine congrArg y (funext fun a => ?_)
  fin_cases a
  · exact Fin.ext (Nat.zero_add _)
  · rfl
  · rfl

/-- The sum of the shifted copies at a token. -/
theorem shifted_at {L P : ℕ} (s o : ℕ) (ho : o + 1024 ≤ 4096) (y : FVec Ideal (Pair P 4096) .f32) (b : Fin 2) (p : Fin L) (c : Fin 1024) (n : ℕ) (h : s + n + L ≤ P) :
    shifted s o ho y n h (ix3 b p c) = ∑ q ∈ Finset.range (n + 1), token y b ⟨o + c.val, by omega⟩ (s + q + p.val) := by
  induction n with
  | zero => rw [Finset.sum_range_one]; exact copy_at s o h ho y b p c
  | succ n ih =>
    rw [Finset.sum_range_succ, ← ih (by omega)]
    exact congrArg (shifted s o ho y n (by omega) (ix3 b p c) + ·) (copy_at (s + (n + 1)) o h ho y b p c)

/-- The prompt sequences with eight zero tokens at both ends. -/
def paddedPrompt (x : FVec Ideal S2x8192x4096 .f32) : FVec Ideal S2x8208x4096 .f32 :=
  pad S2x8208x4096 ![0, 8, 0] ![0, 8, 0] ![0, 0, 0] x (sitofp .f32 (constantI S_ 32 0#32)) pads_S2x8192x4096_S2x8208x4096_000_880_000 h_S_

/-- The sample sequences with eight zero tokens at both ends. -/
def paddedSample (x : FVec Ideal S2x4096x4096 .f32) : FVec Ideal S2x4112x4096 .f32 :=
  pad S2x4112x4096 ![0, 8, 0] ![0, 8, 0] ![0, 0, 0] x (sitofp .f32 (constantI S_ 32 0#32)) pads_S2x4096x4096_S2x4112x4096_000_880_000 h_S_

/-- A channel of the prompt sequences, less the token's own value, after division by the counts. -/
def meansPrompt (h : BitVec 32) (s x : FVec Ideal S2x8192x1024 .f32) : FVec Ideal S2x8192x1024 .f32 :=
  subf (Host.divf s (broadcastInDim S2x8192x1024 ![0, 1, 2] bcast_S1x8192x1_S2x8192x1024_0_1_2
    (broadcastInDim S1x8192x1 ![1] bcast_S8192_S1x8192x1_1 (sitofp .f32 (subi
      (minsi (addi (iotaInDim S8192 32 0) (broadcastInDim S8192 ![] bcast_S_S8192 (constantI S_ 32 h))) (broadcastInDim S8192 ![] bcast_S_S8192 (constantI S_ 32 8192#32)))
      (maxsi (subi (iotaInDim S8192 32 0) (broadcastInDim S8192 ![] bcast_S_S8192 (constantI S_ 32 h))) (broadcastInDim S8192 ![] bcast_S_S8192 (constantI S_ 32 0#32)))))))) x

/-- The same for the sample sequences. -/
def meansSample (h : BitVec 32) (s x : FVec Ideal S2x4096x1024 .f32) : FVec Ideal S2x4096x1024 .f32 :=
  subf (Host.divf s (broadcastInDim S2x4096x1024 ![0, 1, 2] bcast_S1x4096x1_S2x4096x1024_0_1_2
    (broadcastInDim S1x4096x1 ![1] bcast_S4096_S1x4096x1_1 (sitofp .f32 (subi
      (minsi (addi (iotaInDim S4096 32 0) (broadcastInDim S4096 ![] bcast_S_S4096 (constantI S_ 32 h))) (broadcastInDim S4096 ![] bcast_S_S4096 (constantI S_ 32 4096#32)))
      (maxsi (subi (iotaInDim S4096 32 0) (broadcastInDim S4096 ![] bcast_S_S4096 (constantI S_ 32 h))) (broadcastInDim S4096 ![] bcast_S_S4096 (constantI S_ 32 0#32)))))))) x

/-- One channel group of the prompt sequences: the window reaches `h` tokens back and `h - 1` ahead. -/
def groupPrompt (h o : ℕ) (h1 : 1 ≤ h) (h8 : h ≤ 8) (ho : o + 1024 ≤ 4096) (x : FVec Ideal S2x8192x4096 .f32) : FVec Ideal S2x8192x1024 .f32 :=
  meansPrompt (BitVec.ofNat 32 h) (shifted (L := 8192) (8 - h) o ho (paddedPrompt x) (h + h - 1) (by omega))
    (extractStridedSlice S2x8192x1024 ![0, 0, o] x (inside (L := 8192) 0 o (by omega) ho))

/-- One channel group of the sample sequences. -/
def groupSample (h o : ℕ) (h1 : 1 ≤ h) (h8 : h ≤ 8) (ho : o + 1024 ≤ 4096) (x : FVec Ideal S2x4096x4096 .f32) : FVec Ideal S2x4096x1024 .f32 :=
  meansSample (BitVec.ofNat 32 h) (shifted (L := 4096) (8 - h) o ho (paddedSample x) (h + h - 1) (by omega))
    (extractStridedSlice S2x4096x1024 ![0, 0, o] x (inside (L := 4096) 0 o (by omega) ho))

/-- A padded prompt at a token. -/
theorem paddedPrompt_at (x : FVec Ideal S2x8192x4096 .f32) (b : Fin 2) (c : Fin 4096) (i : ℕ) (hi : i < 8208) :
    token (paddedPrompt x) b c i = if h : 8 ≤ i ∧ i - 8 < 8192 then x (ix3 b ⟨i - 8, h.2⟩ c) else 0 := by
  unfold token
  rw [dif_pos hi]
  pointwise [paddedPrompt]
  simp only [zero_pad]

/-- A padded sample at a token. -/
theorem paddedSample_at (x : FVec Ideal S2x4096x4096 .f32) (b : Fin 2) (c : Fin 4096) (i : ℕ) (hi : i < 4112) :
    token (paddedSample x) b c i = if h : 8 ≤ i ∧ i - 8 < 4096 then x (ix3 b ⟨i - 8, h.2⟩ c) else 0 := by
  unfold token
  rw [dif_pos hi]
  pointwise [paddedSample]
  simp only [zero_pad]

/-- The prompts' means at a token. -/
theorem meansPrompt_at (h : BitVec 32) (s x : FVec Ideal S2x8192x1024 .f32) (b : Fin 2) (p : Fin 8192) (c : Fin 1024) :
    meansPrompt h s x (ix3 b p c) = Ideal.div (s (ix3 b p c)) (count h 8192#32 (BitVec.ofNat 32 p.val)) - x (ix3 b p c) := by
  pointwise [meansPrompt, count]

/-- The samples' means at a token. -/
theorem meansSample_at (h : BitVec 32) (s x : FVec Ideal S2x4096x1024 .f32) (b : Fin 2) (p : Fin 4096) (c : Fin 1024) :
    meansSample h s x (ix3 b p c) = Ideal.div (s (ix3 b p c)) (count h 4096#32 (BitVec.ofNat 32 p.val)) - x (ix3 b p c) := by
  pointwise [meansSample, count]

/-- Where the prompt sequences hold the packed rows `y`, a group's means are the packed rows'. -/
theorem groupPrompt_at (h o : ℕ) (h1 : 1 ≤ h) (h8 : h ≤ 8) (ho : o + 1024 ≤ 4096) (x : FVec Ideal S2x8192x4096 .f32) (y : ℕ → Fin 4096 → EReal)
    (hx : ∀ (r : Fin 16384) n, x (ix3 ⟨r.val / 8192, by omega⟩ ⟨r.val % 8192, by omega⟩ n) = y r.val n) (r : Fin 16384) (c : Fin 1024) :
    groupPrompt h o h1 h8 ho x (ix3 ⟨r.val / 8192, by omega⟩ ⟨r.val % 8192, by omega⟩ c) = entry h (fun k => y k ⟨o + c.val, by omega⟩) r.val := by
  have at_row : ∀ (q : ℕ) (a : Fin 2) (b : Fin 8192) (n : Fin 4096), q < 16384 → a.val = q / 8192 → b.val = q % 8192 → x (ix3 a b n) = y q n := by
    intro q a b n hq ha hb
    have e := hx ⟨q, hq⟩ n
    rw [show (⟨q / 8192, by omega⟩ : Fin 2) = a from Fin.ext ha.symm, show (⟨q % 8192, by omega⟩ : Fin 8192) = b from Fin.ext hb.symm] at e
    exact e
  have hr : r.val < 16384 := r.isLt
  have hs : seqStart r.val = r.val / 8192 * 8192 := by unfold seqStart; split_ifs <;> omega
  have he : seqEnd r.val = r.val / 8192 * 8192 + 8192 := by unfold seqEnd; split_ifs <;> omega
  unfold groupPrompt entry
  rw [meansPrompt_at, shifted_at, if_pos hr, hs, show r.val - r.val / 8192 * 8192 = r.val % 8192 by omega, show h + h - 1 + 1 = h + h by omega]
  congr 1
  · congr 1
    refine Finset.sum_congr rfl fun q hq => ?_
    have hq' := Finset.mem_range.mp hq
    show token (paddedPrompt x) _ _ (8 - h + q + r.val % 8192) = _
    rw [paddedPrompt_at _ _ _ _ (by omega)]
    unfold tap
    rw [hs, he]
    by_cases hc : 8 ≤ 8 - h + q + r.val % 8192 ∧ 8 - h + q + r.val % 8192 - 8 < 8192
    · rw [dif_pos hc, if_pos (by omega)]
      exact at_row _ _ _ _ (by omega) (by show r.val / 8192 = _; omega) (by show 8 - h + q + r.val % 8192 - 8 = _; omega)
    · rw [dif_neg hc, if_neg (by omega)]
  · refine (copy_at (L := 8192) 0 o (by omega) ho x _ _ c).trans ?_
    unfold token
    rw [dif_pos (show 0 + r.val % 8192 < 8192 by omega)]
    exact at_row _ _ _ _ hr rfl (Nat.zero_add _)

/-- Where the sample sequences hold the packed rows `y`, a group's means are the packed rows'. -/
theorem groupSample_at (h o : ℕ) (h1 : 1 ≤ h) (h8 : h ≤ 8) (ho : o + 1024 ≤ 4096) (x : FVec Ideal S2x4096x4096 .f32) (y : ℕ → Fin 4096 → EReal)
    (hx : ∀ (r : Fin 8192) n, x (ix3 ⟨r.val / 4096, by omega⟩ ⟨r.val % 4096, by omega⟩ n) = y (16384 + r.val) n) (r : Fin 8192) (c : Fin 1024) :
    groupSample h o h1 h8 ho x (ix3 ⟨r.val / 4096, by omega⟩ ⟨r.val % 4096, by omega⟩ c) = entry h (fun k => y k ⟨o + c.val, by omega⟩) (16384 + r.val) := by
  have at_row : ∀ (q v : ℕ) (a : Fin 2) (b : Fin 4096) (n : Fin 4096), q < 8192 → a.val = q / 4096 → b.val = q % 4096 → v = 16384 + q → x (ix3 a b n) = y v n := by
    intro q v a b n hq ha hb hv
    have e := hx ⟨q, hq⟩ n
    rw [show (⟨q / 4096, by omega⟩ : Fin 2) = a from Fin.ext ha.symm, show (⟨q % 4096, by omega⟩ : Fin 4096) = b from Fin.ext hb.symm] at e
    rw [hv]
    exact e
  have hr : r.val < 8192 := r.isLt
  have hs : seqStart (16384 + r.val) = 16384 + r.val / 4096 * 4096 := by unfold seqStart; split_ifs <;> omega
  have he : seqEnd (16384 + r.val) = 16384 + r.val / 4096 * 4096 + 4096 := by unfold seqEnd; split_ifs <;> omega
  unfold groupSample entry
  rw [meansSample_at, shifted_at, if_neg (by omega), hs, show 16384 + r.val - (16384 + r.val / 4096 * 4096) = r.val % 4096 by omega, show h + h - 1 + 1 = h + h by omega]
  congr 1
  · congr 1
    refine Finset.sum_congr rfl fun q hq => ?_
    have hq' := Finset.mem_range.mp hq
    show token (paddedSample x) _ _ (8 - h + q + r.val % 4096) = _
    rw [paddedSample_at _ _ _ _ (by omega)]
    unfold tap
    rw [hs, he]
    by_cases hc : 8 ≤ 8 - h + q + r.val % 4096 ∧ 8 - h + q + r.val % 4096 - 8 < 4096
    · rw [dif_pos hc, if_pos (by omega)]
      exact at_row (r.val + (8 - h + q) - 8) _ _ _ _ (by omega) (by show r.val / 4096 = _; omega) (by show 8 - h + q + r.val % 4096 - 8 = _; omega) (by omega)
    · rw [dif_neg hc, if_neg (by omega)]
  · refine (copy_at (L := 4096) 0 o (by omega) ho x _ _ c).trans ?_
    unfold token
    rw [dif_pos (show 0 + r.val % 4096 < 4096 by omega)]
    exact at_row _ _ _ _ _ hr rfl (Nat.zero_add _) rfl

/-- The four channel groups of the prompt sequences. -/
def prompt (x : FVec Ideal S2x8192x4096 .f32) : FVec Ideal S2x8192x4096 .f32 :=
  concatenate S2x8192x4096 2 [⟨S2x8192x1024, groupPrompt 1 0 (by omega) (by omega) (by omega) x⟩, ⟨S2x8192x1024, groupPrompt 2 1024 (by omega) (by omega) (by omega) x⟩,
    ⟨S2x8192x1024, groupPrompt 4 2048 (by omega) (by omega) (by omega) x⟩, ⟨S2x8192x1024, groupPrompt 8 3072 (by omega) (by omega) (by omega) x⟩]
    concatenates_S2x8192x1024_S2x8192x1024_S2x8192x1024_S2x8192x1024_S2x8192x4096_d2

/-- The four channel groups of the sample sequences. -/
def sample (x : FVec Ideal S2x4096x4096 .f32) : FVec Ideal S2x4096x4096 .f32 :=
  concatenate S2x4096x4096 2 [⟨S2x4096x1024, groupSample 1 0 (by omega) (by omega) (by omega) x⟩, ⟨S2x4096x1024, groupSample 2 1024 (by omega) (by omega) (by omega) x⟩,
    ⟨S2x4096x1024, groupSample 4 2048 (by omega) (by omega) (by omega) x⟩, ⟨S2x4096x1024, groupSample 8 3072 (by omega) (by omega) (by omega) x⟩]
    concatenates_S2x4096x1024_S2x4096x1024_S2x4096x1024_S2x4096x1024_S2x4096x4096_d2

/-- Where a group's means are the packed rows', so are they at the group's channels. -/
theorem group_entry (g h o : ℕ) (y : ℕ → Fin 4096 → EReal) (r : ℕ) (n : Fin 4096) (c : Fin 1024) (ho : o + 1024 ≤ 4096) (hh : 2 ^ g = h)
    (hn : o + c.val = n.val) (hg : n.val / 1024 = g) :
    entry h (fun k => y k ⟨o + c.val, by omega⟩) r = entry (2 ^ (n.val / 1024)) (fun k => y k n) r := by
  rw [hg, hh, show (⟨o + c.val, by omega⟩ : Fin 4096) = n from Fin.ext hn]

/-- The prompts' result holds the packed rows' window means. -/
theorem prompt_at (x : FVec Ideal S2x8192x4096 .f32) (y : ℕ → Fin 4096 → EReal)
    (hx : ∀ (r : Fin 16384) n, x (ix3 ⟨r.val / 8192, by omega⟩ ⟨r.val % 8192, by omega⟩ n) = y r.val n) (r : Fin 16384) (n : Fin 4096) :
    prompt x (ix3 ⟨r.val / 8192, by omega⟩ ⟨r.val % 8192, by omega⟩ n) = entry (2 ^ (n.val / 1024)) (fun k => y k n) r.val := by
  pointwise [prompt]
  by_cases h0 : n.val < 1024
  · rw [dif_pos h0]
    refine (groupPrompt_at 1 0 _ _ _ x y hx r ⟨n.val, h0⟩).trans ?_
    exact group_entry 0 1 0 y r.val n ⟨n.val, h0⟩ (by omega) (by decide) (by show 0 + (n.val) = n.val; omega) (by omega)
  rw [dif_neg h0]
  by_cases h1 : n.val - 1024 < 1024
  · rw [dif_pos h1]
    refine (groupPrompt_at 2 1024 _ _ _ x y hx r ⟨n.val - 1024, h1⟩).trans ?_
    exact group_entry 1 2 1024 y r.val n ⟨n.val - 1024, h1⟩ (by omega) (by decide) (by show 1024 + (n.val - 1024) = n.val; omega) (by omega)
  rw [dif_neg h1]
  by_cases h2 : n.val - 1024 - 1024 < 1024
  · rw [dif_pos h2]
    refine (groupPrompt_at 4 2048 _ _ _ x y hx r ⟨n.val - 1024 - 1024, h2⟩).trans ?_
    exact group_entry 2 4 2048 y r.val n ⟨n.val - 1024 - 1024, h2⟩ (by omega) (by decide) (by show 2048 + (n.val - 1024 - 1024) = n.val; omega) (by omega)
  rw [dif_neg h2]
  refine (groupPrompt_at 8 3072 _ _ _ x y hx r ⟨n.val - 1024 - 1024 - 1024, by omega⟩).trans ?_
  exact group_entry 3 8 3072 y r.val n ⟨n.val - 1024 - 1024 - 1024, by omega⟩ (by omega) (by decide) (by show 3072 + (n.val - 1024 - 1024 - 1024) = n.val; omega) (by omega)

/-- The samples' result holds the packed rows' window means. -/
theorem sample_at (x : FVec Ideal S2x4096x4096 .f32) (y : ℕ → Fin 4096 → EReal)
    (hx : ∀ (r : Fin 8192) n, x (ix3 ⟨r.val / 4096, by omega⟩ ⟨r.val % 4096, by omega⟩ n) = y (16384 + r.val) n) (r : Fin 8192) (n : Fin 4096) :
    sample x (ix3 ⟨r.val / 4096, by omega⟩ ⟨r.val % 4096, by omega⟩ n) = entry (2 ^ (n.val / 1024)) (fun k => y k n) (16384 + r.val) := by
  pointwise [sample]
  by_cases h0 : n.val < 1024
  · rw [dif_pos h0]
    refine (groupSample_at 1 0 _ _ _ x y hx r ⟨n.val, h0⟩).trans ?_
    exact group_entry 0 1 0 y (16384 + r.val) n ⟨n.val, h0⟩ (by omega) (by decide) (by show 0 + (n.val) = n.val; omega) (by omega)
  rw [dif_neg h0]
  by_cases h1 : n.val - 1024 < 1024
  · rw [dif_pos h1]
    refine (groupSample_at 2 1024 _ _ _ x y hx r ⟨n.val - 1024, h1⟩).trans ?_
    exact group_entry 1 2 1024 y (16384 + r.val) n ⟨n.val - 1024, h1⟩ (by omega) (by decide) (by show 1024 + (n.val - 1024) = n.val; omega) (by omega)
  rw [dif_neg h1]
  by_cases h2 : n.val - 1024 - 1024 < 1024
  · rw [dif_pos h2]
    refine (groupSample_at 4 2048 _ _ _ x y hx r ⟨n.val - 1024 - 1024, h2⟩).trans ?_
    exact group_entry 2 4 2048 y (16384 + r.val) n ⟨n.val - 1024 - 1024, h2⟩ (by omega) (by decide) (by show 2048 + (n.val - 1024 - 1024) = n.val; omega) (by omega)
  rw [dif_neg h2]
  refine (groupSample_at 8 3072 _ _ _ x y hx r ⟨n.val - 1024 - 1024 - 1024, by omega⟩).trans ?_
  exact group_entry 3 8 3072 y (16384 + r.val) n ⟨n.val - 1024 - 1024 - 1024, by omega⟩ (by omega) (by decide) (by show 3072 + (n.val - 1024 - 1024 - 1024) = n.val; omega) (by omega)

/-- The two groups' sequences joined to the packed rows. -/
def joined (yp : FVec Ideal S2x8192x4096 .f32) (ys : FVec Ideal S2x4096x4096 .f32) : FVec Ideal S24576x4096 .bf16 :=
  truncf .bf16 (concatenate S24576x4096 0 [⟨S16384x4096, shapeCast _ yp shapeCasts_S2x8192x4096_S16384x4096⟩,
    ⟨S8192x4096, shapeCast _ ys shapeCasts_S2x4096x4096_S8192x4096⟩] concatenates_S16384x4096_S8192x4096_S24576x4096_d0) bitsLt_bf16_f32

/-- Where the sequences hold the packed rows `g`, the joined array is `g`. -/
theorem joined_eq (yp : FVec Ideal S2x8192x4096 .f32) (ys : FVec Ideal S2x4096x4096 .f32) (g : ℕ → Fin 4096 → EReal)
    (hp : ∀ (r : Fin 16384) n, yp (ix3 ⟨r.val / 8192, by omega⟩ ⟨r.val % 8192, by omega⟩ n) = g r.val n)
    (hs : ∀ (r : Fin 8192) n, ys (ix3 ⟨r.val / 4096, by omega⟩ ⟨r.val % 4096, by omega⟩ n) = g (16384 + r.val) n) :
    joined yp ys = fun i => g (i 0 : ℕ) (i 1) := by
  funext i
  pointwise [joined]
  have hi : (i 0 : ℕ) < 24576 := (i 0).isLt
  by_cases h : (i 0 : ℕ) < 16384
  · rw [dif_pos h]
    exact hp ⟨(i 0 : ℕ), h⟩ (i 1)
  · rw [dif_neg h]
    refine (hs ⟨(i 0 : ℕ) - 16384, by omega⟩ (i 1)).trans ?_
    exact congrArg (fun q : ℕ => g q (i 1)) (show 16384 + ((i 0 : ℕ) - 16384) = (i 0 : ℕ) by omega)

end Cert.PoolMean

end
-- ==== Proof.PoolWin.lean ====
/-
  The value of the pooling mixer's window means (`pool_windows`).

  The kernel walks blocks of 512 token rows and 512 channels; with every block it gets the eight rows before it and the eight
  rows after it.
-/
module

public import proofs.«01_k».proof.Proof.Gen.Kernel17Ideal.Value
public import proofs.«01_k».proof.Proof.PoolMeanRef
public import Idealize.ShloMosaic.Lib.Pipeline.ReadBack

@[expose] public section

set_option maxRecDepth 16384

noncomputable section

namespace Cert.Kernel17Ideal.PoolWin

open Idealize.ShloMosaic Idealize.ShloMosaic.TcCoe Idealize.SL.Sem
open Idealize.ShloMosaic.Pipeline (Dat)
open Cert.Kernel17Ideal Cert.Kernel17Ideal.Gen
open Cert.ShortConv (floorDiv inPrompt)
open Cert.PoolMean (entry stored positions haloed block_eq joined joined_eq prompt sample prompt_at sample_at)

variable (m : (ℓ : Loc nD τ sig) → Buf (Elt Ideal) ℓ)

/-- The windows' block indices at grid point `t`: row block `t / 8` and channel block `t % 8`, the eight rows before it and the
    eight rows after it. -/
theorem idx : ∀ t : Fin cfg0.N,
    win0_0.index t = ![t.val / 8, t.val % 8]
      ∧ win0_1.index t = ![t.val / 8 * 64 - 1, t.val % 8]
      ∧ win0_2.index t = ![min (t.val / 8 * 64 + 64) 3071, t.val % 8]
      ∧ win0_3.index t = ![t.val / 8, t.val % 8]
      ∧ (grid0.coords t 0).val = t.val / 8
      ∧ (grid0.coords t 1).val = t.val % 8 :=
  (by decide +kernel : ∀ t : Fin grid0.N, _)

/-- The tokens of the prompt sequences. -/
def tokPrompt (x : FVec Ideal S24576x4096 .f32) : FVec Ideal Cert.Reference17Ideal.S2x8192x4096 .f32 :=
  shapeCast _ (extractStridedSlice Cert.Reference17Ideal.S16384x4096 ![0, 0] x Cert.Reference17Ideal.Gen.slices_S24576x4096_S16384x4096_0_0)
    Cert.Reference17Ideal.Gen.shapeCasts_S16384x4096_S2x8192x4096

/-- The tokens of the sample sequences. -/
def tokSample (x : FVec Ideal S24576x4096 .f32) : FVec Ideal Cert.Reference17Ideal.S2x4096x4096 .f32 :=
  shapeCast _ (extractStridedSlice Cert.Reference17Ideal.S8192x4096 ![16384, 0] x Cert.Reference17Ideal.Gen.slices_S24576x4096_S8192x4096_16384_0)
    Cert.Reference17Ideal.Gen.shapeCasts_S8192x4096_S2x4096x4096

/-- The reference's result. -/
def ref (x : FVec Ideal S24576x4096 .f32) : FVec Ideal S24576x4096 .bf16 :=
  joined (prompt (tokPrompt x)) (sample (tokSample x))

/-- A channel of the packed rows, by row. -/
def packed (x : FVec Ideal S24576x4096 .f32) (k : ℕ) (n : Fin 4096) : EReal := if h : k < 24576 then x (ix2 ⟨k, h⟩ n) else 0

/-- A packed row. -/
theorem packed_of (x : FVec Ideal S24576x4096 .f32) (k : ℕ) (n : Fin 4096) (h : k < 24576) : packed x k n = x (ix2 ⟨k, h⟩ n) := dif_pos h

/-- The reference computes the packed rows' window means. -/
theorem ref_eq (x : FVec Ideal S24576x4096 .f32) :
    ref x = fun i => entry (2 ^ ((i 1 : ℕ) / 1024)) (fun k => packed x k (i 1)) (i 0 : ℕ) :=
  joined_eq _ _ (fun r n => entry (2 ^ (n.val / 1024)) (fun k => packed x k n) r)
    (prompt_at _ (packed x) fun r n => by rw [packed_of _ _ _ (by omega)]; pointwise [tokPrompt])
    (sample_at _ (packed x) fun r n => by rw [packed_of _ _ _ (by omega)]; pointwise [tokSample])

/-- What a grid point leaves in the output block. -/
theorem out_eq (i : grid0.Coords) (x : FVec Ideal S512x512 .f32) (p n : FVec Ideal S8x512 .f32) (j : S512x512.Idx) :
    out0_3 (F := Ideal) i x p n j
      = stored (floorDiv (Scalar.muli (BitVec.ofNat 32 (i 1).val) 512#32) 1024#32) (Scalar.select (inPrompt (i 0).val) 8192#32 4096#32)
          (positions (i 0).val) (haloed (i 0).val x p n) x j := by
  frame_out
  have hx : View.ld (Val := Elt Ideal) (S := S512x512) (e' := .f32) x r0_0 = x := View.ld_unit_lit (Val := Elt Ideal) (e := .f32) (S := S512x512) (off := ![0, 0]) inb_S512x512_S512x512_0_0 x (by decide)
  have hp : View.ld (Val := Elt Ideal) (S := S8x512) (e' := .f32) p r0_1 = p := View.ld_unit_lit (Val := Elt Ideal) (e := .f32) (S := S8x512) (off := ![0, 0]) inb_S8x512_S8x512_0_0 p (by decide)
  have hn : View.ld (Val := Elt Ideal) (S := S8x512) (e' := .f32) n r0_1 = n := View.ld_unit_lit (Val := Elt Ideal) (e := .f32) (S := S8x512) (off := ![0, 0]) inb_S8x512_S8x512_0_0 n (by decide)
  have h11 : k0_pay11 (F := Ideal) i x p n = haloed (i 0).val x p n := by
    unfold k0_pay11
    rw [hx, hp, hn]
    rfl
  have h12 : k0_pay12 (F := Ideal) i x p n = positions (i 0).val := rfl
  rw [h11, h12]
  rfl

/-- After the run the result array is the reference's. -/
theorem final (c : Dev nD) : (dats m 0 c).arrAt 3 cfg0.N = ref (m ((c : Thread nD τ).loc main_arg0)) := by
  rw [ref_eq]
  refine (dats m 0 c).arrAt_eq_of_covers 3 _ (by decide +kernel) fun t hf y => ?_
  blk_simp
  rw [after0_3, out_eq]
  have ht : t.val < 384 := t.isLt
  have hy0 : (y 0 : ℕ) < 512 := (y 0).isLt
  have hy1 : (y 1 : ℕ) < 512 := (y 1).isLt
  have e := block_eq (grid0.coords t 0) (grid0.coords t 1)
    (fun k => packed (m ((c : Thread nD τ).loc main_arg0)) k ⟨t.val % 8 * 512 + (y 1 : ℕ), by omega⟩)
    (iblk m c 0 t) (iblk m c 1 t) (iblk m c 2 t) (y 0) (y 1)
    (fun a => by
      rw [(idx t).2.2.2.2.1, packed_of _ _ _ (by omega)]
      blk_point [iblk, V, idx t])
    (fun h a => by
      rw [(idx t).2.2.2.2.1] at h ⊢
      rw [packed_of _ _ _ (by omega)]
      blk_point [iblk, V, idx t])
    (fun h a => by
      rw [(idx t).2.2.2.2.1] at h ⊢
      rw [packed_of _ _ _ (by omega)]
      blk_point [iblk, V, idx t])
  have hy : y = ix2 (y 0) (y 1) := by funext a; fin_cases a <;> rfl
  have h1 : (((win0_3.blk t).view.emb y 1 : Fin 4096) : ℕ) = t.val % 8 * 512 + (y 1 : ℕ) := by
    show win0_3.index t 1 * 512 + 1 * (y 1 : ℕ) = _
    rw [(idx t).2.2.2.1]
    show t.val % 8 * 512 + 1 * (y 1 : ℕ) = _
    omega
  refine (congrArg (stored _ _ _ _ _) hy).trans (e.trans ?_)
  have h1' : (⟨t.val % 8 * 512 + (y 1 : ℕ), by omega⟩ : Fin 4096) = (win0_3.blk t).view.emb y 1 := Fin.ext h1.symm
  rw [(idx t).2.2.2.2.1, (idx t).2.2.2.2.2, h1', show t.val % 8 / 2 = (t.val % 8 * 512 + (y 1 : ℕ)) / 1024 by omega]
  have g0 : win0_3.index t 0 = t.val / 8 := congrFun (idx t).2.2.2.1 0
  have g1 : win0_3.index t 1 = t.val % 8 := congrFun (idx t).2.2.2.1 1
  rw [g0, g1]

end Cert.Kernel17Ideal.PoolWin

end
-- ==== Proof.lean ====
/-
  The proof of `Cert.Claim`.

  Every kernel and every reference runs to its end from any memory, leaves its arguments as launched and its counters at
  zero (the frames).  For every pair the kernel's result over the reals is the reference's: the kernel's run ends with
  the output window's array, which the pair's own module under Proof/ shows equal to the reference's term.
-/
module

public import proofs.«01_k».proof.Defs
public import proofs.«01_k».proof.Proof.Gen.Kernel.Frame
public import proofs.«01_k».proof.Proof.Gen.ReferenceIdeal.Run
public import proofs.«01_k».proof.Proof.PeerMix
public import proofs.«01_k».proof.Proof.Gen.Kernel2.Frame
public import proofs.«01_k».proof.Proof.Gen.Reference2Ideal.Run
public import proofs.«01_k».proof.Proof.HyIn
public import proofs.«01_k».proof.Proof.Gen.Kernel3.Frame
public import proofs.«01_k».proof.Proof.Gen.Reference3Ideal.Run
public import proofs.«01_k».proof.Proof.GdnIn
public import proofs.«01_k».proof.Proof.Gen.Kernel4.Frame
public import proofs.«01_k».proof.Proof.Gen.Reference4Ideal.Run
public import proofs.«01_k».proof.Proof.PoolOut
public import proofs.«01_k».proof.Proof.Gen.Kernel5.Frame
public import proofs.«01_k».proof.Proof.Gen.Reference5Ideal.Run
public import proofs.«01_k».proof.Proof.HyOut
public import proofs.«01_k».proof.Proof.Gen.Kernel6.Frame
public import proofs.«01_k».proof.Proof.Gen.Reference6Ideal.Run
public import proofs.«01_k».proof.Proof.PeerQ
public import proofs.«01_k».proof.Proof.Gen.Kernel7.Frame
public import proofs.«01_k».proof.Proof.Gen.Reference7Ideal.Run
public import proofs.«01_k».proof.Proof.PoolIn
public import proofs.«01_k».proof.Proof.Gen.Kernel8.Frame
public import proofs.«01_k».proof.Proof.Gen.Reference8Ideal.Run
public import proofs.«01_k».proof.Proof.PoolGrp
public import proofs.«01_k».proof.Proof.Gen.Kernel9.Frame
public import proofs.«01_k».proof.Proof.Gen.Reference9Ideal.Run
public import proofs.«01_k».proof.Proof.FinalNorm
public import proofs.«01_k».proof.Proof.Gen.Kernel10.Frame
public import proofs.«01_k».proof.Proof.Gen.Reference10Ideal.Run
public import proofs.«01_k».proof.Proof.GdnGates
public import proofs.«01_k».proof.Proof.Gen.Kernel11.Frame
public import proofs.«01_k».proof.Proof.Gen.Reference11Ideal.Run
public import proofs.«01_k».proof.Proof.GdnOut
public import proofs.«01_k».proof.Proof.Gen.Kernel12.Frame
public import proofs.«01_k».proof.Proof.Gen.Reference12Ideal.Run
public import proofs.«01_k».proof.Proof.FirstNorm
public import proofs.«01_k».proof.Proof.Gen.Kernel13.Frame
public import proofs.«01_k».proof.Proof.Gen.Reference13Ideal.Run
public import proofs.«01_k».proof.Proof.LayerNorm
public import proofs.«01_k».proof.Proof.Gen.Kernel14.Frame
public import proofs.«01_k».proof.Proof.Gen.Reference14Ideal.Run
public import proofs.«01_k».proof.Proof.Conv3
public import proofs.«01_k».proof.Proof.Gen.Kernel15.Frame
public import proofs.«01_k».proof.Proof.Gen.Reference15Ideal.Run
public import proofs.«01_k».proof.Proof.ConvSilu
public import proofs.«01_k».proof.Proof.Gen.Kernel16.Frame
public import proofs.«01_k».proof.Proof.Gen.Reference16Ideal.Run
public import proofs.«01_k».proof.Proof.ModRows
public import proofs.«01_k».proof.Proof.Gen.Kernel17.Frame
public import proofs.«01_k».proof.Proof.Gen.Reference17Ideal.Run
public import proofs.«01_k».proof.Proof.PoolWin
public import Idealize.ShloMosaic.Adequacy
public import Idealize.ShloMosaic.Init
public import Idealize.ShloMosaic.Lib.Quiescent

@[expose] public section

noncomputable section

namespace Cert.Proof

open Idealize.ShloMosaic Idealize.SL.Sem

/-- The reference of the PEER mixing runs to its end and leaves its arguments as launched. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the hyena mixer's input projection runs to its end and leaves its arguments as launched. -/
theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The reference of the delta-rule mixer's input projection runs to its end and leaves its arguments as launched. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The reference of the bf16 output projection with the gated residual runs to its end and leaves its arguments as launched. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the hyena mixer's output projection with the gated residual runs to its end and leaves its arguments as launched. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference of the PEER queries runs to its end and leaves its arguments as launched. -/
theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference of the pooling mixer's input projection runs to its end and leaves its arguments as launched. -/
theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of the pooling mixer's grouped product runs to its end and leaves its arguments as launched. -/
theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The reference of the final norm runs to its end and leaves its arguments as launched. -/
theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The reference of the delta-rule mixer's gate columns runs to its end and leaves its arguments as launched. -/
theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The reference of the delta-rule mixer's output norm and gate runs to its end and leaves its arguments as launched. -/
theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference of the modulated norm runs to its end and leaves its arguments as launched. -/
theorem quiescent_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference of the residual with the modulated norm runs to its end and leaves its arguments as launched. -/
theorem quiescent_Reference13Ideal : quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

/-- The reference of the short convolution runs to its end and leaves its arguments as launched. -/
theorem quiescent_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The reference of the short convolution with the activation runs to its end and leaves its arguments as launched. -/
theorem quiescent_Reference15Ideal : quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The reference of the modulation rows runs to its end and leaves its arguments as launched. -/
theorem quiescent_Reference16Ideal : quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The reference of the pooling windows runs to its end and leaves its arguments as launched. -/
theorem quiescent_Reference17Ideal : quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- Over the reals the kernel of the PEER mixing computes its reference. -/
theorem algebraic_KernelIdeal_ReferenceIdeal : algebraic_KernelIdeal_ReferenceIdeal := by
  intro m ρ m' ρ' _ hagree
  refine ⟨_, Cert.KernelIdeal.PeerMix.run m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.KernelIdeal.PeerMix.final m c).symm

/-- Over the reals the kernel of the hyena mixer's input projection computes its reference. -/
theorem algebraic_Kernel2Ideal_Reference2Ideal : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1]
  simp only [hagree c]
  exact (Cert.Kernel2Ideal.HyIn.final m c).symm

/-- Over the reals the kernel of the delta-rule mixer's input projection computes its reference. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1]
  simp only [hagree c]
  exact (Cert.Kernel3Ideal.GdnIn.final m c).symm

/-- Over the reals the kernel of the bf16 output projection with the gated residual computes its reference. -/
theorem algebraic_Kernel4Ideal_Reference4Ideal : algebraic_Kernel4Ideal_Reference4Ideal := by
  intro m ρ m' ρ' _ hagree
  refine ⟨_, Cert.Kernel4Ideal.PoolOut.run m ρ, ?_⟩
  refine (θ_run Cert.Reference4Ideal.defs _ _).mono (fun _ h c => ⟨?_, (h c).2⟩) (Cert.Reference4Ideal.Value.run (F := Ideal) m' ρ')
  rw [(h c).1]
  refine Eq.trans ?_ (Cert.Kernel4Ideal.PoolOut.final m c).symm
  show Cert.Kernel4Ideal.PoolOut.ref (m' ((c.tc : Thread _ _).loc Cert.Reference4Ideal.main_arg0)) (m' ((c.tc : Thread _ _).loc Cert.Reference4Ideal.main_arg1)) (m' ((c.tc : Thread _ _).loc Cert.Reference4Ideal.main_arg2)) (m' ((c.tc : Thread _ _).loc Cert.Reference4Ideal.main_arg3)) = _
  simp only [hagree c]

/-- Over the reals the kernel of the hyena mixer's output projection with the gated residual computes its reference. -/
theorem algebraic_Kernel5Ideal_Reference5Ideal : algebraic_Kernel5Ideal_Reference5Ideal := by
  intro m ρ m' ρ' _ hagree
  refine ⟨_, Cert.Kernel5Ideal.HyOut.run m ρ, ?_⟩
  refine (θ_run Cert.Reference5Ideal.defs _ _).mono (fun _ h c => ⟨?_, (h c).2⟩) (Cert.Reference5Ideal.Value.run (F := Ideal) m' ρ')
  rw [(h c).1]
  refine Eq.trans ?_ (Cert.Kernel5Ideal.HyOut.final m c).symm
  show Cert.Kernel5Ideal.HyOut.ref (m' ((c.tc : Thread _ _).loc Cert.Reference5Ideal.main_arg0)) (m' ((c.tc : Thread _ _).loc Cert.Reference5Ideal.main_arg1)) (m' ((c.tc : Thread _ _).loc Cert.Reference5Ideal.main_arg2)) (m' ((c.tc : Thread _ _).loc Cert.Reference5Ideal.main_arg3)) = _
  simp only [hagree c]

/-- Over the reals the kernel of the PEER queries computes its reference. -/
theorem algebraic_Kernel6Ideal_Reference6Ideal : algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  rw [(h c).1]
  simp only [hagree c]
  exact (Cert.Kernel6Ideal.PeerQ.final m c).symm

/-- Over the reals the kernel of the pooling mixer's input projection computes its reference. -/
theorem algebraic_Kernel7Ideal_Reference7Ideal : algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1]
  simp only [hagree c]
  exact (Cert.Kernel7Ideal.PoolIn.final m c).symm

/-- Over the reals the kernel of the pooling mixer's grouped product computes its reference. -/
theorem algebraic_Kernel8Ideal_Reference8Ideal : algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨?_, (h c).2⟩) (Cert.Reference8Ideal.Value.run (F := Ideal) m' ρ')
  rw [(h c).1]
  simp only [hagree c]
  exact (Cert.Kernel8Ideal.PoolGrp.final m c).symm

/-- Over the reals the kernel of the final norm computes its reference. -/
theorem algebraic_Kernel9Ideal_Reference9Ideal : algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  rw [(h c).1]
  rw [Cert.Kernel9Ideal.FinalNorm.ref_term]
  simp only [hagree c]
  exact (Cert.Kernel9Ideal.FinalNorm.final m c).symm

/-- Over the reals the kernel of the delta-rule mixer's gate columns computes its reference. -/
theorem algebraic_Kernel10Ideal_Reference10Ideal : algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨?_, (h c).2⟩) (Cert.Reference10Ideal.Value.run (F := Ideal) m' ρ')
  rw [(h c).1]
  simp only [hagree c]
  exact (Cert.Kernel10Ideal.GdnGates.final m c).symm

/-- Over the reals the kernel of the delta-rule mixer's output norm and gate computes its reference. -/
theorem algebraic_Kernel11Ideal_Reference11Ideal : algebraic_Kernel11Ideal_Reference11Ideal := by
  intro m ρ m' ρ' _ hagree
  refine ⟨_, Cert.Kernel11Ideal.Value.run_blocks (F := Ideal) m ρ, ?_⟩
  refine (θ_run Cert.Reference11Ideal.defs _ _).mono (fun _ h c => ⟨?_, (h c).2⟩) (Cert.Reference11Ideal.Value.run (F := Ideal) m' ρ')
  rw [(h c).1]
  refine Eq.trans ?_ (Cert.Kernel11Ideal.GdnOut.final m c).symm
  show Cert.Kernel11Ideal.GdnOut.ref (m' ((c.tc : Thread _ _).loc Cert.Reference11Ideal.main_arg0)) (m' ((c.tc : Thread _ _).loc Cert.Reference11Ideal.main_arg1)) (m' ((c.tc : Thread _ _).loc Cert.Reference11Ideal.main_arg2)) (m' ((c.tc : Thread _ _).loc Cert.Reference11Ideal.main_arg3)) = _
  simp only [hagree c]

/-- Over the reals the kernel of the modulated norm computes its reference. -/
theorem algebraic_Kernel12Ideal_Reference12Ideal : algebraic_Kernel12Ideal_Reference12Ideal := by
  intro m ρ m' ρ' _ hagree
  refine ⟨_, Cert.Kernel12Ideal.Value.run_blocks (F := Ideal) m ρ, ?_⟩
  refine (θ_run Cert.Reference12Ideal.defs _ _).mono (fun _ h c => ⟨?_, (h c).2⟩) (Cert.Reference12Ideal.Value.run (F := Ideal) m' ρ')
  rw [(h c).1]
  refine Eq.trans ?_ (Cert.Kernel12Ideal.FirstNorm.final m c).symm
  show Cert.Kernel12Ideal.FirstNorm.ref (m' ((c.tc : Thread _ _).loc Cert.Reference12Ideal.main_arg0)) (m' ((c.tc : Thread _ _).loc Cert.Reference12Ideal.main_arg1)) (m' ((c.tc : Thread _ _).loc Cert.Reference12Ideal.main_arg2)) (m' ((c.tc : Thread _ _).loc Cert.Reference12Ideal.main_arg3)) = _
  simp only [hagree c]

/-- Over the reals the kernel of the residual with the modulated norm computes both results of its reference. -/
theorem algebraic_Kernel13Ideal_Reference13Ideal : algebraic_Kernel13Ideal_Reference13Ideal := by
  intro m ρ m' ρ' _ hagree
  refine ⟨_, _, Cert.Kernel13Ideal.Value.run_blocks (F := Ideal) m ρ, ?_⟩
  refine (θ_run Cert.Reference13Ideal.defs _ _).mono (fun _ h c => ⟨?_, ?_, (h c).2.2⟩) (Cert.Reference13Ideal.Value.run (F := Ideal) m' ρ')
  · rw [(h c).1]
    refine Eq.trans ?_ (Cert.Kernel13Ideal.LayerNorm.finalSum m c).symm
    show Cert.Kernel13Ideal.LayerNorm.refSum (m' ((c.tc : Thread _ _).loc Cert.Reference13Ideal.main_arg0)) (m' ((c.tc : Thread _ _).loc Cert.Reference13Ideal.main_arg4)) (m' ((c.tc : Thread _ _).loc Cert.Reference13Ideal.main_arg5)) = _
    simp only [hagree c]
  · rw [(h c).2.1]
    refine ((Cert.Kernel13Ideal.LayerNorm.ref_term m' c).trans ?_).trans (Cert.Kernel13Ideal.LayerNorm.finalNorm m c).symm
    simp only [hagree c]

/-- Over the reals the kernel of the short convolution computes its reference. -/
theorem algebraic_Kernel14Ideal_Reference14Ideal : algebraic_Kernel14Ideal_Reference14Ideal := by
  intro m ρ m' ρ' _ hagree
  refine ⟨_, Cert.Kernel14Ideal.Value.run_blocks (F := Ideal) m ρ, ?_⟩
  refine (θ_run Cert.Reference14Ideal.defs _ _).mono (fun _ h c => ⟨?_, (h c).2⟩) (Cert.Reference14Ideal.Value.run (F := Ideal) m' ρ')
  rw [(h c).1]
  refine Eq.trans ?_ (Cert.Kernel14Ideal.Conv3.final m c).symm
  show Cert.Kernel14Ideal.Conv3.ref (m' ((c.tc : Thread _ _).loc Cert.Reference14Ideal.main_arg0)) (m' ((c.tc : Thread _ _).loc Cert.Reference14Ideal.main_arg1)) = _
  simp only [hagree c]

/-- Over the reals the kernel of the short convolution with the activation computes its reference. -/
theorem algebraic_Kernel15Ideal_Reference15Ideal : algebraic_Kernel15Ideal_Reference15Ideal := by
  intro m ρ m' ρ' _ hagree
  refine ⟨_, Cert.Kernel15Ideal.Value.run_blocks (F := Ideal) m ρ, ?_⟩
  refine (θ_run Cert.Reference15Ideal.defs _ _).mono (fun _ h c => ⟨?_, (h c).2⟩) (Cert.Reference15Ideal.Value.run (F := Ideal) m' ρ')
  rw [(h c).1]
  refine Eq.trans ?_ (Cert.Kernel15Ideal.ConvSilu.final m c).symm
  show Cert.Kernel15Ideal.ConvSilu.ref (m' ((c.tc : Thread _ _).loc Cert.Reference15Ideal.main_arg0)) (m' ((c.tc : Thread _ _).loc Cert.Reference15Ideal.main_arg1)) = _
  simp only [hagree c]

/-- Over the reals the kernel of the modulation rows computes its reference. -/
theorem algebraic_Kernel16Ideal_Reference16Ideal : algebraic_Kernel16Ideal_Reference16Ideal := by
  intro m ρ m' ρ' _ hagree
  refine ⟨_, Cert.Kernel16Ideal.Value.run_blocks (F := Ideal) m ρ, ?_⟩
  refine (θ_run Cert.Reference16Ideal.defs _ _).mono (fun _ h c => ⟨?_, (h c).2⟩) (Cert.Reference16Ideal.Value.run (F := Ideal) m' ρ')
  rw [(h c).1]
  refine Eq.trans ?_ (Cert.Kernel16Ideal.ModRows.final m c).symm
  show Cert.Kernel16Ideal.ModRows.ref (m' ((c.tc : Thread _ _).loc Cert.Reference16Ideal.main_arg0)) (m' ((c.tc : Thread _ _).loc Cert.Reference16Ideal.main_arg1)) (m' ((c.tc : Thread _ _).loc Cert.Reference16Ideal.main_arg2)) = _
  simp only [hagree c]

/-- Over the reals the kernel of the pooling windows computes its reference. -/
theorem algebraic_Kernel17Ideal_Reference17Ideal : algebraic_Kernel17Ideal_Reference17Ideal := by
  intro m ρ m' ρ' _ hagree
  refine ⟨_, Cert.Kernel17Ideal.Value.run_blocks (F := Ideal) m ρ, ?_⟩
  refine (θ_run Cert.Reference17Ideal.defs _ _).mono (fun _ h c => ⟨?_, (h c).2⟩) (Cert.Reference17Ideal.Value.run (F := Ideal) m' ρ')
  rw [(h c).1]
  refine Eq.trans ?_ (Cert.Kernel17Ideal.PoolWin.final m c).symm
  show Cert.Kernel17Ideal.PoolWin.ref (m' ((c.tc : Thread _ _).loc Cert.Reference17Ideal.main_arg0)) = _
  simp only [hagree c]

/-- All claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel12.Gen.frame m ρ, fun m ρ _ => Cert.Kernel12Ideal.Gen.frame m ρ, quiescent_Reference12Ideal,
  fun m ρ _ => Cert.Kernel13.Gen.frame m ρ, fun m ρ _ => Cert.Kernel13Ideal.Gen.frame m ρ, quiescent_Reference13Ideal,
  fun m ρ _ => Cert.Kernel14.Gen.frame m ρ, fun m ρ _ => Cert.Kernel14Ideal.Gen.frame m ρ, quiescent_Reference14Ideal,
  fun m ρ _ => Cert.Kernel15.Gen.frame m ρ, fun m ρ _ => Cert.Kernel15Ideal.Gen.frame m ρ, quiescent_Reference15Ideal,
  fun m ρ _ => Cert.Kernel16.Gen.frame m ρ, fun m ρ _ => Cert.Kernel16Ideal.Gen.frame m ρ, quiescent_Reference16Ideal,
  fun m ρ _ => Cert.Kernel17.Gen.frame m ρ, fun m ρ _ => Cert.Kernel17Ideal.Gen.frame m ρ, quiescent_Reference17Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel11_Kernel11Ideal), algebraic_Kernel11Ideal_Reference11Ideal,
  (trivial : preserves_Kernel12_Kernel12Ideal), algebraic_Kernel12Ideal_Reference12Ideal,
  (trivial : preserves_Kernel13_Kernel13Ideal), algebraic_Kernel13Ideal_Reference13Ideal,
  (trivial : preserves_Kernel14_Kernel14Ideal), algebraic_Kernel14Ideal_Reference14Ideal,
  (trivial : preserves_Kernel15_Kernel15Ideal), algebraic_Kernel15Ideal_Reference15Ideal,
  (trivial : preserves_Kernel16_Kernel16Ideal), algebraic_Kernel16Ideal_Reference16Ideal,
  (trivial : preserves_Kernel17_Kernel17Ideal), algebraic_Kernel17Ideal_Reference17Ideal⟩

end Cert.Proof

end
